-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_one_norm [hPre_finite_one_norm : Cert.Pre_finite_one_norm.Facts] (m : (ℓ : Loc Cert.KernelIdeal.nD Cert.KernelIdeal.τ Cert.KernelIdeal.sig) → Buf (Elt Ideal) ℓ) : Prop :=
  ∀ c : Dev Cert.KernelIdeal.nD,
    (Cert.Pre_finite_one_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_one_norm [hPre_finite_one_norm : Cert.Pre_finite_one_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_one_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_WithoutNormsIdeal (m : (ℓ : Loc Cert.WithoutNormsIdeal.nD Cert.WithoutNormsIdeal.τ Cert.WithoutNormsIdeal.sig) → Buf (Elt Ideal) ℓ) : Prop :=
  True

def Pre_WithoutNormsIdeal_finite [hPre_finite : Cert.Pre_finite.Facts] (m : (ℓ : Loc Cert.WithoutNormsIdeal.nD Cert.WithoutNormsIdeal.τ Cert.WithoutNormsIdeal.sig) → Buf (Elt Ideal) ℓ) : Prop :=
  ∀ c : Dev Cert.WithoutNormsIdeal.nD,
    (Cert.Pre_finite.fn (F := Ideal) (m ((c.tc : Thread Cert.WithoutNormsIdeal.nD Cert.WithoutNormsIdeal.τ).loc Cert.WithoutNormsIdeal.main_arg0)) (m ((c.tc : Thread Cert.WithoutNormsIdeal.nD Cert.WithoutNormsIdeal.τ).loc Cert.WithoutNormsIdeal.main_arg1))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_Lookup [hPre_codes_in_range : Cert.Pre_codes_in_range.Facts] (m : (ℓ : Loc Cert.Lookup.nD Cert.Lookup.τ Cert.Lookup.sig) → Buf (Elt Bits) ℓ) : Prop :=
  ∀ c : Dev Cert.Lookup.nD,
    (Cert.Pre_codes_in_range.fn (F := Bits) (m ((c.tc : Thread Cert.Lookup.nD Cert.Lookup.τ).loc Cert.Lookup.main_arg0)) (m ((c.tc : Thread Cert.Lookup.nD Cert.Lookup.τ).loc Cert.Lookup.main_arg1))) = (fun _ => 1#1)

def Pre_LookupIdeal [hPre_codes_in_range : Cert.Pre_codes_in_range.Facts] (m : (ℓ : Loc Cert.LookupIdeal.nD Cert.LookupIdeal.τ Cert.LookupIdeal.sig) → Buf (Elt Ideal) ℓ) : Prop :=
  ∀ c : Dev Cert.LookupIdeal.nD,
    (Cert.Pre_codes_in_range.fn (F := Ideal) (m ((c.tc : Thread Cert.LookupIdeal.nD Cert.LookupIdeal.τ).loc Cert.LookupIdeal.main_arg0)) (m ((c.tc : Thread Cert.LookupIdeal.nD Cert.LookupIdeal.τ).loc Cert.LookupIdeal.main_arg1))) = (fun _ => 1#1)

def Pre_LookupRefIdeal (m : (ℓ : Loc Cert.LookupRefIdeal.nD Cert.LookupRefIdeal.τ Cert.LookupRefIdeal.sig) → Buf (Elt Ideal) ℓ) : Prop :=
  True

def Pre_LookupRefIdeal_codes_in_range [hPre_codes_in_range : Cert.Pre_codes_in_range.Facts] (m : (ℓ : Loc Cert.LookupRefIdeal.nD Cert.LookupRefIdeal.τ Cert.LookupRefIdeal.sig) → Buf (Elt Ideal) ℓ) : Prop :=
  ∀ c : Dev Cert.LookupRefIdeal.nD,
    (Cert.Pre_codes_in_range.fn (F := Ideal) (m ((c.tc : Thread Cert.LookupRefIdeal.nD Cert.LookupRefIdeal.τ).loc Cert.LookupRefIdeal.main_arg0)) (m ((c.tc : Thread Cert.LookupRefIdeal.nD Cert.LookupRefIdeal.τ).loc Cert.LookupRefIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_one_norm [hKernelIdeal : Cert.KernelIdeal.Facts] [hPre_finite_one_norm : Cert.Pre_finite_one_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_one_norm m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_one_norm [hReferenceIdeal : Cert.ReferenceIdeal.Facts] [hPre_finite_one_norm : Cert.Pre_finite_one_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_one_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_WithoutNormsIdeal [hWithoutNormsIdeal : Cert.WithoutNormsIdeal.Facts] : Prop :=
  ∀ (m : (ℓ : Loc Cert.WithoutNormsIdeal.nD Cert.WithoutNormsIdeal.τ Cert.WithoutNormsIdeal.sig) → Buf (Elt Ideal) ℓ) (g : Dev Cert.WithoutNormsIdeal.nD → PrngReg), Pre_WithoutNormsIdeal m →
    θ_run (Cert.WithoutNormsIdeal.defs (F := Ideal)) (onTc (τ := Cert.WithoutNormsIdeal.τ) (Cert.WithoutNormsIdeal.main (F := Ideal))) ⟨m, fun _ => 0, g⟩ (fun r => (∀ c : Dev Cert.WithoutNormsIdeal.nD,
      r.2.mem ((c.tc : Thread Cert.WithoutNormsIdeal.nD Cert.WithoutNormsIdeal.τ).loc Cert.WithoutNormsIdeal.main_arg0) = m ((c.tc : Thread Cert.WithoutNormsIdeal.nD Cert.WithoutNormsIdeal.τ).loc Cert.WithoutNormsIdeal.main_arg0)
      ∧ r.2.mem ((c.tc : Thread Cert.WithoutNormsIdeal.nD Cert.WithoutNormsIdeal.τ).loc Cert.WithoutNormsIdeal.main_arg1) = m ((c.tc : Thread Cert.WithoutNormsIdeal.nD Cert.WithoutNormsIdeal.τ).loc Cert.WithoutNormsIdeal.main_arg1))
      ∧ r.2.sem = fun _ => 0)

def quiescent_WithoutNormsIdeal_pre_finite [hWithoutNormsIdeal : Cert.WithoutNormsIdeal.Facts] [hPre_finite : Cert.Pre_finite.Facts] : Prop :=
  ∀ (m : (ℓ : Loc Cert.WithoutNormsIdeal.nD Cert.WithoutNormsIdeal.τ Cert.WithoutNormsIdeal.sig) → Buf (Elt Ideal) ℓ) (g : Dev Cert.WithoutNormsIdeal.nD → PrngReg), Pre_WithoutNormsIdeal_finite m →
    θ_run (Cert.WithoutNormsIdeal.defs (F := Ideal)) (onTc (τ := Cert.WithoutNormsIdeal.τ) (Cert.WithoutNormsIdeal.main (F := Ideal))) ⟨m, fun _ => 0, g⟩ (fun r => (∀ c : Dev Cert.WithoutNormsIdeal.nD,
      r.2.mem ((c.tc : Thread Cert.WithoutNormsIdeal.nD Cert.WithoutNormsIdeal.τ).loc Cert.WithoutNormsIdeal.main_arg0) = m ((c.tc : Thread Cert.WithoutNormsIdeal.nD Cert.WithoutNormsIdeal.τ).loc Cert.WithoutNormsIdeal.main_arg0)
      ∧ r.2.mem ((c.tc : Thread Cert.WithoutNormsIdeal.nD Cert.WithoutNormsIdeal.τ).loc Cert.WithoutNormsIdeal.main_arg1) = m ((c.tc : Thread Cert.WithoutNormsIdeal.nD Cert.WithoutNormsIdeal.τ).loc Cert.WithoutNormsIdeal.main_arg1))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1))
      ∧ r.2.sem = fun _ => 0)

def quiescent_Lookup [hLookup : Cert.Lookup.Facts] [hPre_codes_in_range : Cert.Pre_codes_in_range.Facts] : Prop :=
  ∀ (m : (ℓ : Loc Cert.Lookup.nD Cert.Lookup.τ Cert.Lookup.sig) → Buf (Elt Bits) ℓ) (g : Dev Cert.Lookup.nD → PrngReg), Pre_Lookup m →
    θ_run (Cert.Lookup.defs (F := Bits)) (Cert.Lookup.threads (F := Bits)) ⟨m, fun _ => 0, g⟩ (fun r => (∀ c : Dev Cert.Lookup.nD,
      r.2.mem ((c.tc : Thread Cert.Lookup.nD Cert.Lookup.τ).loc Cert.Lookup.main_arg0) = m ((c.tc : Thread Cert.Lookup.nD Cert.Lookup.τ).loc Cert.Lookup.main_arg0)
      ∧ r.2.mem ((c.tc : Thread Cert.Lookup.nD Cert.Lookup.τ).loc Cert.Lookup.main_arg1) = m ((c.tc : Thread Cert.Lookup.nD Cert.Lookup.τ).loc Cert.Lookup.main_arg1))
      ∧ r.2.sem = fun _ => 0)

def quiescent_LookupIdeal [hLookupIdeal : Cert.LookupIdeal.Facts] [hPre_codes_in_range : Cert.Pre_codes_in_range.Facts] : Prop :=
  ∀ (m : (ℓ : Loc Cert.LookupIdeal.nD Cert.LookupIdeal.τ Cert.LookupIdeal.sig) → Buf (Elt Ideal) ℓ) (g : Dev Cert.LookupIdeal.nD → PrngReg), Pre_LookupIdeal m →
    θ_run (Cert.LookupIdeal.defs (F := Ideal)) (Cert.LookupIdeal.threads (F := Ideal)) ⟨m, fun _ => 0, g⟩ (fun r => (∀ c : Dev Cert.LookupIdeal.nD,
      r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
      ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1))
      ∧ r.2.sem = fun _ => 0)

def quiescent_LookupRefIdeal [hLookupRefIdeal : Cert.LookupRefIdeal.Facts] : Prop :=
  ∀ (m : (ℓ : Loc Cert.LookupRefIdeal.nD Cert.LookupRefIdeal.τ Cert.LookupRefIdeal.sig) → Buf (Elt Ideal) ℓ) (g : Dev Cert.LookupRefIdeal.nD → PrngReg), Pre_LookupRefIdeal m →
    θ_run (Cert.LookupRefIdeal.defs (F := Ideal)) (onTc (τ := Cert.LookupRefIdeal.τ) (Cert.LookupRefIdeal.main (F := Ideal))) ⟨m, fun _ => 0, g⟩ (fun r => (∀ c : Dev Cert.LookupRefIdeal.nD,
      r.2.mem ((c.tc : Thread Cert.LookupRefIdeal.nD Cert.LookupRefIdeal.τ).loc Cert.LookupRefIdeal.main_arg0) = m ((c.tc : Thread Cert.LookupRefIdeal.nD Cert.LookupRefIdeal.τ).loc Cert.LookupRefIdeal.main_arg0)
      ∧ r.2.mem ((c.tc : Thread Cert.LookupRefIdeal.nD Cert.LookupRefIdeal.τ).loc Cert.LookupRefIdeal.main_arg1) = m ((c.tc : Thread Cert.LookupRefIdeal.nD Cert.LookupRefIdeal.τ).loc Cert.LookupRefIdeal.main_arg1))
      ∧ r.2.sem = fun _ => 0)

def quiescent_LookupRefIdeal_pre_codes_in_range [hLookupRefIdeal : Cert.LookupRefIdeal.Facts] [hPre_codes_in_range : Cert.Pre_codes_in_range.Facts] : Prop :=
  ∀ (m : (ℓ : Loc Cert.LookupRefIdeal.nD Cert.LookupRefIdeal.τ Cert.LookupRefIdeal.sig) → Buf (Elt Ideal) ℓ) (g : Dev Cert.LookupRefIdeal.nD → PrngReg), Pre_LookupRefIdeal_codes_in_range m →
    θ_run (Cert.LookupRefIdeal.defs (F := Ideal)) (onTc (τ := Cert.LookupRefIdeal.τ) (Cert.LookupRefIdeal.main (F := Ideal))) ⟨m, fun _ => 0, g⟩ (fun r => (∀ c : Dev Cert.LookupRefIdeal.nD,
      r.2.mem ((c.tc : Thread Cert.LookupRefIdeal.nD Cert.LookupRefIdeal.τ).loc Cert.LookupRefIdeal.main_arg0) = m ((c.tc : Thread Cert.LookupRefIdeal.nD Cert.LookupRefIdeal.τ).loc Cert.LookupRefIdeal.main_arg0)
      ∧ r.2.mem ((c.tc : Thread Cert.LookupRefIdeal.nD Cert.LookupRefIdeal.τ).loc Cert.LookupRefIdeal.main_arg1) = m ((c.tc : Thread Cert.LookupRefIdeal.nD Cert.LookupRefIdeal.τ).loc Cert.LookupRefIdeal.main_arg1))
      ∧ r.2.sem = fun _ => 0)

def algebraic_KernelIdeal_WithoutNormsIdeal_pre_finite [hKernelIdeal : Cert.KernelIdeal.Facts] [hWithoutNormsIdeal : Cert.WithoutNormsIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.WithoutNormsIdeal.nD Cert.WithoutNormsIdeal.τ Cert.WithoutNormsIdeal.sig) → Buf (Elt Ideal) ℓ) (g' : Dev Cert.WithoutNormsIdeal.nD → PrngReg), Pre_KernelIdeal_finite m →
    (∀ c : Dev Cert.KernelIdeal.nD,
      m' ((c.tc : Thread Cert.WithoutNormsIdeal.nD Cert.WithoutNormsIdeal.τ).loc Cert.WithoutNormsIdeal.main_arg0) = m ((c.tc : Thread Cert.KernelIdeal.nD Cert.KernelIdeal.τ).loc Cert.KernelIdeal.main_arg0)
      ∧ m' ((c.tc : Thread Cert.WithoutNormsIdeal.nD Cert.WithoutNormsIdeal.τ).loc Cert.WithoutNormsIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.WithoutNormsIdeal.defs (F := Ideal)) (onTc (τ := Cert.WithoutNormsIdeal.τ) (Cert.WithoutNormsIdeal.main (F := Ideal))) ⟨m', fun _ => 0, g'⟩ (fun r => ∀ c : Dev Cert.WithoutNormsIdeal.nD,
          r.2.mem ((c.tc : Thread Cert.WithoutNormsIdeal.nD Cert.WithoutNormsIdeal.τ).loc Cert.WithoutNormsIdeal.main_v44) = v0 c
          ∧ r.2.mem ((c.tc : Thread Cert.WithoutNormsIdeal.nD Cert.WithoutNormsIdeal.τ).loc Cert.WithoutNormsIdeal.main_v40) = v1 c
          ∧ r.2.mem ((c.tc : Thread Cert.WithoutNormsIdeal.nD Cert.WithoutNormsIdeal.τ).loc Cert.WithoutNormsIdeal.main_v25) = v2 c
          ∧ r.2.mem ((c.tc : Thread Cert.WithoutNormsIdeal.nD Cert.WithoutNormsIdeal.τ).loc Cert.WithoutNormsIdeal.main_arg0) = m' ((c.tc : Thread Cert.WithoutNormsIdeal.nD Cert.WithoutNormsIdeal.τ).loc Cert.WithoutNormsIdeal.main_arg0)
          ∧ r.2.mem ((c.tc : Thread Cert.WithoutNormsIdeal.nD Cert.WithoutNormsIdeal.τ).loc Cert.WithoutNormsIdeal.main_arg1) = m' ((c.tc : Thread Cert.WithoutNormsIdeal.nD Cert.WithoutNormsIdeal.τ).loc Cert.WithoutNormsIdeal.main_arg1))

def algebraic_KernelIdeal_ReferenceIdeal_on_all_but_the_loss_pre_finite_one_norm [hKernelIdeal : Cert.KernelIdeal.Facts] [hReferenceIdeal : Cert.ReferenceIdeal.Facts] [hPre_finite_one_norm : Cert.Pre_finite_one_norm.Facts] [hOn_all_but_the_loss : Cert.On_all_but_the_loss.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_one_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (Cert.KernelIdeal.threads (F := Ideal)) ⟨m, fun _ => 0, g⟩ (fun r => ∀ c : Dev Cert.KernelIdeal.nD,
          (∀ i : (⟨4, ![4, 64, 32, 32]⟩ : Shape).Idx, (Cert.On_all_but_the_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v16) i = v0 c i)
          ∧ (∀ i : (⟨0, ![]⟩ : Shape).Idx, (Cert.On_all_but_the_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v14) i = v1 c i)
          ∧ (∀ i : (⟨2, ![4096, 8192]⟩ : Shape).Idx, (Cert.On_all_but_the_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v2_0) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 64, 32, 32]⟩ : Shape).Idx, (Cert.On_all_but_the_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v45) i = v0 c i)
          ∧ (∀ i : (⟨0, ![]⟩ : Shape).Idx, (Cert.On_all_but_the_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v41) i = v1 c i)
          ∧ (∀ i : (⟨2, ![4096, 8192]⟩ : Shape).Idx, (Cert.On_all_but_the_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v30) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Quantise_QuantiseIdeal : Prop :=
  IdealRules.named_const.Statement Cert.QuantiseIdeal.κ "two_log2e" .f32 0x4038AA3B#32 ((2 * (Real.log 2)⁻¹ : ℝ) : EReal)

def preserves_Lookup_LookupIdeal : Prop :=
  True

def algebraic_LookupIdeal_LookupRefIdeal [hLookupIdeal : Cert.LookupIdeal.Facts] [hLookupRefIdeal : Cert.LookupRefIdeal.Facts] [hPre_codes_in_range : Cert.Pre_codes_in_range.Facts] : Prop :=
  ∀ (m : (ℓ : Loc Cert.LookupIdeal.nD Cert.LookupIdeal.τ Cert.LookupIdeal.sig) → Buf (Elt Ideal) ℓ) (g : Dev Cert.LookupIdeal.nD → PrngReg)
    (m' : (ℓ : Loc Cert.LookupRefIdeal.nD Cert.LookupRefIdeal.τ Cert.LookupRefIdeal.sig) → Buf (Elt Ideal) ℓ) (g' : Dev Cert.LookupRefIdeal.nD → PrngReg), Pre_LookupIdeal m →
    (∀ c : Dev Cert.LookupIdeal.nD,
      m' ((c.tc : Thread Cert.LookupRefIdeal.nD Cert.LookupRefIdeal.τ).loc Cert.LookupRefIdeal.main_arg0) = m ((c.tc : Thread Cert.LookupIdeal.nD Cert.LookupIdeal.τ).loc Cert.LookupIdeal.main_arg0)
      ∧ m' ((c.tc : Thread Cert.LookupRefIdeal.nD Cert.LookupRefIdeal.τ).loc Cert.LookupRefIdeal.main_arg1) = m ((c.tc : Thread Cert.LookupIdeal.nD Cert.LookupIdeal.τ).loc Cert.LookupIdeal.main_arg1)) →
    ∃ (v0 : (c : Dev Cert.LookupIdeal.nD) → Buf (Elt Ideal) ((c.tc : Thread Cert.LookupIdeal.nD Cert.LookupIdeal.τ).loc Cert.LookupIdeal.main_v12)),
      θ_run (Cert.LookupIdeal.defs (F := Ideal)) (Cert.LookupIdeal.threads (F := Ideal)) ⟨m, fun _ => 0, g⟩ (fun r => ∀ c : Dev Cert.LookupIdeal.nD,
          r.2.mem ((c.tc : Thread Cert.LookupIdeal.nD Cert.LookupIdeal.τ).loc Cert.LookupIdeal.main_v12) = v0 c
          ∧ r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
          ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1))
      ∧ θ_run (Cert.LookupRefIdeal.defs (F := Ideal)) (onTc (τ := Cert.LookupRefIdeal.τ) (Cert.LookupRefIdeal.main (F := Ideal))) ⟨m', fun _ => 0, g'⟩ (fun r => ∀ c : Dev Cert.LookupRefIdeal.nD,
          r.2.mem ((c.tc : Thread Cert.LookupRefIdeal.nD Cert.LookupRefIdeal.τ).loc Cert.LookupRefIdeal.main_v3) = v0 c
          ∧ r.2.mem ((c.tc : Thread Cert.LookupRefIdeal.nD Cert.LookupRefIdeal.τ).loc Cert.LookupRefIdeal.main_arg0) = m' ((c.tc : Thread Cert.LookupRefIdeal.nD Cert.LookupRefIdeal.τ).loc Cert.LookupRefIdeal.main_arg0)
          ∧ r.2.mem ((c.tc : Thread Cert.LookupRefIdeal.nD Cert.LookupRefIdeal.τ).loc Cert.LookupRefIdeal.main_arg1) = m' ((c.tc : Thread Cert.LookupRefIdeal.nD Cert.LookupRefIdeal.τ).loc Cert.LookupRefIdeal.main_arg1))

def Claim : Prop :=
  ∃ (hKernelIdeal : Cert.KernelIdeal.Facts) (hReferenceIdeal : Cert.ReferenceIdeal.Facts) (hWithoutNormsIdeal : Cert.WithoutNormsIdeal.Facts) (hQuantise : Cert.Quantise.Facts) (hQuantiseIdeal : Cert.QuantiseIdeal.Facts) (hLookup : Cert.Lookup.Facts) (hLookupIdeal : Cert.LookupIdeal.Facts) (hLookupRefIdeal : Cert.LookupRefIdeal.Facts) (hPre_finite : Cert.Pre_finite.Facts) (hPre_finite_one_norm : Cert.Pre_finite_one_norm.Facts) (hPre_codes_in_range : Cert.Pre_codes_in_range.Facts) (hOn_all_but_the_loss : Cert.On_all_but_the_loss.Facts),
    quiescent_KernelIdeal (hKernelIdeal := hKernelIdeal)
    ∧ quiescent_KernelIdeal_pre_finite (hKernelIdeal := hKernelIdeal) (hPre_finite := hPre_finite)
    ∧ quiescent_KernelIdeal_pre_finite_one_norm (hKernelIdeal := hKernelIdeal) (hPre_finite_one_norm := hPre_finite_one_norm)
    ∧ quiescent_ReferenceIdeal (hReferenceIdeal := hReferenceIdeal)
    ∧ quiescent_ReferenceIdeal_pre_finite_one_norm (hReferenceIdeal := hReferenceIdeal) (hPre_finite_one_norm := hPre_finite_one_norm)
    ∧ quiescent_WithoutNormsIdeal (hWithoutNormsIdeal := hWithoutNormsIdeal)
    ∧ quiescent_WithoutNormsIdeal_pre_finite (hWithoutNormsIdeal := hWithoutNormsIdeal) (hPre_finite := hPre_finite)
    ∧ quiescent_Quantise (hQuantise := hQuantise)
    ∧ quiescent_QuantiseIdeal (hQuantiseIdeal := hQuantiseIdeal)
    ∧ quiescent_Lookup (hLookup := hLookup) (hPre_codes_in_range := hPre_codes_in_range)
    ∧ quiescent_LookupIdeal (hLookupIdeal := hLookupIdeal) (hPre_codes_in_range := hPre_codes_in_range)
    ∧ quiescent_LookupRefIdeal (hLookupRefIdeal := hLookupRefIdeal)
    ∧ quiescent_LookupRefIdeal_pre_codes_in_range (hLookupRefIdeal := hLookupRefIdeal) (hPre_codes_in_range := hPre_codes_in_range)
    ∧ algebraic_KernelIdeal_WithoutNormsIdeal_pre_finite (hKernelIdeal := hKernelIdeal) (hWithoutNormsIdeal := hWithoutNormsIdeal) (hPre_finite := hPre_finite)
    ∧ algebraic_KernelIdeal_ReferenceIdeal_on_all_but_the_loss_pre_finite_one_norm (hKernelIdeal := hKernelIdeal) (hReferenceIdeal := hReferenceIdeal) (hPre_finite_one_norm := hPre_finite_one_norm) (hOn_all_but_the_loss := hOn_all_but_the_loss)
    ∧ preserves_Quantise_QuantiseIdeal
    ∧ preserves_Lookup_LookupIdeal
    ∧ algebraic_LookupIdeal_LookupRefIdeal (hLookupIdeal := hLookupIdeal) (hLookupRefIdeal := hLookupRefIdeal) (hPre_codes_in_range := hPre_codes_in_range)
-- ==== On_all_but_the_loss.lean ====
abbrev S4x64x32x32 : Shape := ⟨4, ![4, 64, 32, 32]⟩
abbrev S8192x64 : Shape := ⟨2, ![8192, 64]⟩
abbrev S_ : Shape := ⟨0, ![]⟩
abbrev S4096x8192 : Shape := ⟨2, ![4096, 8192]⟩

class Facts : Prop where
  bcast_S_S4x64x32x32 : S_.BroadcastsInDim S4x64x32x32 (![] : Fin 0 → Fin S4x64x32x32.rank)
  bcast_S_S4096x8192 : S_.BroadcastsInDim S4096x8192 (![] : Fin 0 → Fin S4096x8192.rank)

variable [Facts]

def fn {F : FTy → Type} [FloatOps F] (main_arg0 : FVec F S4x64x32x32 .f32) (main_arg1 : FVec F S8192x64 .f32) : IVec S4x64x32x32 1 × IVec S_ 1 × IVec S4096x8192 1 :=
  let main_c : IVec S_ 1 := constantI S_ 1 1#1
  let main_v0 : IVec S4x64x32x32 1 := broadcastInDim S4x64x32x32 ![] bcast_S_S4x64x32x32 main_c
  let main_c_0 : IVec S_ 1 := constantI S_ 1 1#1
  let main_v1 : IVec S4096x8192 1 := broadcastInDim S4096x8192 ![] bcast_S_S4096x8192 main_c_0
  let main_c_1 : IVec S_ 1 := constantI S_ 1 0#1
  (main_v0, main_c_1, main_v1)
-- ==== Pre_codes_in_range.lean ====
abbrev S4096x1 : Shape := ⟨2, ![4096, 1]⟩
abbrev S8192x64 : Shape := ⟨2, ![8192, 64]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel

variable [Facts]

def fn {F : FTy → Type} [FloatOps F] (main_arg0 : IVec S4096x1 32) (main_arg1 : FVec F S8192x64 .f32) : IVec S_ 1 :=
  let main_c : IVec S_ 32 := constantI S_ 32 0#32
  let main_v0 : IVec S4096x1 32 := broadcastInDim S4096x1 ![] bcast_S_S4096x1 main_c
  let main_v1 : IVec S4096x1 1 := cmpi .sge main_arg0 main_v0
  let main_c_0 : IVec S_ 32 := constantI S_ 32 8192#32
  let main_v2 : IVec S4096x1 32 := broadcastInDim S4096x1 ![] bcast_S_S4096x1 main_c_0
  let main_v3 : IVec S4096x1 1 := cmpi .slt main_arg0 main_v2
  let main_v4 : IVec S4096x1 1 := andi main_v1 main_v3
  let main_c_1 : IVec S_ 1 := constantI S_ 1 1#1
  let main_v5 : IVec S_ 1 := (fun x v => Host.reduce IntOp.andi x v reducesTo_S4096x1_S_d0_1 h_S_) main_v4 main_c_1
  main_v5
-- ==== Pre_finite.lean ====
abbrev S4x64x32x32 : Shape := ⟨4, ![4, 64, 32, 32]⟩
abbrev S8192x64 : Shape := ⟨2, ![8192, 64]⟩
abbrev S_ : Shape := ⟨0, ![]⟩

class Facts : Prop where
  bcast_S_S4x64x32x32 : S_.BroadcastsInDim S4x64x32x32 (![] : Fin 0 → Fin S4x64x32x32.rank)
  reducesTo_S4x64x32x32_S_d0_1_2_3 : S4x64x32x32.ReducesTo [0, 1, 2, 3] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S4x64x32x32 .f32) (main_arg1 : FVec F S8192x64 .f32) : IVec S_ 1 :=
  let main_v0 : FVec F S4x64x32x32 .f32 := Host.absf main_arg0
  let main_cst : FVec F S_ .f32 := constant S_ .f32 0x7F800000#32
  let main_v1 : FVec F S4x64x32x32 .f32 := broadcastInDim S4x64x32x32 ![] bcast_S_S4x64x32x32 main_cst
  let main_v2 : IVec S4x64x32x32 1 := cmpf .olt main_v0 main_v1
  let main_c : IVec S_ 1 := constantI S_ 1 1#1
  let main_v3 : IVec S_ 1 := (fun x v => Host.reduce IntOp.andi x v reducesTo_S4x64x32x32_S_d0_1_2_3 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Pre_finite_one_norm.lean ====
abbrev S4x64x32x32 : Shape := ⟨4, ![4, 64, 32, 32]⟩
abbrev S8192x64 : Shape := ⟨2, ![8192, 64]⟩
abbrev S_ : Shape := ⟨0, ![]⟩
abbrev S8192 : Shape := ⟨1, ![8192]⟩
abbrev S1 : Shape := ⟨1, ![1]⟩

class Facts : Prop where
  reducesTo_S8192x64_S8192_d1 : S8192x64.ReducesTo [1] S8192
  h_S_ : 0 < S_.numel
  bcast_S_S4x64x32x32 : S_.BroadcastsInDim S4x64x32x32 (![] : Fin 0 → Fin S4x64x32x32.rank)
  reducesTo_S4x64x32x32_S_d0_1_2_3 : S4x64x32x32.ReducesTo [0, 1, 2, 3] S_
  bcast_S_S8192x64 : S_.BroadcastsInDim S8192x64 (![] : Fin 0 → Fin S8192x64.rank)
  reducesTo_S8192x64_S_d0_1 : S8192x64.ReducesTo [0, 1] S_
  slices_S8192_S1_0 : S8192.Slices ![0] S1
  bcast_S1_S8192_0 : S1.BroadcastsInDim S8192 (![0] : Fin 1 → Fin S8192.rank)
  reducesTo_S8192_S_d0 : S8192.ReducesTo [0] S_

variable [Facts]

def fn {F : FTy → Type} [FloatOps F] (main_arg0 : FVec F S4x64x32x32 .f32) (main_arg1 : FVec F S8192x64 .f32) : IVec S_ 1 :=
  let main_v0 : FVec F S8192x64 .f32 := mulf main_arg1 main_arg1
  let main_cst : FVec F S_ .f32 := constant S_ .f32 0x00000000#32
  let main_v1 : FVec F S8192 .f32 := (fun x v => Host.reduceAdd x v reducesTo_S8192x64_S8192_d1 h_S_) main_v0 main_cst
  let main_v2 : FVec F S4x64x32x32 .f32 := Host.absf main_arg0
  let main_cst_0 : FVec F S_ .f32 := constant S_ .f32 0x7F800000#32
  let main_v3 : FVec F S4x64x32x32 .f32 := broadcastInDim S4x64x32x32 ![] bcast_S_S4x64x32x32 main_cst_0
  let main_v4 : IVec S4x64x32x32 1 := cmpf .olt main_v2 main_v3
  let main_c : IVec S_ 1 := constantI S_ 1 1#1
  let main_v5 : IVec S_ 1 := (fun x v => Host.reduce IntOp.andi x v reducesTo_S4x64x32x32_S_d0_1_2_3 h_S_) main_v4 main_c
  let main_v6 : FVec F S8192x64 .f32 := Host.absf main_arg1
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  let main_c_2 : IVec S_ 1 := constantI S_ 1 1#1
  let main_v9 : IVec S_ 1 := (fun x v => Host.reduce IntOp.andi x v reducesTo_S8192x64_S_d0_1 h_S_) main_v8 main_c_2
  let main_v10 : IVec S_ 1 := andi main_v5 main_v9
  let main_v11 : FVec F S1 .f32 := (extractStridedSlice S1 ![0] · slices_S8192_S1_0) main_v1
  let main_v12 : FVec F S8192 .f32 := broadcastInDim S8192 ![0] bcast_S1_S8192_0 main_v11
  let main_v13 : IVec S8192 1 := cmpf .oeq main_v1 main_v12
  let main_c_3 : IVec S_ 1 := constantI S_ 1 1#1
  let main_v14 : IVec S_ 1 := (fun x v => Host.reduce IntOp.andi x v reducesTo_S8192_S_d0 h_S_) main_v13 main_c_3
  let main_v15 : IVec S_ 1 := andi main_v10 main_v14
  main_v15
-- ==== KernelIdeal.lean ====
abbrev S4x64x32x32 : Shape := ⟨4, ![4, 64, 32, 32]⟩
abbrev S8192x64 : Shape := ⟨2, ![8192, 64]⟩
abbrev S4x32x32x64 : Shape := ⟨4, ![4, 32, 32, 64]⟩
abbrev S4096x64 : Shape := ⟨2, ![4096, 64]⟩
abbrev S4096x8192 : Shape := ⟨2, ![4096, 8192]⟩
abbrev S4096x1 : Shape := ⟨2, ![4096, 1]⟩
abbrev S1x1 : Shape := ⟨2, ![1, 1]⟩
abbrev S256x64 : Shape := ⟨2, ![256, 64]⟩
abbrev S256x8192 : Shape := ⟨2, ![256, 8192]⟩
abbrev S256x1 : Shape := ⟨2, ![256, 1]⟩
abbrev S256 : Shape := ⟨1, ![256]⟩
abbrev S1x8192 : Shape := ⟨2, ![1, 8192]⟩
abbrev S1x256x1 : Shape := ⟨3, ![1, 256, 1]⟩
abbrev S1 : Shape := ⟨1, ![1]⟩
abbrev S1x1x1 : Shape := ⟨3, ![1, 1, 1]⟩
abbrev S4096 : Shape := ⟨1, ![4096]⟩
abbrev S4096x128 : Shape := ⟨2, ![4096, 128]⟩
abbrev S_ : Shape := ⟨0, ![]⟩
abbrev S128 : Shape := ⟨1, ![128]⟩
abbrev S128x128 : Shape := ⟨2, ![128, 128]⟩

abbrev nBuf : Table → Nat
  | .hbm => 61
  | .local .tc .vmem => 8
  | .local .scVector .vmem => 2
  | _ => 0

abbrev bufTy : (tb : Table) → Fin (nBuf tb) → BufTy
  | .hbm, ⟨0, _⟩ => ⟨S4x64x32x32, .f32⟩
  | .hbm, ⟨1, _⟩ => ⟨S8192x64, .f32⟩
  | .hbm, ⟨2, _⟩ => ⟨S4x32x32x64, .f32⟩
  | .hbm, ⟨3, _⟩ => ⟨S4096x64, .f32⟩
  | .hbm, ⟨4, _⟩ => ⟨S4096x8192, .f32⟩
  | .hbm, ⟨5, _⟩ => ⟨S4096x1, .i32⟩
  | .hbm, ⟨6, _⟩ => ⟨S1x1, .f32⟩
  | .hbm, ⟨7, _⟩ => ⟨S4096, .i32⟩
  | .hbm, ⟨8, _⟩ => ⟨S4096x128, .f32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x128, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S_, .i1⟩
  | .hbm, ⟨44, _⟩ => ⟨S4096, .i1⟩
  | .hbm, ⟨45, _⟩ => ⟨S4096, .i1⟩
  | .hbm, ⟨46, _⟩ => ⟨S4096, .i1⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S4096x1, .i1⟩
  | .hbm, ⟨54, _⟩ => ⟨S4096x64, .f32⟩
  | .hbm, ⟨55, _⟩ => ⟨S4096x64, .f32⟩
  | .hbm, ⟨56, _⟩ => ⟨S4096x64, .i1⟩
  | .hbm, ⟨57, _⟩ => ⟨S4096x64, .f32⟩
  | .hbm, ⟨58, _⟩ => ⟨S_, .f32⟩
  | .hbm, ⟨59, _⟩ => ⟨S4x32x32x64, .f32⟩
  | .hbm, ⟨60, _⟩ => ⟨S4x64x32x32, .f32⟩
  | .local .tc .vmem, ⟨0, _⟩ => ⟨S256x64, .f32⟩
  | .local .tc .vmem, ⟨1, _⟩ => ⟨S256x64, .f32⟩
  | .local .tc .vmem, ⟨2, _⟩ => ⟨S8192x64, .f32⟩
  | .local .tc .vmem, ⟨3, _⟩ => ⟨S256x8192, .f32⟩
  | .local .tc .vmem, ⟨4, _⟩ => ⟨S256x8192, .f32⟩
  | .local .tc .vmem, ⟨5, _⟩ => ⟨S256x1, .i32⟩
  | .local .tc .vmem, ⟨6, _⟩ => ⟨S256x1, .i32⟩
  | .local .tc .vmem, ⟨7, _⟩ => ⟨S1x1, .f32⟩
  | .local .scVector .vmem, ⟨0, _⟩ => ⟨S128, .i32⟩
  | .local .scVector .vmem, ⟨1, _⟩ => ⟨S128x128, .f32⟩
  | _, _ => ⟨S4x64x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v7 : Ref sig .tc := ⟨.hbm, 49, rfl⟩
abbrev main_c_1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_call2_v0 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v4_scv : Ref sig .scVector := ⟨.hbm, 8, rfl⟩
abbrev main_v5_scv : Ref sig .scVector := ⟨.hbm, 26, rfl⟩
abbrev main_v6_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "two_log2e" => some ((2 * (Real.log 2)⁻¹ : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x64x32x32 : Shape := ⟨4, ![4, 64, 32, 32]⟩
abbrev S8192x64 : Shape := ⟨2, ![8192, 64]⟩
abbrev S4x32x32x64 : Shape := ⟨4, ![4, 32, 32, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S64x8192 : Shape := ⟨2, ![64, 8192]⟩
abbrev S1 : Shape := ⟨1, ![1]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S4x64x32x32, .f32⟩
  | .hbm, ⟨1, _⟩ => ⟨S8192x64, .f32⟩
  | .hbm, ⟨2, _⟩ => ⟨S4x32x32x64, .f32⟩
  | .hbm, ⟨3, _⟩ => ⟨S4096x64, .f32⟩
  | .hbm, ⟨4, _⟩ => ⟨S4096x64, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S64x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .i32⟩
  | .hbm, ⟨22, _⟩ => ⟨S_, .f32⟩
  | .hbm, ⟨23, _⟩ => ⟨S_, .i32⟩
  | .hbm, ⟨24, _⟩ => ⟨S4096, .f32⟩
  | .hbm, ⟨25, _⟩ => ⟨S4096, .i32⟩
  | .hbm, ⟨26, _⟩ => ⟨S4096x8192, .f32⟩
  | .hbm, ⟨27, _⟩ => ⟨S_, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x8192, .f32⟩
  | .hbm, ⟨37, _⟩ => ⟨S4096x8192, .f32⟩
  | .hbm, ⟨38, _⟩ => ⟨S4096x8192, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S1x1, .i32⟩
  | .hbm, ⟨57, _⟩ => ⟨S4096x1, .i32⟩
  | .hbm, ⟨58, _⟩ => ⟨S4096x1, .i1⟩
  | .hbm, ⟨59, _⟩ => ⟨S4096x1, .i1⟩
  | .hbm, ⟨60, _⟩ => ⟨S_, .i1⟩
  | .hbm, ⟨61, _⟩ => ⟨S4096, .i1⟩
  | .hbm, ⟨62, _⟩ => ⟨S4096x64, .f32⟩
  | .hbm, ⟨63, _⟩ => ⟨S4096x64, .i1⟩
  | .hbm, ⟨64, _⟩ => ⟨S_, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4096x64, .f32⟩
  | .hbm, ⟨74, _⟩ => ⟨S4096x64, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4096x64, .f32⟩
  | .hbm, ⟨83, _⟩ => ⟨S4096x64, .f32⟩
  | .hbm, ⟨84, _⟩ => ⟨S4x32x32x64, .f32⟩
  | .hbm, ⟨85, _⟩ => ⟨S4x64x32x32, .f32⟩
  | _, _ => ⟨S4x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_8 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩

abbrev nD : Nat := 1
abbrev τ : Topo := Topo.v7x

variable {F : FTy → Type} [FloatOps F]
-- ==== WithoutNormsIdeal.lean ====
abbrev S4x64x32x32 : Shape := ⟨4, ![4, 64, 32, 32]⟩
abbrev S8192x64 : Shape := ⟨2, ![8192, 64]⟩
abbrev S4x32x32x64 : Shape := ⟨4, ![4, 32, 32, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S64x8192 : Shape := ⟨2, ![64, 8192]⟩
abbrev S4096x8192 : Shape := ⟨2, ![4096, 8192]⟩
abbrev S1 : Shape := ⟨1, ![1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S4x64x32x32, .f32⟩
  | .hbm, ⟨1, _⟩ => ⟨S8192x64, .f32⟩
  | .hbm, ⟨2, _⟩ => ⟨S4x32x32x64, .f32⟩
  | .hbm, ⟨3, _⟩ => ⟨S4096x64, .f32⟩
  | .hbm, ⟨4, _⟩ => ⟨S4096x64, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S64x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4096x8192, .i32⟩
  | .hbm, ⟨16, _⟩ => ⟨S_, .f32⟩
  | .hbm, ⟨17, _⟩ => ⟨S_, .i32⟩
  | .hbm, ⟨18, _⟩ => ⟨S4096, .f32⟩
  | .hbm, ⟨19, _⟩ => ⟨S4096, .i32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x8192, .f32⟩
  | .hbm, ⟨37, _⟩ => ⟨S4096x8192, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S1, .i32⟩
  | .hbm, ⟨47, _⟩ => ⟨S_, .i32⟩
  | .hbm, ⟨48, _⟩ => ⟨S4096x1, .i32⟩
  | .hbm, ⟨49, _⟩ => ⟨S4096x1, .i1⟩
  | .hbm, ⟨50, _⟩ => ⟨S1x1, .i32⟩
  | .hbm, ⟨51, _⟩ => ⟨S4096x1, .i32⟩
  | .hbm, ⟨52, _⟩ => ⟨S4096x1, .i1⟩
  | .hbm, ⟨53, _⟩ => ⟨S4096x1, .i1⟩
  | .hbm, ⟨54, _⟩ => ⟨S_, .i1⟩
  | .hbm, ⟨55, _⟩ => ⟨S4096, .i1⟩
  | .hbm, ⟨56, _⟩ => ⟨S4096x64, .f32⟩
  | .hbm, ⟨57, _⟩ => ⟨S4096x64, .i1⟩
  | .hbm, ⟨58, _⟩ => ⟨S_, .f32⟩
  | .hbm, ⟨59, _⟩ => ⟨S4096x64, .f32⟩
  | .hbm, ⟨60, _⟩ => ⟨S4096x64, .f32⟩
  | .hbm, ⟨61, _⟩ => ⟨S4096x64, .f32⟩
  | .hbm, ⟨62, _⟩ => ⟨S4096x64, .f32⟩
  | .hbm, ⟨63, _⟩ => ⟨S4096x64, .f32⟩
  | .hbm, ⟨64, _⟩ => ⟨S4096x64, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096x64, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x64, .f32⟩
  | .hbm, ⟨81, _⟩ => ⟨S4096x64, .f32⟩
  | .hbm, ⟨82, _⟩ => ⟨S4x32x32x64, .f32⟩
  | .hbm, ⟨83, _⟩ => ⟨S4x64x32x32, .f32⟩
  | _, _ => ⟨S4x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_cst_8 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩

abbrev nD : Nat := 1
abbrev τ : Topo := Topo.v7x

variable {F : FTy → Type} [FloatOps F]
-- ==== Quantise.lean ====
abbrev S4x64x32x32 : Shape := ⟨4, ![4, 64, 32, 32]⟩
abbrev S8192x64 : Shape := ⟨2, ![8192, 64]⟩
abbrev S4x32x32x64 : Shape := ⟨4, ![4, 32, 32, 64]⟩
abbrev S4096x64 : Shape := ⟨2, ![4096, 64]⟩
abbrev S4096x8192 : Shape := ⟨2, ![4096, 8192]⟩
abbrev S4096x1 : Shape := ⟨2, ![4096, 1]⟩
abbrev S1x1 : Shape := ⟨2, ![1, 1]⟩
abbrev S256x64 : Shape := ⟨2, ![256, 64]⟩
abbrev S256x8192 : Shape := ⟨2, ![256, 8192]⟩
abbrev S256x1 : Shape := ⟨2, ![256, 1]⟩
abbrev S256 : Shape := ⟨1, ![256]⟩
abbrev S1x8192 : Shape := ⟨2, ![1, 8192]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x64x32x32, .f32⟩
  | .hbm, ⟨1, _⟩ => ⟨S8192x64, .f32⟩
  | .hbm, ⟨2, _⟩ => ⟨S4x32x32x64, .f32⟩
  | .hbm, ⟨3, _⟩ => ⟨S4096x64, .f32⟩
  | .hbm, ⟨4, _⟩ => ⟨S4096x8192, .f32⟩
  | .hbm, ⟨5, _⟩ => ⟨S4096x1, .i32⟩
  | .hbm, ⟨6, _⟩ => ⟨S1x1, .f32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S256x8192, .f32⟩
  | .local _ .vmem, ⟨4, _⟩ => ⟨S256x8192, .f32⟩
  | .local _ .vmem, ⟨5, _⟩ => ⟨S256x1, .i32⟩
  | .local _ .vmem, ⟨6, _⟩ => ⟨S256x1, .i32⟩
  | .local _ .vmem, ⟨7, _⟩ => ⟨S1x1, .f32⟩
  | _, _ => ⟨S4x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QuantiseIdeal.lean ====
variable {F : FTy → Type} [FloatOps F] [Named F]
def κ : String → Option EReal := fun
  | "two_log2e" => some ((2 * (Real.log 2)⁻¹ : ℝ) : EReal)
  | _ => none
-- ==== Lookup.lean ====
abbrev S4096x1 : Shape := ⟨2, ![4096, 1]⟩
abbrev S8192x64 : Shape := ⟨2, ![8192, 64]⟩
abbrev S4096 : Shape := ⟨1, ![4096]⟩
abbrev S4096x128 : Shape := ⟨2, ![4096, 128]⟩
abbrev S_ : Shape := ⟨0, ![]⟩
abbrev S128 : Shape := ⟨1, ![128]⟩
abbrev S128x128 : Shape := ⟨2, ![128, 128]⟩
abbrev S4096x64 : Shape := ⟨2, ![4096, 64]⟩
abbrev S4x32x32x64 : Shape := ⟨4, ![4, 32, 32, 64]⟩
abbrev S4x64x32x32 : Shape := ⟨4, ![4, 64, 32, 32]⟩

abbrev nBuf : Table → Nat
  | .hbm => 55
  | .local .scVector .vmem => 2
  | _ => 0

abbrev bufTy : (tb : Table) → Fin (nBuf tb) → BufTy
  | .hbm, ⟨0, _⟩ => ⟨S4096x1, .i32⟩
  | .hbm, ⟨1, _⟩ => ⟨S8192x64, .f32⟩
  | .hbm, ⟨2, _⟩ => ⟨S4096, .i32⟩
  | .hbm, ⟨3, _⟩ => ⟨S4096x128, .f32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x128, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S4096x1, .i1⟩
  | .hbm, ⟨49, _⟩ => ⟨S4096x64, .f32⟩
  | .hbm, ⟨50, _⟩ => ⟨S4096x64, .f32⟩
  | .hbm, ⟨51, _⟩ => ⟨S4096x64, .i1⟩
  | .hbm, ⟨52, _⟩ => ⟨S4096x64, .f32⟩
  | .hbm, ⟨53, _⟩ => ⟨S4x32x32x64, .f32⟩
  | .hbm, ⟨54, _⟩ => ⟨S4x64x32x32, .f32⟩
  | .local .scVector .vmem, ⟨0, _⟩ => ⟨S128, .i32⟩
  | .local .scVector .vmem, ⟨1, _⟩ => ⟨S128x128, .f32⟩
  | _, _ => ⟨S4096x1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_call2_v0 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v1_scv : Ref sig .scVector := ⟨.hbm, 3, rfl⟩
abbrev main_v2_scv : Ref sig .scVector := ⟨.hbm, 21, rfl⟩
abbrev main_v3_scv : Ref sig .scVector := ⟨.hbm, 22, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LookupRefIdeal.lean ====
abbrev S4096x1 : Shape := ⟨2, ![4096, 1]⟩
abbrev S8192x64 : Shape := ⟨2, ![8192, 64]⟩
abbrev S4096 : Shape := ⟨1, ![4096]⟩
abbrev S_ : Shape := ⟨0, ![]⟩
abbrev S1 : Shape := ⟨1, ![1]⟩
abbrev S1x1 : Shape := ⟨2, ![1, 1]⟩
abbrev S4096x64 : Shape := ⟨2, ![4096, 64]⟩
abbrev S4x32x32x64 : Shape := ⟨4, ![4, 32, 32, 64]⟩
abbrev S4x64x32x32 : Shape := ⟨4, ![4, 64, 32, 32]⟩

abbrev nBuf : Space → Nat
  | .hbm => 28
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S8192x64, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x64, .f32⟩
  | .hbm, ⟨22, _⟩ => ⟨S4096x64, .i1⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S4x32x32x64, .f32⟩
  | .hbm, ⟨27, _⟩ => ⟨S4x64x32x32, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.LookupIdealRun.lean ====
/-
  The SparseCore call of the lookup program, run once at a symbolic tile.

  The call runs on 2 SparseCores of 16 tiles. Tile `(c, s)` is worker `w = 2 s + c`: it copies entries
  `[128 w, 128 w + 128)` of the index list into its own memory, fetches the rows of the pair table that they name by
  one indirect gather, and copies the 128 fetched rows to rows `[128 w, 128 w + 128)` of the output.

  The index list and the pair table are read by all tiles at once: each tile holds one of 32 shares of either. The
  output is dealt out in 32 blocks of rows. What the output holds afterwards is `gathered`: row `r` is the row of the
  table that entry `r` of the list names. Everything is generic in the float instance, in the contents of the list
  (`I`), of the table (`X`) and of the output before the call (`O₀`); the one hypothesis is that every index names
  a row (`InTable`).
-/
module

public import proofs.«01_k».proof.Proof.LookupValue
public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.ShareLeaves
public import Idealize.ShloMosaic.Lib.ValueIdxCore
public import Idealize.ShloMosaic.Lib.ValueIdx
public import Idealize.ShloMosaic.Lib.Tactic
public import proofs.«01_k».proof.Proof.Gen.LookupIdeal
public import proofs.«01_k».proof.Proof.Gen.LookupIdeal.Skeleton

@[expose] public section

noncomputable section

namespace Cert.Proof.LookupIdealRun

open Cert.LookupIdeal Cert.LookupIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores. -/
theorem nCore_zero : (K (F := F)).nCore 0 = 2 := rfl
/-- Each SparseCore has sixteen tiles. -/
theorem nSub_zero : (K (F := F)).nSub 0 = 16 := rfl

/-- The launch semaphores are distinct and unscoped, and no SparseCore buffer is reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The index list, the pair table and the output of the call, on device `d`. -/
abbrev iLoc (d : Dev nD) : Loc nD τ sig := (SparseCore.T d).loc main_v2
abbrev xLoc (d : Dev nD) : Loc nD τ sig := (SparseCore.T d).loc main_v1
abbrev oLoc (d : Dev nD) : Loc nD τ sig := (SparseCore.T d).loc main_v3

/-- The same three as a tile names them, and the tile's two scratch buffers. -/
abbrev iV : Memref sig .scVector .hbm S4096 .i32 := Memref.whole main_v2_scv
abbrev xV : Memref sig .scVector .hbm S4096x128 .f32 := Memref.whole main_v1_scv
abbrev oV : Memref sig .scVector .hbm S4096x128 .f32 := Memref.whole main_v3_scv
abbrev sV : Memref sig .scVector .vmem S128 .i32 := Memref.whole cc0_scratch0
abbrev rV : Memref sig .scVector .vmem S128x128 .f32 := Memref.whole cc0_scratch1

/-- The result's rows divide into 32 equal parts. -/
theorem odiv : 32 ∣ S4096x128.size 0 := ⟨128, rfl⟩
/-- Worker `w`'s block of 128 rows of the output. -/
abbrev oRow (w : Fin 32) : Rect S4096x128 := Rect.part (s := S4096x128) (a₀ := 0) odiv w
abbrev oRowSet (w : Fin 32) : Finset S4096x128.Idx := ((oV).view.slice (oRow w)).set

/-- The number of the worker on SparseCore `c`, tile `s`. -/
def wid (c : Fin 2) (s : Fin 16) : Fin 32 := ⟨2 * s.val + c.val, by omega⟩

/-! ## Shares and numbering -/

/-- Worker `w`'s share of the list and of the table. -/
abbrev wq (w : Fin 32) : PosShare TreeShare := ShareLeaves.leaf 5 fullShare w

/-- Shares and blocks are numbered by SparseCore and tile. -/
def widEquiv : Fin 2 × Fin 16 ≃ Fin 32 where
  toFun p := wid p.1 p.2
  invFun w := (⟨w.val % 2, by omega⟩, ⟨w.val / 2, by omega⟩)
  left_inv := by
    rintro ⟨c, s⟩
    exact Prod.ext (Fin.ext (by show (2 * s.val + c.val) % 2 = c.val; omega)) (Fin.ext (by show (2 * s.val + c.val) / 2 = s.val; omega))
  right_inv w := Fin.ext (by show 2 * (w.val / 2) + w.val % 2 = w.val; omega)

/-- A product over the workers is one over the SparseCores of one over the tiles. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ]
  exact bigSep_univ_prod (fun p : Fin 2 × Fin 16 => Φ (widEquiv p))

/-! ## What the call computes -/

variable (I : (d : Dev nD) → Buf (Elt F) (iLoc d)) (X : (d : Dev nD) → Buf (Elt F) (xLoc d)) (O₀ : (d : Dev nD) → Buf (Elt F) (oLoc d))

/-- Every index names a row of the pair table. -/
def InTable : Prop := ∀ (d : Dev nD) (j : S4096.Idx), ((I d j : BitVec 32)).toNat < 4096

/-- The row of the table that entry `r` of the list names, as an index at column `k`. (Out of the table: row 0.) -/
def srcIdx (v : BitVec 32) (k : Fin 128) : S4096x128.Idx :=
  ValueIdx.ix2 (if h : v.toNat < 4096 then ⟨v.toNat, h⟩ else ⟨0, by decide⟩ : Fin 4096) k

/-- The output of the call: row `r` is the row of the table that entry `r` of the list names. -/
def gathered (d : Dev nD) : Buf (Elt F) (oLoc d) := fun j => X d (srcIdx (I d (ValueIdx.ix1 (j 0))) (j 1))

/-! ## What the handshakes carry -/

/-- What worker `w` is handed: a share of the list, a share of the table, its block of the output; the block at `f`. -/
abbrev task (d : Dev nD) (w : Fin 32) (f : Buf (Elt F) (oLoc d)) : sProp 𝕄 :=
  iprop((iLoc d ↦{wq w} I d) ∗ (xLoc d ↦{wq w} X d) ∗ oLoc d ↦[oRowSet w]{fullShare} f)

/-- Each SparseCore takes its sixteen workers' holdings and brings them back with their blocks gathered. -/
def P : (K (F := F)).Pay (nD := nD) (Val := Elt F) (Name := ℕ) (U := UU) where
  st := fun q d c => match q with | 0 => bigSep Finset.univ fun s : Fin 16 => task I X d (wid (Fin.cast nCore_zero c) s) (O₀ d)
  dn := fun q d c => match q with | 0 => bigSep Finset.univ fun s : Fin 16 => task I X d (wid (Fin.cast nCore_zero c) s) (gathered I X d)
  go := fun q d c i => match q with | 0 => task I X d (wid (Fin.cast nCore_zero c) (Fin.cast nSub_zero i)) (O₀ d)
  td := fun q d c i => match q with | 0 => task I X d (wid (Fin.cast nCore_zero c) (Fin.cast nSub_zero i)) (gathered I X d)
  x := fun _ _ => iprop(emp)

instance P_storable : (P (F := F) I X O₀).IsStorable where
  st q d c := match q with
    | 0 => (inferInstance : BI.Storable (upEmb : UEmb _ 𝕄) (bigSep Finset.univ fun s : Fin 16 => task I X d (wid (Fin.cast nCore_zero c) s) (O₀ d)))
  dn q d c := match q with
    | 0 => (inferInstance : BI.Storable (upEmb : UEmb _ 𝕄) (bigSep Finset.univ fun s : Fin 16 => task I X d (wid (Fin.cast nCore_zero c) s) (gathered I X d)))
  go q d c i := match q with
    | 0 => (inferInstance : BI.Storable (upEmb : UEmb _ 𝕄) (task I X d (wid (Fin.cast nCore_zero c) (Fin.cast nSub_zero i)) (O₀ d)))
  td q d c i := match q with
    | 0 => (inferInstance : BI.Storable (upEmb : UEmb _ 𝕄) (task I X d (wid (Fin.cast nCore_zero c) (Fin.cast nSub_zero i)) (gathered I X d)))

variable [FloatOps F]

/-! ## One tile's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
/-- The launch's first bound is two. -/
theorem bound_zero : grid0.bound 0 = 2 := rfl
omit [FloatOps F] in
/-- The launch's second bound is sixteen. -/
theorem bound_one : grid0.bound 1 = 16 := rfl
/-- The worker at grid point `L`. -/
abbrev wL (L : grid0.Coords) : Fin 32 := wid (Fin.cast bound_zero (L 0)) (Fin.cast bound_one (L 1))

abbrev irowK (L : grid0.Coords) : Rect S4096 := Rect.unit (s := S4096) (k0_off1 L) S128.size (k0_off1_inb L)
abbrev orowK (L : grid0.Coords) : Rect S4096x128 := Rect.unit (s := S4096x128) (k0_off2 L) S128x128.size (k0_off2_inb L)
/-- The worker's entries of the list, its block of the output and the whole table, as the task addresses them. -/
abbrev iRowK (L : grid0.Coords) : Memref sig .scVector .hbm S128 .i32 := (iV).slice (irowK L) (fun _ => rfl)
abbrev oRowK (L : grid0.Coords) : Memref sig .scVector .hbm S128x128 .f32 := (oV).slice (orowK L) (fun _ => rfl)
abbrev xAllK : Memref sig .scVector .hbm S4096x128 .f32 := (xV).slice (Rect.unit (s := S4096x128) ![0, 0] S4096x128.size inb_S4096x128_S4096x128_0_0) (fun _ => rfl)

omit [FloatOps F] in
/-- The rows that a tile writes, as its copy names them, are its part of the result. -/
theorem orowK_eq : orowK L = oRow (wL L) := by
  unfold orowK oRow Rect.part Rect.block
  congr 1 <;> funext a
  · rw [k0_off2_eq]
    match a with
    | 0 =>
      have hw : (wL L).val = 2 * (L 1).val + (L 0).val := rfl
      show 256 * (L 1).val + 128 * (L 0).val = (wL L).val * 128
      omega
    | 1 => simp [Shape.partIx, Shape.partSize]
  · match a with
    | 0 => simp [Shape.partSize]
    | 1 => simp [Shape.partSize]

omit [FloatOps F] in
/-- The places that a tile writes are its part of the result. -/
theorem set_oRowK : (oRowK L).view.set = oRowSet (wL L) := by
  show ((oV).view.slice (orowK L)).set = ((oV).view.slice (oRow (wL L))).set
  exact orowK_eq L ▸ rfl

omit [FloatOps F] in
/-- A tile's part of the result, held as its copy names it. -/
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
/-- The list of pair rows, held as the tile names it. -/
theorem pts_iV (q : PosShare TreeShare) (f : Buf (Elt F) (iLoc d)) :
    ((iV).view.loc (V d (cV L) (jV L)) ↦{q} f : sProp 𝕄) = iLoc d ↦{q} f := rfl
omit [FloatOps F] in
/-- The table, held as the tile names it. -/
theorem pts_xV (q : PosShare TreeShare) (f : Buf (Elt F) (xLoc d)) :
    ((xV).view.loc (V d (cV L) (jV L)) ↦{q} f : sProp 𝕄) = xLoc d ↦{q} f := rfl
omit [FloatOps F] in
/-- The tile's index buffer, held as the tile names it. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
/-- The tile's row buffer, held as the tile names it. -/
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
/-- The tile's three transfer counters among the semaphores it is handed at zero. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers, at some contents, among the tile's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Entry `x` of the worker's part of the list is entry `128 w + x` of the list. -/
theorem read_iRowK (x : S128.Idx) : (iRowK L).view.read (Elt F) (I d) x = I d ((iRowK L).view.emb x) :=
  (View.read_apply _ _).trans (cast_eq _ _)

omit [FloatOps F] in
/-- The list as the tile fetched it: every word names a row of the table. -/
theorem fetched_lt (hI : InTable I) (fs : Buf (Elt F) ((V d (cV L) (jV L)).loc cc0_scratch0)) (pay : S128.Idx → Elt F .i32)
    (hpay : pay = (iRowK L).view.read (Elt F) (I d)) :
    ∀ x, ((sV).view.read (Elt F) (View.write (Elt F) (sV).view fs pay Finset.univ) x).toNat < S4096x128.size gathers_S4096x128_S128x128.axis := by
  subst hpay; intro x
  rw [View.write_whole_univ]
  simp only [Memref.view_whole, View.read_whole]
  rw [read_iRowK]
  exact hI d _

omit [FloatOps F] in
/-- The rows that the indirect gather fetches are the worker's block of `gathered`. -/
theorem fetched_rows (fs : Buf (Elt F) ((V d (cV L) (jV L)).loc cc0_scratch0)) (pay : S128.Idx → Elt F .i32) (hI : InTable I)
    (hpay : pay = (iRowK L).view.read (Elt F) (I d)) (hn : S128.numel = S128x128.size gathers_S4096x128_S128x128.axis')
    (hin : ∀ x, ((sV).view.read (Elt F) (View.write (Elt F) (sV).view fs pay Finset.univ) x).toNat < S4096x128.size gathers_S4096x128_S128x128.axis)
    (y : S128x128.Idx) :
    SparseCore.gatherPayload gathers_S4096x128_S128x128 ((xAllK).view.read (Elt F) (X d))
      (SparseCore.rows ((sV).view.read (Elt F) (View.write (Elt F) (sV).view fs pay Finset.univ)) hn hin) y
      = gathered I X d ((oRowK L).view.emb y) := by
  have hl : ∀ x, (sV).view.read (Elt F) (View.write (Elt F) (sV).view fs pay Finset.univ) x = I d ((iRowK L).view.emb x) := by
    intro x
    rw [View.write_whole_univ]
    simp only [Memref.view_whole, View.read_whole]
    rw [hpay, read_iRowK]
  unfold SparseCore.gatherPayload
  rw [View.read_apply, cast_eq]
  unfold gathered
  refine congrArg (X d) ?_
  have he : ∀ a, ((oRowK L).view.emb y a).val = (k0_off2 L) a + 1 * (y a).val := fun a => rfl
  have hrow : (iRowK L).view.emb (S128.rowMajor.symm ((y 0).cast (show 128 = S128.numel by decide))) = ValueIdx.ix1 ((oRowK L).view.emb y 0) := by
    funext a
    match a with
    | 0 =>
      apply Fin.ext
      show k0_off1 L 0 + 1 * (S128.rowMajor.symm ((y 0).cast (show 128 = S128.numel by decide)) 0).val = k0_off2 L 0 + 1 * (y 0).val
      rw [← Shape.rowMajor_val_one, Equiv.apply_symm_apply]
      simp [k0_off1_eq, k0_off2_eq]; rfl
  funext a
  match a with
  | 0 =>
    apply Fin.ext
    have hlt : (I d (ValueIdx.ix1 ((oRowK L).view.emb y 0)) : BitVec 32).toNat < 4096 := hI d _
    show 0 + 1 * (gathers_S4096x128_S128x128.idx _ y gathers_S4096x128_S128x128.axis).val = (dite _ _ _ : Fin 4096).val
    rw [Shape.Gathers.idx_axis, dif_pos hlt]
    unfold SparseCore.rows
    simp only [hl]
    rw [Nat.zero_add, Nat.one_mul]
    exact congrArg (fun i => (I d i : BitVec 32).toNat) hrow
  | 1 =>
    apply Fin.ext
    show 0 + 1 * (gathers_S4096x128_S128x128.idx _ y 1).val = k0_off2 L 1 + 1 * (y 1).val
    rw [Shape.Gathers.idx_of_ne _ _ _ _ (by decide)]
    simp [k0_off2_eq]

omit [FloatOps F] in
/-- What the copy to the output landed on the worker's block, at `gathered`. -/
theorem landed (pay : S128x128.Idx → Elt F .f32) (hpay : ∀ y, pay y = gathered I X d ((oRowK L).view.emb y)) :
    ((oRowK L).view.loc (V d (cV L) (jV L)) ↦[(oRowK L).view.set]{fullShare} (oRowK L).view.writes (Elt F) (O₀ d) [⟨Rect.whole S128x128, pay⟩] : sProp 𝕄)
      = oLoc d ↦[oRowSet (wL L)]{fullShare} gathered I X d := by
  rw [← pts_oRowK (F := F) d L]
  refine pointsTo_congr fun i hi => ?_
  obtain ⟨x, -, rfl⟩ := Finset.mem_map.mp hi
  have h := View.read_writes_cons_hit (oRowK L).view (O₀ d) (Rect.whole S128x128) pay [] x x (by
    exact Rect.emb_whole_apply S128x128 x)
  rw [View.read_apply, cast_eq] at h
  exact h.trans (hpay x)

set_option maxHeartbeats 4000000 in
/-- The task of the tile at `L`: the fetch of its part of the list, the indirect gather, the copy to the output, each
    with its wait; its block of the output ends at `gathered`. -/
theorem tile_body (hF : (K (F := F)).Facts) (hI : InTable I) (O : CellTallies nD τ sig (HIx 1)) (W : Waits sig (HIx 1)) (hO : ∀ g, O g none = 0) :
    iprop(levAts (K (F := F)).L (K (F := F)).lev ∗ emp ∗ task I X d (wL L) (O₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(task I X d (wL L) (gathered I X d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the indirect gather: a share of the table, the row buffer, the fetched list and the cell at zero go in
  ihave Hxs := (pointsTo_split_subset (q := wq (wL L)) (f := X d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 I d L) Finset.univ : sProp 𝕄)
      = (sV).view.loc (V d (cV L) (jV L)) ↦[(sV).view.set]{fullShare} View.write (Elt F) (sV).view fs (tile_body.sl.dma0 I d L) Finset.univ
      by rw [hss])) $$ Hs'
  have hN : ∀ h : S4096x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S4096x128_S128x128) (default : HIx 1)
      (rV).view.dmaCredit (hN _) (by decide) (fetched_lt I d L hI fs _ rfl)) $$ [Hxs Hr'' Hs'' HsemB]
  · isplitl [Hxs]; · iexact Hxs
    isplitl [Hr'']; · iexact Hr''
    isplitl [Hs'']; · iexact Hs''
    iexact HsemB
  iintro Hfl
  sl_exec
  -- its wait: the row buffer at the fetched rows, the share of the table and the list back, the cell at zero
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := wq (wL L)) (f := X d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iexact Hi'
    isplitl [Hx']; · iexact Hx'
    iapply (Entails.of_eq (landed I X O₀ d L _ fun y => by
      refine (congrFun (View.read_write_univ (v := (rV).view) fr _) y).trans ?_
      exact fetched_rows I X d L fs _ hI rfl _ _ y)) $$ Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped1.sem, (default : HIx 1)) (insert (SemLoc.dma cc0_scratch2.sem, default) (insert (SemLoc.dma cc0_scoped0.sem, default) W)))
  isplitr
  · ipureintro; intro p hp
    simp only [Finset.mem_insert] at hp
    rcases hp with hp | hp | hp | hp
    · exact Or.inr (by rw [hp]; rfl)
    · exact Or.inr (by rw [hp]; rfl)
    · exact Or.inr (by rw [hp]; rfl)
    · exact Or.inl hp
  · iexact HO

/-! ## What a tile owes the launch theorem -/

def coordsV (c : Fin (grid0.bound 0)) (s : Fin (grid0.bound 1)) : grid0.Coords :=
  fun | 0 => c | 1 => s | ⟨_ + 2, h⟩ => absurd h (Nat.not_lt.2 (Nat.le_add_left _ _))

/-- The launched tile runs the task at its own grid point. -/
theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
/-- A tile's waits at its end are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile, run from what it is given, leaves what it owes. -/
theorem tileObl (hI : InTable I) : (K (F := F)).TileObl (D (F := F)) 𝒱 (P I X O₀) v₀ 0 := by
  intro d c i O W hO _ _
  simp only [show (P I X O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I X O₀ d (coordsV ⟨_, hci.1⟩ ⟨_, hci.2⟩) facts hI O W hO).trans (wp_mono frame _ _ fun _ => obl_post)

end Tile

/-! ## The three arrays split over the workers -/

omit [FloatOps F] in
/-- A tile's places are those of its rows. -/
theorem oRowSet_eq (w : Fin 32) : oRowSet w = (oRow w).set := by
  show ((View.whole (main_v3_scv : Ref sig .scVector)).slice (oRow w)).set = _
  rw [View.set_slice]; exact Finset.map_refl
omit [FloatOps F] in
/-- No two tiles write the same place. -/
theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
/-- The tiles write every place. -/
theorem oRows_cover : (Finset.univ : Finset (Fin 32)).biUnion oRowSet = Finset.univ :=
  (Finset.biUnion_congr rfl fun i _ => oRowSet_eq i).trans (Rect.biUnion_part odiv)

omit [FloatOps F] in
/-- The list, the table and the output held whole are the 32 workers' holdings, by SparseCore and tile. -/
theorem tasks_eq (d : Dev nD) (f : Buf (Elt F) (oLoc d)) :
    (iprop((iLoc d ↦{fullShare} I d) ∗ (xLoc d ↦{fullShare} X d) ∗ oLoc d ↦{fullShare} f) : sProp 𝕄)
      = bigSep Finset.univ fun c : Fin 2 => bigSep Finset.univ fun s : Fin 16 => task I X d (wid c s) f := by
  have hi : (iLoc d ↦{fullShare} I d : sProp 𝕄) = bigSep Finset.univ fun w : Fin 32 => iLoc d ↦{wq w} I d :=
    ShareLeaves.pointsTo_leaves Finset.univ (I d) 5 fullShare
  have hx : (xLoc d ↦{fullShare} X d : sProp 𝕄) = bigSep Finset.univ fun w : Fin 32 => xLoc d ↦{wq w} X d :=
    ShareLeaves.pointsTo_leaves Finset.univ (X d) 5 fullShare
  rw [← bigSep_workers (fun w => task I X d w f), bigSep_sep', bigSep_sep', hi, hx,
    ← pointsTo_biUnion Finset.univ (ℓ := oLoc d) oRowSet oRows_disjoint, oRows_cover]

omit [FloatOps F] in
/-- What all tiles of a SparseCore hold, counted by sixteen. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
/-- What both SparseCores hold, counted by two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's holding is its tiles' holdings, and theirs after the tasks are its own after the call. -/
theorem vecSplit : (K (F := F)).VecSplit' (P I X O₀) 0 := by
  intro d c
  show (bigSep Finset.univ fun s : Fin 16 => task I X d (wid (Fin.cast nCore_zero c) s) (O₀ d)) ⊢ |={Set.univ}=> iprop(
      (bigSep Finset.univ fun i : Fin ((K (F := F)).nSub 0) => task I X d (wid (Fin.cast nCore_zero c) (Fin.cast nSub_zero i)) (O₀ d))
      ∗ ((bigSep Finset.univ fun i : Fin ((K (F := F)).nSub 0) => task I X d (wid (Fin.cast nCore_zero c) (Fin.cast nSub_zero i)) (gathered I X d))
          -∗ bigSep Finset.univ fun s : Fin 16 => task I X d (wid (Fin.cast nCore_zero c) s) (gathered I X d)))
  rw [bigSep_tiles (F := F) (fun s => task I X d (wid (Fin.cast nCore_zero c) s) (O₀ d)),
    bigSep_tiles (F := F) (fun s => task I X d (wid (Fin.cast nCore_zero c) s) (gathered I X d))]
  iintro H; imodintro
  isplitl [H]; · iexact H
  iintro H; iexact H

/-- What the SparseCores are given together: the list, the table and the result's array. -/
theorem st_eq (d : Dev nD) : (bigSep Finset.univ fun c : Fin ((K (F := F)).nCore 0) => (P I X O₀).st 0 d c)
    = iprop((iLoc d ↦{fullShare} I d) ∗ (xLoc d ↦{fullShare} X d) ∗ oLoc d ↦{fullShare} O₀ d) :=
  (bigSep_cores (F := F) (fun c => bigSep Finset.univ fun s : Fin 16 => task I X d (wid c s) (O₀ d))).trans (tasks_eq I X d _).symm
/-- What the SparseCores give back together: the list, the table, and the result's array with the gathered rows. -/
theorem dn_eq (d : Dev nD) : (bigSep Finset.univ fun c : Fin ((K (F := F)).nCore 0) => (P I X O₀).dn 0 d c)
    = iprop((iLoc d ↦{fullShare} I d) ∗ (xLoc d ↦{fullShare} X d) ∗ oLoc d ↦{fullShare} gathered I X d) :=
  (bigSep_cores (F := F) (fun c => bigSep Finset.univ fun s : Fin 16 => task I X d (wid c s) (gathered I X d))).trans (tasks_eq I X d _).symm

/-! ## The ghost state at launch -/

def u₀ : UU := (initOf (K (F := F)).hsCells (K (F := F)).hsToks, 1)

omit [FloatOps F] in
/-- Nothing held many times is nothing held. -/
theorem bigSep_emp' {J : Type} (s : Finset J) : (bigSep s fun _ => iprop(emp)) = (iprop(emp) : sProp 𝕄) := bigSep_emp_const s

/-- What the launch's counters start from. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I X O₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) I X O₀).x q thr) = bigSep Finset.univ fun _ => iprop(emp) from
    bigSep_congr fun _ _ => bigSep_univ_of_subsingleton (0 : Fin 1), bigSep_emp']
  iempintro

end Cert.Proof.LookupIdealRun

end
-- ==== Proof.LookupIdealMain.lean ====
/-
  The lookup program on the TensorCore: host operations, the SparseCore call, host operations.

  `runs` says what the program leaves behind: from any memory whose computed list of table rows stays inside the table,
  every weakly fair execution ends with the result at the value that the host operations compute from `gathered`, the
  two arguments unchanged and every semaphore counter at zero.
-/
module

public import proofs.«01_k».proof.Proof.LookupIdealRun
public import Idealize.ShloMosaic.Lib.Pipeline.Frame

@[expose] public section

noncomputable section

namespace Cert.Proof.LookupIdealRun

open Cert.LookupIdeal Cert.LookupIdeal.Gen

open Idealize.ShloMosaic Idealize.ShloMosaic.TcCoe
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs unscopedBufs_held)

variable {F : FTy → Type} [FloatOps F]

local notation "𝕄" => MT nD τ sig (HIx 1) (Elt F) ℕ UU ℕ

/-- The host operations before the call: the flat list of codes, the table of row pairs, and each code halved. -/
abbrev opsPre : List (HloOp τ sig (Elt F)) :=
  [ reshape main_arg0 main_v0 (rfl : (.i32 : EltTy) = .i32) shapeCasts_S4096x1_S4096,
    reshape main_arg1 main_v1 (rfl : (.f32 : EltTy) = .f32) shapeCasts_S8192x64_S4096x128,
    nullary main_c (constantI S_ 32 2#32),
    TRef.unary (TRef.of (T := ⟨S_, .i32⟩) main_c) (TRef.of (T := ⟨S_, .i32⟩) main_call0_v0) id,
    TRef.unary (TRef.of (T := ⟨S_, .i32⟩) main_call0_v0) (TRef.of (T := ⟨S4096, .i32⟩) main_call0_v1) (broadcastInDim S4096 ![] bcast_S_S4096),
    TRef.binary (TRef.of (T := ⟨S4096, .i32⟩) main_v0) (TRef.of (T := ⟨S4096, .i32⟩) main_call0_v1) (TRef.of (T := ⟨S4096, .i32⟩) main_call0_v2) Host.divsi,
    TRef.unary (TRef.of (T := ⟨S4096, .i32⟩) main_v0) (TRef.of (T := ⟨S4096, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S4096, .i32⟩) main_call0_v5) (broadcastInDim S4096 ![] bcast_S_S4096),
    TRef.binary (TRef.of (T := ⟨S4096, .i32⟩) main_call0_v3) (TRef.of (T := ⟨S4096, .i32⟩) main_call0_v5) (TRef.of (T := ⟨S4096, .i1⟩) main_call0_v6) (cmpi .ne),
    TRef.unary (TRef.of (T := ⟨S_, .i32⟩) main_call0_v0) (TRef.of (T := ⟨S4096, .i32⟩) main_call0_v7) (broadcastInDim S4096 ![] bcast_S_S4096),
    TRef.binary (TRef.of (T := ⟨S4096, .i32⟩) main_v0) (TRef.of (T := ⟨S4096, .i32⟩) main_call0_v7) (TRef.of (T := ⟨S4096, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S4096, .i32⟩) main_call0_v9) (broadcastInDim S4096 ![] bcast_S_S4096),
    TRef.binary (TRef.of (T := ⟨S4096, .i32⟩) main_call0_v8) (TRef.of (T := ⟨S4096, .i32⟩) main_call0_v9) (TRef.of (T := ⟨S4096, .i1⟩) main_call0_v10) (cmpi .ne),
    TRef.binary (TRef.of (T := ⟨S4096, .i1⟩) main_call0_v6) (TRef.of (T := ⟨S4096, .i1⟩) main_call0_v10) (TRef.of (T := ⟨S4096, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S4096, .i32⟩) main_call0_v12) (broadcastInDim S4096 ![] bcast_S_S4096),
    TRef.binary (TRef.of (T := ⟨S4096, .i32⟩) main_call0_v2) (TRef.of (T := ⟨S4096, .i32⟩) main_call0_v12) (TRef.of (T := ⟨S4096, .i32⟩) main_call0_v13) subi,
    TRef.ternary (TRef.of (T := ⟨S4096, .i1⟩) main_call0_v11) (TRef.of (T := ⟨S4096, .i32⟩) main_call0_v13) (TRef.of (T := ⟨S4096, .i32⟩) main_call0_v2) (TRef.of (T := ⟨S4096, .i32⟩) main_v2) select ]

/-- The host operations after the call: each code's parity, the choice of half, and the result's layout. -/
abbrev opsPost : List (HloOp τ sig (Elt F)) :=
  [ nullary main_c_0 (constantI S_ 32 2#32),
    TRef.unary (TRef.of (T := ⟨S_, .i32⟩) main_c_0) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S4096, .i32⟩) main_call1_v3) (broadcastInDim S4096 ![] bcast_S_S4096),
    TRef.binary (TRef.of (T := ⟨S4096, .i32⟩) main_v0) (TRef.of (T := ⟨S4096, .i32⟩) main_call1_v3) (TRef.of (T := ⟨S4096, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S4096, .i32⟩) main_call1_v5) (broadcastInDim S4096 ![] bcast_S_S4096),
    TRef.binary (TRef.of (T := ⟨S4096, .i32⟩) main_call1_v4) (TRef.of (T := ⟨S4096, .i32⟩) main_call1_v5) (TRef.of (T := ⟨S4096, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S4096, .i32⟩) main_call1_v7) (broadcastInDim S4096 ![] bcast_S_S4096),
    TRef.binary (TRef.of (T := ⟨S4096, .i32⟩) main_call1_v4) (TRef.of (T := ⟨S4096, .i32⟩) main_call1_v7) (TRef.of (T := ⟨S4096, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S4096, .i1⟩) main_call1_v10) (broadcastInDim S4096 ![] bcast_S_S4096),
    TRef.binary (TRef.of (T := ⟨S4096, .i1⟩) main_call1_v8) (TRef.of (T := ⟨S4096, .i1⟩) main_call1_v10) (TRef.of (T := ⟨S4096, .i1⟩) main_call1_v11) (cmpi .ne),
    TRef.binary (TRef.of (T := ⟨S4096, .i1⟩) main_call1_v11) (TRef.of (T := ⟨S4096, .i1⟩) main_call1_v6) (TRef.of (T := ⟨S4096, .i1⟩) main_call1_v12) andi,
    TRef.unary (TRef.of (T := ⟨S_, .i32⟩) main_call1_v2) (TRef.of (T := ⟨S4096, .i32⟩) main_call1_v13) (broadcastInDim S4096 ![] bcast_S_S4096),
    TRef.binary (TRef.of (T := ⟨S4096, .i32⟩) main_call1_v4) (TRef.of (T := ⟨S4096, .i32⟩) main_call1_v13) (TRef.of (T := ⟨S4096, .i32⟩) main_call1_v14) addi,
    TRef.ternary (TRef.of (T := ⟨S4096, .i1⟩) main_call1_v12) (TRef.of (T := ⟨S4096, .i32⟩) main_call1_v14) (TRef.of (T := ⟨S4096, .i32⟩) main_call1_v4) (TRef.of (T := ⟨S4096, .i32⟩) main_v4) select,
    nullary main_c_1 (constantI S_ 32 1#32),
    unary main_c_1 main_v5 (broadcastInDim S4096 ![] bcast_S_S4096 : (⟨S_, .i32⟩ : BufTy).Contents (Elt F) → (⟨S4096, .i32⟩ : BufTy).Contents (Elt F)),
    binary main_v4 main_v5 main_v6 (cmpi .eq : (⟨S4096, .i32⟩ : BufTy).Contents (Elt F) → (⟨S4096, .i32⟩ : BufTy).Contents (Elt F) → (⟨S4096, .i1⟩ : BufTy).Contents (Elt F)),
    unary main_v6 main_v7 (broadcastInDim S4096x1 ![0] bcast_S4096_S4096x1_0 : (⟨S4096, .i1⟩ : BufTy).Contents (Elt F) → (⟨S4096x1, .i1⟩ : BufTy).Contents (Elt F)),
    unary main_v3 main_v8 ((extractStridedSlice S4096x64 ![0, 64] · slices_S4096x128_S4096x64_0_64) : (⟨S4096x128, .f32⟩ : BufTy).Contents (Elt F) → (⟨S4096x64, .f32⟩ : BufTy).Contents (Elt F)),
    unary main_v3 main_v9 ((extractStridedSlice S4096x64 ![0, 0] · slices_S4096x128_S4096x64_0_0) : (⟨S4096x128, .f32⟩ : BufTy).Contents (Elt F) → (⟨S4096x64, .f32⟩ : BufTy).Contents (Elt F)),
    TRef.unary (TRef.of (T := ⟨S4096x1, .i1⟩) main_v7) (TRef.of (T := ⟨S4096x64, .i1⟩) main_call2_v0) (broadcastInDim S4096x64 ![0, 1] bcast_S4096x1_S4096x64_0_1),
    TRef.ternary (TRef.of (T := ⟨S4096x64, .i1⟩) main_call2_v0) (TRef.of (T := ⟨S4096x64, .f32⟩) main_v8) (TRef.of (T := ⟨S4096x64, .f32⟩) main_v9) (TRef.of (T := ⟨S4096x64, .f32⟩) main_v10) select,
    reshape main_v10 main_v11 (rfl : (.f32 : EltTy) = .f32) shapeCasts_S4096x64_S4x32x32x64,
    unary main_v11 main_v12 ((transpose S4x64x32x32 [0, 3, 1, 2] · transposes_S4x32x32x64_S4x64x32x32_0_3_1_2) : (⟨S4x32x32x64, .f32⟩ : BufTy).Contents (Elt F) → (⟨S4x64x32x32, .f32⟩ : BufTy).Contents (Elt F)) ]

/-- @main is the first line, the call, the second line. -/
theorem main_eq (d : Dev nD) : main (F := F) d = (seq opsPre >>= fun _ => sc.run d 0 >>= fun _ => seq opsPost) := by
  rfl

/-- The operations before the call touch only the program's buffers. -/
theorem opsPre_sub : ∀ op ∈ (opsPre (F := F)), op.bufs ⊆ ucRefs τ sig :=
  fun op h => sub_ucRefs op (List.forall_iff_forall_mem.mp (show (opsPre (F := F)).Forall fun op => op.bufs ⊆ tcRefs τ sig from
    ⟨reshape_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩) op h)
/-- The operations before the call leave no result undetermined. -/
theorem opsPre_fresh : ∀ op ∈ (opsPre (F := F)), op.fresh = ∅ := by
  intro _ h; (repeat (cases h with | head => rfl | tail _ h => ?_)); exact nomatch h
/-- The operations after the call touch only the program's buffers. -/
theorem opsPost_sub : ∀ op ∈ (opsPost (F := F)), op.bufs ⊆ ucRefs τ sig :=
  fun op h => sub_ucRefs op (List.forall_iff_forall_mem.mp (show (opsPost (F := F)).Forall fun op => op.bufs ⊆ tcRefs τ sig from
    ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., unary_bufs_sub .., ternary_bufs_sub .., reshape_bufs_sub .., unary_bufs_sub ..⟩) op h)
/-- The operations after the call leave no result undetermined. -/
theorem opsPost_fresh : ∀ op ∈ (opsPost (F := F)), op.fresh = ∅ := by
  intro _ h; (repeat (cases h with | head => rfl | tail _ h => ?_)); exact nomatch h

/-! ## The contents along the way -/

variable (m : (ℓ : Loc nD τ sig) → Buf (Elt F) ℓ) (ρ : Dev nD → PrngReg)

abbrev a0 : DevRef τ sig := Proc.devRef .tc main_arg0
abbrev a1 : DevRef τ sig := Proc.devRef .tc main_arg1
abbrev vI : DevRef τ sig := Proc.devRef .tc main_v2
abbrev vX : DevRef τ sig := Proc.devRef .tc main_v1
abbrev vO : DevRef τ sig := Proc.devRef .tc main_v3
abbrev vR : DevRef τ sig := Proc.devRef .tc main_v12

/-- At launch, at the call, after the call, at the end. -/
def V0 (d : Dev nD) : Valuation τ sig (Elt F) := fun b => m (d, b)
def V1 (d : Dev nD) : Valuation τ sig (Elt F) := after opsPre (V0 m d)
abbrev Im (d : Dev nD) : Buf (Elt F) (iLoc d) := V1 m d vI
abbrev Xm (d : Dev nD) : Buf (Elt F) (xLoc d) := V1 m d vX
abbrev Om (d : Dev nD) : Buf (Elt F) (oLoc d) := V1 m d vO
def V2 (d : Dev nD) : Valuation τ sig (Elt F) := Function.update (V1 m d) vO (gathered (Im m) (Xm m) d)
def V3 (d : Dev nD) : Valuation τ sig (Elt F) := after opsPost (V2 m d)

/-- The call's three arrays. -/
abbrev SC3 : Finset (DevRef τ sig) := {vI, vX, vO}
/-- The program's arguments and its result. -/
abbrev SR3 : Finset (DevRef τ sig) := {a0, a1, vR}

omit [FloatOps F] in
/-- The SparseCore call's three arrays, held as one set, are held one by one. -/
theorem held_SC3 (d : Dev nD) (W : Valuation τ sig (Elt F)) :
    (held (SparseCore.T d) SC3 W : sProp 𝕄) = iprop((iLoc d ↦{fullShare} W vI) ∗ (xLoc d ↦{fullShare} W vX) ∗ oLoc d ↦{fullShare} W vO) := by
  unfold held SC3
  rw [SparseCore.bigSep_insert' (by decide), SparseCore.bigSep_insert' (by decide), bigSep_singleton]
omit [FloatOps F] in
/-- The arguments and the result, held as one set, are held one by one. -/
theorem held_SR3 (d : Dev nD) (W : Valuation τ sig (Elt F)) :
    (held (SparseCore.T d) SR3 W : sProp 𝕄) = iprop(((SparseCore.T d).loc main_arg0 ↦{fullShare} W a0)
      ∗ ((SparseCore.T d).loc main_arg1 ↦{fullShare} W a1) ∗ (SparseCore.T d).loc main_v12 ↦{fullShare} W vR) := by
  unfold held SR3
  rw [SparseCore.bigSep_insert' (by decide), SparseCore.bigSep_insert' (by decide), bigSep_singleton]

/-- The SparseCore call's arrays are buffers of the program. -/
theorem SC3_sub : SC3 ⊆ ucRefs τ sig := by
  intro b hb
  simp only [SC3, Finset.mem_insert, Finset.mem_singleton] at hb
  rcases hb with rfl | rfl | rfl <;> exact Finset.mem_filter.mpr ⟨devRef_mem_tcRefs _, by decide⟩
/-- The arguments and the result are buffers of the program. -/
theorem SR3_sub : SR3 ⊆ ucRefs τ sig := by
  intro b hb
  simp only [SR3, Finset.mem_insert, Finset.mem_singleton] at hb
  rcases hb with rfl | rfl | rfl <;> exact Finset.mem_filter.mpr ⟨devRef_mem_tcRefs _, by decide⟩

/-- The buffers at the call: the call's three arrays and the rest. -/
theorem held_V1 (d : Dev nD) : (held (SparseCore.T d) (ucRefs τ sig) (V1 m d) : sProp 𝕄)
    = iprop(((iLoc d ↦{fullShare} Im m d) ∗ (xLoc d ↦{fullShare} Xm m d) ∗ oLoc d ↦{fullShare} Om m d) ∗ held (SparseCore.T d) (ucRefs τ sig \ SC3) (V1 m d)) := by
  rw [held_sub_split (SparseCore.T d) SC3_sub, held_SC3]
/-- The buffers after the call: the output at `gathered`, the rest as it was. -/
theorem held_V2 (d : Dev nD) : (held (SparseCore.T d) (ucRefs τ sig) (V2 m d) : sProp 𝕄)
    = iprop(((iLoc d ↦{fullShare} Im m d) ∗ (xLoc d ↦{fullShare} Xm m d) ∗ oLoc d ↦{fullShare} gathered (Im m) (Xm m) d)
        ∗ held (SparseCore.T d) (ucRefs τ sig \ SC3) (V1 m d)) := by
  rw [held_sub_split (SparseCore.T d) SC3_sub, held_SC3]
  rw [show V2 m d vI = Im m d from Function.update_of_ne (show vI ≠ vO by decide) _ _,
    show V2 m d vX = Xm m d from Function.update_of_ne (show vX ≠ vO by decide) _ _,
    show V2 m d vO = gathered (Im m) (Xm m) d from Function.update_self _ _ _]
  rw [held_congr (SparseCore.T d) (S := ucRefs τ sig \ SC3) (V := V2 m d) (V' := V1 m d) fun b hb => Function.update_of_ne (by
    rintro rfl; exact (Finset.mem_sdiff.mp hb).2 (by decide)) _ _]

/-- What @main leaves: the two arguments and the result at the final contents. -/
abbrev FIN (d : Dev nD) : sProp 𝕄 := held (SparseCore.T d) SR3 (V3 m d)

set_option maxRecDepth 16384 in
/-- @main on device `d`'s TensorCore. -/
theorem hmain (κ : GSem nD τ sig → ℕ) (d : Dev nD) :
    iprop((K (F := F)).ctx EH (P (Im m) (Xm m) (Om m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from
    unscopedBufs_held d (V0 m d), main_eq]
  iintro ⟨#Hctx, Hst, ⟨Hb, Hheld, Hts, -⟩, -⟩
  iapply (wp_seq 𝒱 none Set.univ d (ucRefs τ sig) (fun _ => sc.run d 0 >>= fun _ => seq opsPost) opsPre opsPre_sub opsPre_fresh (V0 m d)) $$ [Hb Hheld]
  · isplitl [Hb] <;> iassumption
  iintro ⟨Hb, Hheld⟩
  ihave Hh := (Entails.of_eq (show (held (d.tc : Thread nD τ) (ucRefs τ sig) (after opsPre (V0 m d)) : sProp 𝕄) = _ from held_V1 m d)) $$ Hheld
  icases Hh with ⟨Hcall, Hrest⟩
  rw [wp_bind]
  iapply ((K (F := F)).wp_run (D (F := F)) 𝒱 (EH := EH) (P := P (Im m) (Xm m) (Om m)) κ d 0) $$ [Hst Hcall Hrest Hb Hts]
  isplitr; · iexact Hctx
  isplitl [Hst]; · iexact Hst
  isplitl [Hcall]
  · rw [st_eq]; iexact Hcall
  iintro ⟨Hst, Hdn⟩
  ihave Hdn' := (Entails.of_eq (dn_eq (Im m) (Xm m) (Om m) d)) $$ Hdn
  ihave Hheld := (Entails.of_eq (held_V2 m d).symm) $$ [Hdn' Hrest]
  · isplitl [Hdn'] <;> iassumption
  rw [show (seq (opsPost (F := F)) : Prog (TpuEff nD τ sig (Elt F) _ .tc) PUnit) = (seq opsPost >>= fun _ => pure ⟨⟩) from (bind_pure _).symm]
  iapply (wp_seq 𝒱 none Set.univ d (ucRefs τ sig) (fun _ => pure ⟨⟩) opsPost opsPost_sub opsPost_fresh (V2 m d)) $$ [Hb Hheld]
  · isplitl [Hb] <;> iassumption
  iintro ⟨Hb, Hheld⟩
  ihave Hh := (Entails.of_eq (show (held (d.tc : Thread nD τ) (ucRefs τ sig) (after opsPost (V2 m d)) : sProp 𝕄) = _
    from held_sub_split (SparseCore.T d) SR3_sub (V3 m d))) $$ Hheld
  icases Hh with ⟨Hfin, -⟩
  rw [wp_pure]; imodintro
  isplitl [Hst]; · iexact Hst
  isplitl [Hfin]; · iexact Hfin
  isplitl [Hb] <;> iassumption

/-- The final memory at the arguments and the result. -/
def fq (d : Dev nD) (s' : Phys nD τ sig (Elt F)) : Prop :=
  s'.mem.mem ((SparseCore.T d).loc main_arg0) = V3 m d a0 ∧ s'.mem.mem ((SparseCore.T d).loc main_arg1) = V3 m d a1
    ∧ s'.mem.mem ((SparseCore.T d).loc main_v12) = V3 m d vR

set_option maxRecDepth 16384 in
/-- From what is held at the end, what the memory holds at the end. -/
theorem hfin (d : Dev nD) (s' : Phys nD τ sig (Elt F)) : iprop(FIN m d ∗ SI s') ⊢ (⌜fq m d s'⌝ : sProp 𝕄) := by
  unfold FIN
  rw [held_SR3]
  iintro ⟨⟨H0, H1, H2⟩, HSI⟩
  ihave H := (persistent_entails_right (SI_pointsTo_agree (st := s') (ℓ := (SparseCore.T d).loc main_arg0) (I := Finset.univ) (q := fullShare) (f := V3 m d a0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V3 m d a1))) $$ [HSI H1]
  · isplitl [HSI] <;> iassumption
  icases H with ⟨%h1, HSI, -⟩
  ihave H := (SI_pointsTo_agree (st := s') (ℓ := (SparseCore.T d).loc main_v12) (I := Finset.univ) (q := fullShare) (f := V3 m d vR)) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-! ## The run -/

/-- What every execution ends in. -/
def QC : PUnit × MemSt nD τ sig (Elt F) → Prop := fun r =>
  (∀ d : Dev nD, r.2.mem ((SparseCore.T d).loc main_arg0) = V3 m d a0 ∧ r.2.mem ((SparseCore.T d).loc main_arg1) = V3 m d a1
    ∧ r.2.mem ((SparseCore.T d).loc main_v12) = V3 m d vR) ∧ r.2.sem = fun _ => 0

/-- Every weakly fair execution ends, at the final contents and every counter at zero, if every index names a row. -/
theorem runs [∀ e, Nonempty (Elt F e)] (hI : InTable (Im m)) :
    θ_run (Cert.LookupIdeal.defs (F := F)) (Cert.LookupIdeal.threads (F := F)) ⟨m, fun _ => 0, ρ⟩ (QC m) :=
  SparseCore.Cfg.θ_run_sc_quiescent (K := K (F := F)) (D := D (F := F)) (𝒱 := 𝒱) (EH := EH) (P := P (Im m) (Xm m) (Om m)) (A := ∅) facts v₀
    (fun q hq => match q with | 0 => nomatch hq)
    (fun q _ => match q with | 0 => tileObl (Im m) (Xm m) (Om m) hI)
    (fun q _ => match q with | 0 => SparseCore.Cfg.VecSplit.of_plain (vecSplit (Im m) (Xm m) (Om m)))
    m ρ main (fun _ => iprop(emp)) (FIN m) (u₀ (F := F)) (sep_elim_left.trans (hu₀ (Im m) (Xm m) (Om m))) (hmain m ρ) (fq m) (hfin m) (QC m) (fun _ h hz => ⟨h, hz⟩)

end Cert.Proof.LookupIdealRun

end
-- ==== Proof.LookupIdealValue.lean ====
/-
  What the lookup program returns, as a function of its two arguments.

  `result_eq`: where every code is below 8192, the result is the array of table rows that the codes name, reshaped and
  transposed. `args_eq`: the two arguments are as they were. The kernel reads the table as 4096 rows of 128 words, two
  table rows side by side, fetches row `code / 2` and keeps the half that the code's parity names; `half_toNat` and
  `odd_eq` are those two integer steps as the program prints them.
-/
module

public import proofs.«01_k».proof.Proof.LookupIdealMain
public import Idealize.ShloMosaic.Lib.StableHlo.Run
public import Idealize.ShloMosaic.Lib.StableHlo.Predicate
public import Idealize.ShloMosaic.Lib.Pipeline.Value
public import Idealize.ShloMosaic.Lib.Affine

@[expose] public section

set_option maxRecDepth 16384

noncomputable section

namespace Cert.Proof.LookupIdealRun

open Cert.LookupIdeal Cert.LookupIdeal.Gen
open Idealize.ShloMosaic Idealize.ShloMosaic.TcCoe Idealize.ShloMosaic.StableHlo

variable {F : FTy → Type} [FloatOps F]

/-! ## A code halved, and its parity -/

/-- The sign of a word: 0, -1 or 1. -/
def sgn (v : BitVec 32) : BitVec 32 := signi (s := S_) (fun _ => v) (fun a => a.elim0)

/-- The floor of `v / 2`, as the program computes it. -/
def half (v : BitVec 32) : BitVec 32 :=
  Scalar.select (IntOp.andi (IntOp.cmpi .ne (sgn v) (sgn 2#32))
      (IntOp.cmpi .ne (IntOp.remsi .host v 2#32) 0#32))
    (IntOp.subi (IntOp.divsi .host v 2#32) 1#32) (IntOp.divsi .host v 2#32)

/-- Whether `v` is odd, as the program computes it. -/
def odd (v : BitVec 32) : BitVec 1 :=
  IntOp.cmpi .eq
    (Scalar.select (IntOp.andi (IntOp.cmpi .ne (IntOp.cmpi .slt (IntOp.remsi .host v 2#32) 0#32) 0#1)
        (IntOp.cmpi .ne (IntOp.remsi .host v 2#32) 0#32))
      (IntOp.addi (IntOp.remsi .host v 2#32) 2#32) (IntOp.remsi .host v 2#32)) 1#32

/-- The quotient of a code by two, read as a number. -/
theorem quot_toNat (v : BitVec 32) (hv : v.toNat < 8192) : (IntOp.divsi .host v 2#32).toNat = v.toNat / 2 :=
  StableHlo.Predicate.divsi_two .host v (by omega)

/-- The remainder of a code by two, read as a number. -/
theorem rem_toNat (v : BitVec 32) (hv : v.toNat < 8192) : (IntOp.remsi .host v 2#32).toNat = v.toNat % 2 :=
  IntOp.toNat_remsi .host (by omega) 2 (by decide) (by decide)

/-- The pair row of a code. -/
theorem half_toNat (v : BitVec 32) (hv : v.toNat < 8192) : (half v).toNat = v.toNat / 2 := by
  have hmsb : v.msb = false := by rw [BitVec.msb_eq_false_iff_two_mul_lt]; omega
  have hc : IntOp.andi (IntOp.cmpi .ne (sgn v) (sgn 2#32))
      (IntOp.cmpi .ne (IntOp.remsi .host v 2#32) 0#32) = 0#1 := by
    by_cases h0 : v = 0
    · subst h0
      have : IntOp.remsi .host (0 : BitVec 32) 2#32 = 0#32 := BitVec.eq_of_toNat_eq (rem_toNat 0 (by decide))
      rw [this]; simp [IntOp.cmpi, IntOp.andi]
    · have h1 : sgn v = 1#32 := by unfold sgn signi; rw [if_neg h0, hmsb]; decide
      have h2 : sgn 2#32 = 1#32 := by unfold sgn signi; decide
      rw [h1, h2]
      simp [IntOp.cmpi, IntOp.andi]
  unfold half
  rw [hc]
  exact quot_toNat v hv

/-- Which half of the pair row a code takes. -/
theorem odd_eq (v : BitVec 32) (hv : v.toNat < 8192) : odd v = if v.toNat % 2 = 1 then 1#1 else 0#1 := by
  have hr := rem_toNat v hv
  rcases Nat.mod_two_eq_zero_or_one v.toNat with h | h
  · have hz : IntOp.remsi .host v 2#32 = 0#32 := BitVec.eq_of_toNat_eq (by rw [hr, h]; rfl)
    unfold odd; rw [hz, if_neg (by omega)]; decide
  · have hz : IntOp.remsi .host v 2#32 = 1#32 := BitVec.eq_of_toNat_eq (by rw [hr, h]; rfl)
    unfold odd; rw [hz, if_pos h]; decide

/-! ## The program's arrays at an index -/

variable (m : (ℓ : Loc nD τ sig) → Buf (Elt F) ℓ)

abbrev bC : DevRef τ sig := Proc.devRef .tc main_v0

/-- The flat list of codes. -/
def codes (d : Dev nD) : S4096.Idx → BitVec 32 := shapeCast S4096 (m (d, a0)) shapeCasts_S4096x1_S4096

/-- The table in rows of 128. -/
def pairs (d : Dev nD) : (⟨S4096x128, .f32⟩ : BufTy).Contents (Elt F) :=
  shapeCast S4096x128 (m (d, a1)) shapeCasts_S8192x64_S4096x128

/-- The SparseCore call is asked for the codes' pair rows. -/
theorem list_eq (d : Dev nD) : Im m d = fun j => half (codes m d j) := by
  unfold Im V1
  simp only [opsPre, TRef.binary, TRef.nullary, TRef.ternary, TRef.unary, TRef.toBuf, TRef.ofBuf, cast_eq]
  after_results
  rfl

/-- The SparseCore call's table is the codebook in pair rows. -/
theorem table_eq (d : Dev nD) : Xm m d = pairs m d := by
  unfold Xm V1
  simp only [opsPre, TRef.binary, TRef.nullary, TRef.ternary, TRef.unary, TRef.toBuf, TRef.ofBuf, cast_eq]
  after_results
  rfl

/-- The SparseCore call keeps the codes. -/
theorem codes_eq (d : Dev nD) : V2 m d bC = codes m d := by
  unfold V2
  rw [Function.update_of_ne (by decide)]
  unfold V1
  simp only [opsPre, TRef.binary, TRef.nullary, TRef.ternary, TRef.unary, TRef.toBuf, TRef.ofBuf, cast_eq]
  after_results
  rfl

/-- The arguments are kept. -/
theorem args_eq (d : Dev nD) : V3 m d a0 = m (d, a0) ∧ V3 m d a1 = m (d, a1) := by
  constructor <;>
  · unfold V3
    simp only [opsPost, TRef.binary, TRef.nullary, TRef.ternary, TRef.unary, TRef.toBuf, TRef.ofBuf, cast_eq]
    after_results
    unfold V2
    rw [Function.update_of_ne (by decide)]
    unfold V1
    simp only [opsPre, TRef.binary, TRef.nullary, TRef.ternary, TRef.unary, TRef.toBuf, TRef.ofBuf, cast_eq]
    after_results
    rfl

/-- The half of each fetched row that the code's parity names. -/
def picked (d : Dev nD) : S4096x64.Idx → Elt F .f32 :=
  select (broadcastInDim S4096x64 ![0, 1] bcast_S4096x1_S4096x64_0_1
      (broadcastInDim S4096x1 ![0] bcast_S4096_S4096x1_0 (fun j => odd (codes m d j))))
    (extractStridedSlice S4096x64 ![0, 64] (gathered (Im m) (Xm m) d) slices_S4096x128_S4096x64_0_64)
    (extractStridedSlice S4096x64 ![0, 0] (gathered (Im m) (Xm m) d) slices_S4096x128_S4096x64_0_0)

/-- The result, from the halves picked. -/
theorem result_picked (d : Dev nD) : V3 m d vR = transpose S4x64x32x32 [0, 3, 1, 2]
    (shapeCast S4x32x32x64 (picked m d) shapeCasts_S4096x64_S4x32x32x64) transposes_S4x32x32x64_S4x64x32x32_0_3_1_2 := by
  have hO : V2 m d vO = gathered (Im m) (Xm m) d := by unfold V2; rw [Function.update_self]
  unfold V3
  simp only [opsPost, TRef.binary, TRef.nullary, TRef.ternary, TRef.unary, TRef.toBuf, TRef.ofBuf, cast_eq]
  after_results
  rw [codes_eq, hO]
  rfl

/-- The table row that code `v` names (row 0 where there is none), at column `k`. -/
def codeIdx (v : BitVec 32) (k : Fin 64) : S8192x64.Idx :=
  ValueIdx.ix2 (if h : v.toNat < 8192 then ⟨v.toNat, h⟩ else ⟨0, by decide⟩) k

/-- The rows of the table that the codes name, in the codes' order. -/
def rows (d : Dev nD) : S4096x64.Idx → Elt F .f32 := fun i => m (d, a1) (codeIdx (codes m d (ValueIdx.ix1 (i 0))) (i 1))

/-- Every code names a row of the table. -/
def CodesOk : Prop := ∀ (d : Dev nD) (j : S4096.Idx), (codes m d j).toNat < 8192

/-- Where the codes are in the codebook their pair rows are in the call's table. -/
theorem inTable (hC : CodesOk m) : InTable (Im m) := by
  intro d j
  rw [list_eq]
  show (half (codes m d j)).toNat < 4096
  rw [half_toNat _ (hC d j)]
  have := hC d j
  omega

/-- A word of the pair table: row `v / 2`, the half that `v`'s parity names, column `k` is row `v` of the table. -/
theorem pairs_apply (d : Dev nD) (v : BitVec 32) (hv : v.toNat < 8192) (k : Fin 64) (k' : Fin 128)
    (hk : k'.val = k.val + 64 * (v.toNat % 2)) : pairs m d (srcIdx (half v) k') = m (d, a1) (codeIdx v k) := by
  refine shapeCast_apply (s := S8192x64) (m (d, a1)) shapeCasts_S8192x64_S4096x128 (srcIdx (half v) k') (codeIdx v k) ?_
  have hh := half_toNat v hv
  rw [Shape.rowMajor_val_two, Shape.rowMajor_val_two]
  unfold codeIdx srcIdx
  rw [dif_pos hv, dif_pos (show (half v).toNat < 4096 by omega)]
  show v.toNat * 64 + k.val = (half v).toNat * 128 + k'.val
  omega

/-- The halves picked are the codebook's rows that the codes name. -/
theorem picked_eq (hC : CodesOk m) (d : Dev nD) : picked m d = rows m d := by
  funext i
  have hv := hC d (ValueIdx.ix1 (i 0))
  have hbit : broadcastInDim S4096x64 ![0, 1] bcast_S4096x1_S4096x64_0_1
      (broadcastInDim S4096x1 ![0] bcast_S4096_S4096x1_0 (fun j => odd (codes m d j))) i
      = odd (codes m d (ValueIdx.ix1 (i 0))) := by
    rw [broadcastInDim_apply _ bcast_S4096x1_S4096x64_0_1 _ i (ValueIdx.ix2 (i 0) (0 : Fin 1)) (fun a => match a with
        | ⟨0, _⟩ => by show (i 0).val = if (4096 : Nat) = 1 then 0 else (i 0).val; rw [if_neg (by decide)]
        | ⟨1, _⟩ => by show 0 = if (1 : Nat) = 1 then 0 else (i 1).val; rw [if_pos rfl]),
      broadcastInDim_apply _ bcast_S4096_S4096x1_0 _ (ValueIdx.ix2 (i 0) (0 : Fin 1)) (ValueIdx.ix1 (i 0)) (fun a => match a with
        | ⟨0, _⟩ => by show (i 0).val = if (4096 : Nat) = 1 then 0 else (i 0).val; rw [if_neg (by decide)])]
  have h1 : (i 1).val < 64 := (i 1).isLt
  show Scalar.select (broadcastInDim S4096x64 ![0, 1] bcast_S4096x1_S4096x64_0_1
      (broadcastInDim S4096x1 ![0] bcast_S4096_S4096x1_0 (fun j => odd (codes m d j))) i) _ _ = _
  rw [hbit, odd_eq _ hv]
  have hG : ∀ (k' : Fin 128), gathered (Im m) (Xm m) d (ValueIdx.ix2 (i 0) k')
      = pairs m d (srcIdx (half (codes m d (ValueIdx.ix1 (i 0)))) k') := by
    intro k'
    show Xm m d (srcIdx (Im m d (ValueIdx.ix1 (i 0))) k') = _
    rw [list_eq, table_eq]
  show Scalar.select _ (extractStridedSlice (s := S4096x128) S4096x64 ![0, 64] (gathered (Im m) (Xm m) d) slices_S4096x128_S4096x64_0_64 i)
    (extractStridedSlice (s := S4096x128) S4096x64 ![0, 0] (gathered (Im m) (Xm m) d) slices_S4096x128_S4096x64_0_0 i) = rows m d i
  generalize gathered (Im m) (Xm m) d = G at hG ⊢
  rcases Nat.mod_two_eq_zero_or_one (codes m d (ValueIdx.ix1 (i 0))).toNat with h | h
  · rw [if_neg (by omega), ValueIdx.select_zero]
    refine (extractStridedSlice_apply (s := S4096x128) ![0, 0] G slices_S4096x128_S4096x64_0_0 i (ValueIdx.ix2 (i 0) ⟨(i 1).val, by omega⟩) (fun a => match a with
      | ⟨0, _⟩ => by show (i 0).val = 0 + (i 0).val; omega
      | ⟨1, _⟩ => by show (i 1).val = 0 + (i 1).val; omega)).trans ((hG _).trans ?_)
    exact pairs_apply m d _ hv (i 1) _ (by show (i 1).val = _; omega)
  · rw [if_pos h, ValueIdx.select_one]
    refine (extractStridedSlice_apply (s := S4096x128) ![0, 64] G slices_S4096x128_S4096x64_0_64 i (ValueIdx.ix2 (i 0) ⟨64 + (i 1).val, by omega⟩) (fun a => match a with
      | ⟨0, _⟩ => by show (i 0).val = 0 + (i 0).val; omega
      | ⟨1, _⟩ => by show 64 + (i 1).val = 64 + (i 1).val; omega)).trans ((hG _).trans ?_)
    exact pairs_apply m d _ hv (i 1) _ (by show 64 + (i 1).val = _; omega)

/-- WHAT THE PROGRAM RETURNS: the rows that the codes name, reshaped and transposed. -/
theorem result_eq (hC : CodesOk m) (d : Dev nD) : V3 m d vR = transpose S4x64x32x32 [0, 3, 1, 2]
    (shapeCast S4x32x32x64 (rows m d) shapeCasts_S4096x64_S4x32x32x64) transposes_S4x32x32x64_S4x64x32x32_0_3_1_2 := by
  rw [result_picked, picked_eq m hC]

end Cert.Proof.LookupIdealRun

end
-- ==== Proof.LookupRefValue.lean ====
/-
  What the reference lookup returns, and the lookup's claims.

  The reference is `jnp.take(embedding, codes, axis=0)` with a reshape and a transpose. `take_eq`: where every code is below
  8192, what `jnp.take` leaves (a gather, filled where an index is out of range) is the rows that the codes name, so
  the reference returns the array that the kernel returns (`Cert.Proof.LookupIdealRun.result_eq`). `codes_lt` reads the
  precondition at one code.
-/
module

public import proofs.«01_k».proof.Proof.LookupIdealValue
public import proofs.«01_k».proof.Proof.Gen.LookupRefIdeal.Run
public import proofs.«01_k».proof.Proof.Gen.LookupRefIdeal.Read
public import proofs.«01_k».proof.Proof.Gen.Pre_codes_in_range
public import Idealize.ShloMosaic.Lib.ReduceAll

@[expose] public section

set_option maxRecDepth 16384

noncomputable section

namespace Cert.Proof.LookupRef

open Cert.LookupRefIdeal Cert.LookupRefIdeal.Gen Cert.LookupRefIdeal.Read
open Idealize.ShloMosaic Idealize.ShloMosaic.TcCoe Idealize.ShloMosaic.StableHlo Idealize.SL.Sem

variable {F : FTy → Type} [FloatOps F]

/-! ## The precondition at one code -/

/-- A word that is at least 0 and below 8192 as a signed integer is below 8192. -/
theorem lt_of_bits (v : BitVec 32) (h : IntOp.andi (IntOp.cmpi .sge v 0#32) (IntOp.cmpi .slt v 8192#32) = 1#1) : v.toNat < 8192 := by
  rw [IntOp.andi_eq_one] at h
  have h0 : (0#32).sle v = true := by
    have e : BitVec.ofBool ((0#32).sle v) = 1#1 := h.1
    cases hb : (0#32).sle v <;> simp_all
  have h1 : v.slt 8192#32 = true := by
    have e : BitVec.ofBool (v.slt 8192#32) = 1#1 := h.2
    cases hb : v.slt 8192#32 <;> simp_all
  rw [BitVec.sle_eq_decide, decide_eq_true_eq] at h0
  rw [BitVec.slt_eq_decide, decide_eq_true_eq] at h1
  have e0 : (0#32).toInt = 0 := by decide
  have e1 : (8192#32).toInt = 8192 := by decide
  rw [e0] at h0
  rw [e1] at h1
  have := v.isLt
  rw [BitVec.toInt_eq_toNat_cond] at h0 h1
  split at h0 <;> split at h1 <;> omega

/-- The precondition says that each code is below 8192. -/
theorem codes_lt (x0 : IVec S4096x1 32) (x1 : FVec F S8192x64 .f32)
    (h : Cert.Pre_codes_in_range.fn (F := F) x0 x1 = fun _ => 1#1) (i : S4096x1.Idx) : (x0 i).toNat < 8192 := by
  have hj := congrFun h (fun a => a.elim0)
  haveI : Subsingleton Cert.Pre_codes_in_range.S_.Idx := ⟨fun a b => funext fun k => k.elim0⟩
  exact lt_of_bits _ (Host.reduce_andi_all _ _ Cert.Pre_codes_in_range.Gen.reducesTo_S4096x1_S_d0_1 Cert.Pre_codes_in_range.Gen.h_S_ _ hj i)

/-! ## The reference's gather -/

/-- The gather at `(r, k)`: row `idx[r, 0]`, read as a signed integer and clamped into the table, at column `k`. -/
theorem gather_apply {α : Type} (x : S8192x64.Idx → α) (idx : IVec S4096x1 32) (y : S4096x64.Idx) :
    Host.gather gather_S8192x64_S4096x1_S4096x64_1_0_n_n_0_1_164 x idx y
      = x (ValueIdx.ix2 ⟨min (idx (ValueIdx.ix2 (y 0) (0 : Fin 1))).toInt.toNat 8191, by omega⟩ (y 1)) := by
  set D := gather_S8192x64_S4096x1_S4096x64_1_0_n_n_0_1_164 with hD
  unfold Host.gather
  congr 1
  funext a
  refine Fin.ext ?_
  show D.start y idx a + D.batchCoord y a + D.offCoord y a = _
  have h01 : a = 0 ∨ a = 1 := by
    match a with
    | ⟨0, _⟩ => exact Or.inl rfl
    | ⟨1, _⟩ => exact Or.inr rfl
  rw [GatherDims.batchCoord_eq_zero _ _ _ (fun h => by simp [hD, gather_S8192x64_S4096x1_S4096x64_1_0_n_n_0_1_164] at h)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx y ⟨List.idxOf (0 : Fin 2) D.startIndexMap,
        List.idxOf_lt_length_iff.2 (List.mem_singleton.mpr rfl)⟩ = ValueIdx.ix2 (y 0) (0 : Fin 1) := by
      funext b; refine Fin.ext ?_
      match b with
      | ⟨0, _⟩ => rfl
      | ⟨1, _⟩ => rfl
    rw [hsi]
    rfl
  · have hs : D.start y idx 1 = 0 := by
      unfold GatherDims.start
      rw [dif_neg (show ¬ (1 : Fin 2) ∈ D.startIndexMap from by simp [hD, gather_S8192x64_S4096x1_S4096x64_1_0_n_n_0_1_164])]
    rw [hs]
    rw [Nat.add_zero, Nat.zero_add]
    rfl

/-- The row that a code in range names is the row that the gather reads. -/
theorem codeIdx_eq (v : BitVec 32) (hv : v.toNat < 8192) (k : Fin 64) (h : min v.toInt.toNat 8191 < 8192) :
    (ValueIdx.ix2 (⟨min v.toInt.toNat 8191, h⟩ : Fin 8192) k : S8192x64.Idx) = Cert.Proof.LookupIdealRun.codeIdx v k := by
  have hi : v.toInt = (v.toNat : Int) := by rw [BitVec.toInt_eq_toNat_cond, if_pos (by omega)]
  unfold Cert.Proof.LookupIdealRun.codeIdx
  rw [dif_pos hv]
  congr 1
  refine Fin.ext ?_
  show min v.toInt.toNat 8191 = v.toNat
  rw [hi]
  omega

/-- The start index that the reference computes of a code in range is the code. -/
theorem start_eq (x0 : (⟨S4096x1, .i32⟩ : BufTy).Contents (Elt F)) (hC : ∀ j, (val_main_v0 (F := F) x0 j).toNat < 8192) (i : S4096x1.Idx) :
    val_main_call0_v5 (F := F) x0 i = val_main_v0 (F := F) x0 (ValueIdx.ix1 (i 0)) := by
  rw [val_main_call0_v5_apply]
  show val_main_call0_v4 (F := F) x0 (ValueIdx.ix1 (i 0)) = _
  rw [val_main_call0_v4_apply, val_main_call0_v1_apply, val_main_call0_v0_apply, val_main_call0_c_apply]
  have hv := hC (ValueIdx.ix1 (i 0))
  generalize val_main_v0 (F := F) x0 (ValueIdx.ix1 (i 0)) = v at hv ⊢
  replace hv : (v : BitVec 32).toNat < 8192 := hv
  have hc : IntOp.cmpi .slt v 0#32 = 0#1 := by
    have hi : v.toInt = (v.toNat : Int) := by rw [BitVec.toInt_eq_toNat_cond, if_pos (by omega)]
    have hs : v.slt 0#32 = false := by
      rw [BitVec.slt_eq_decide, hi]
      exact decide_eq_false (by simp)
    show BitVec.ofBool (v.slt 0#32) = 0#1
    rw [hs]; rfl
  rw [hc]; rfl

/-- No entry is filled: every code is in range. -/
theorem mask_eq (x0 : (⟨S4096x1, .i32⟩ : BufTy).Contents (Elt F)) (hC : ∀ j, (val_main_v0 (F := F) x0 j).toNat < 8192) (j : S4096.Idx) :
    val_main_call0_v12 (F := F) x0 j = 1#1 := by
  unfold val_main_call0_v12
  refine Host.reduce_andi_one _ _ _ _ _ rfl fun i => ?_
  rw [val_main_call0_v11_apply, val_main_call0_v7_apply, val_main_call0_v10_apply, start_eq x0 hC, val_main_call0_v6_apply,
    val_main_call0_c_2_apply, val_main_call0_v9_apply, val_main_call0_v8_apply, val_main_call0_c_1_apply]
  have hv := hC (ValueIdx.ix1 (i 0))
  generalize val_main_v0 (F := F) x0 (ValueIdx.ix1 (i 0)) = v at hv ⊢
  have hi : v.toInt = (v.toNat : Int) := by rw [BitVec.toInt_eq_toNat_cond, if_pos (by omega)]
  rw [IntOp.andi_eq_one]
  simp only [IntOp.cmpi, BitVec.sle_eq_decide, hi]
  constructor
  · rw [decide_eq_true (by simp)]; rfl
  · rw [decide_eq_true (by simp; omega)]; rfl

/-- `jnp.take` at codes in range: the rows that the codes name. -/
theorem take_eq (x0 : (⟨S4096x1, .i32⟩ : BufTy).Contents (Elt F)) (x1 : (⟨S8192x64, .f32⟩ : BufTy).Contents (Elt F))
    (hC : ∀ j, (val_main_v0 (F := F) x0 j).toNat < 8192) :
    val_main_v1 (F := F) x0 x1 = fun i => x1 (Cert.Proof.LookupIdealRun.codeIdx (val_main_v0 (F := F) x0 (ValueIdx.ix1 (i 0))) (i 1)) := by
  funext i
  rw [val_main_v1_apply, val_main_call0_v14_apply, mask_eq x0 hC, ValueIdx.select_one]
  unfold val_main_call0_v13
  refine (gather_apply x1 _ i).trans (congrArg x1 ?_)
  have hs : val_main_call0_v5 (F := F) x0 (ValueIdx.ix2 (i 0) (0 : Fin 1)) = val_main_v0 (F := F) x0 (ValueIdx.ix1 (i 0)) :=
    start_eq x0 hC (ValueIdx.ix2 (i 0) (0 : Fin 1))
  have hv := hC (ValueIdx.ix1 (i 0))
  rw [← hs] at hv ⊢
  exact codeIdx_eq _ hv (i 1) _

end Cert.Proof.LookupRef

end
-- ==== Proof.LookupClaims.lean ====
/-
  The lookup's claims: the frame of the program over words and over the reals, the frame of its reference, and that
  both return the same array.
-/
module

public import proofs.«01_k».proof.Proof.LookupRefValue

@[expose] public section

set_option maxRecDepth 16384

noncomputable section

namespace Cert.Proof.LookupClaims

open Idealize.ShloMosaic Idealize.ShloMosaic.TcCoe Idealize.SL.Sem

/-- The precondition gives every entry of the flat list of codes its range (over words). -/
theorem codesOk (m : (ℓ : Loc Cert.Lookup.nD Cert.Lookup.τ Cert.Lookup.sig) → Buf (Elt Bits) ℓ)
    (h : Cert.Pre_Lookup m) : Cert.Proof.LookupRun.CodesOk m :=
  fun d j => Cert.Proof.LookupRef.codes_lt _ _ (h d) _

/-- The same over the reals. -/
theorem codesOkIdeal (m : (ℓ : Loc Cert.LookupIdeal.nD Cert.LookupIdeal.τ Cert.LookupIdeal.sig) → Buf (Elt Ideal) ℓ)
    (h : Cert.Pre_LookupIdeal m) : Cert.Proof.LookupIdealRun.CodesOk m :=
  fun d j => Cert.Proof.LookupRef.codes_lt _ _ (h d) _

/-- The lookup runs over words, its arguments end unchanged and every counter ends at zero. -/
theorem frame : Cert.quiescent_Lookup := fun m ρ h =>
  (θ_run Cert.Lookup.defs _ _).mono
    (fun _ hr => ⟨fun c => ⟨(hr.1 c).1.trans (Cert.Proof.LookupRun.args_eq m c).1, (hr.1 c).2.1.trans (Cert.Proof.LookupRun.args_eq m c).2⟩, hr.2⟩)
    (Cert.Proof.LookupRun.runs (F := Bits) m ρ (Cert.Proof.LookupRun.inTable m (codesOk m h)))

/-- The lookup runs over the reals, its arguments end unchanged and every counter ends at zero. -/
theorem frameIdeal : Cert.quiescent_LookupIdeal := fun m ρ h =>
  (θ_run Cert.LookupIdeal.defs _ _).mono
    (fun _ hr => ⟨fun c => ⟨(hr.1 c).1.trans (Cert.Proof.LookupIdealRun.args_eq m c).1, (hr.1 c).2.1.trans (Cert.Proof.LookupIdealRun.args_eq m c).2⟩, hr.2⟩)
    (Cert.Proof.LookupIdealRun.runs (F := Ideal) m ρ (Cert.Proof.LookupIdealRun.inTable m (codesOkIdeal m h)))

/-- The reference runs, its arguments end unchanged; it declares no semaphore. -/
theorem frameRef : Cert.quiescent_LookupRefIdeal := fun m ρ _ =>
  (θ_run Cert.LookupRefIdeal.defs _ _).mono (fun r h => ⟨fun c => (h c).2, sem_eq_zero_of_no_sems (by decide) r.2⟩)
    (Cert.LookupRefIdeal.Value.run (F := Ideal) m ρ)

/-- The lookup and its reference return the same array. -/
theorem algebraic : Cert.algebraic_LookupIdeal_LookupRefIdeal := by
  intro m ρ m' ρ' hpre hagree
  have hC := codesOkIdeal m hpre
  refine ⟨fun c => Cert.Proof.LookupIdealRun.V3 m c Cert.Proof.LookupIdealRun.vR, ?_, ?_⟩
  · exact (θ_run Cert.LookupIdeal.defs _ _).mono
      (fun _ hr c => ⟨(hr.1 c).2.2, (hr.1 c).1.trans (Cert.Proof.LookupIdealRun.args_eq m c).1,
        (hr.1 c).2.1.trans (Cert.Proof.LookupIdealRun.args_eq m c).2⟩)
      (Cert.Proof.LookupIdealRun.runs (F := Ideal) m ρ (Cert.Proof.LookupIdealRun.inTable m hC))
  · refine (θ_run Cert.LookupRefIdeal.defs _ _).mono (fun _ h c => ⟨(h c).1.trans ?_, (h c).2⟩)
      (Cert.LookupRefIdeal.Value.run (F := Ideal) m' ρ')
    refine (Cert.LookupRefIdeal.Read.val_main_v3_eq _ _).trans ?_
    rw [(hagree c).1, (hagree c).2]
    refine Eq.trans ?_ (Cert.Proof.LookupIdealRun.result_eq m hC c).symm
    unfold Cert.LookupRefIdeal.Read.val_main_v3 Cert.LookupRefIdeal.Read.val_main_v2
    rw [Cert.Proof.LookupRef.take_eq _ _ (fun j => hC c j)]
    rfl

end Cert.Proof.LookupClaims

end
-- ==== Proof.KernelRun.lean ====
/-
  The SparseCore call of the lookup program, run once at a symbolic tile.

  The call runs on 2 SparseCores of 16 tiles. Tile `(c, s)` is worker `w = 2 s + c`: it copies entries
  `[128 w, 128 w + 128)` of the index list into its own memory, fetches the rows of the pair table that they name by
  one indirect gather, and copies the 128 fetched rows to rows `[128 w, 128 w + 128)` of the output.

  The index list and the pair table are read by all tiles at once: each tile holds one of 32 shares of either. The
  output is dealt out in 32 blocks of rows. What the output holds afterwards is `gathered`: row `r` is the row of the
  table that entry `r` of the list names. Everything is generic in the float instance, in the contents of the list
  (`I`), of the table (`X`) and of the output before the call (`O₀`); the one hypothesis is that every index names
  a row (`InTable`).
-/
module

public import proofs.«01_k».proof.Proof.LookupIdealValue
public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.ShareLeaves
public import Idealize.ShloMosaic.Lib.ValueIdxCore
public import Idealize.ShloMosaic.Lib.ValueIdx
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores. -/
theorem nCore_zero : (K (F := F)).nCore 0 = 2 := rfl
/-- Each SparseCore has sixteen tiles. -/
theorem nSub_zero : (K (F := F)).nSub 0 = 16 := rfl

/-- The launch semaphores are distinct and unscoped, and no SparseCore buffer is reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The buffers -/

/-- The index list, the pair table and the output of the call, on device `d`. -/
abbrev iLoc (d : Dev nD) : Loc nD τ sig := (SparseCore.T d).loc main_v5
abbrev xLoc (d : Dev nD) : Loc nD τ sig := (SparseCore.T d).loc main_v4
abbrev oLoc (d : Dev nD) : Loc nD τ sig := (SparseCore.T d).loc main_v6

/-- The same three as a tile names them, and the tile's two scratch buffers. -/
abbrev iV : Memref sig .scVector .hbm S4096 .i32 := Memref.whole main_v5_scv
abbrev xV : Memref sig .scVector .hbm S4096x128 .f32 := Memref.whole main_v4_scv
abbrev oV : Memref sig .scVector .hbm S4096x128 .f32 := Memref.whole main_v6_scv
abbrev sV : Memref sig .scVector .vmem S128 .i32 := Memref.whole cc1_scratch0
abbrev rV : Memref sig .scVector .vmem S128x128 .f32 := Memref.whole cc1_scratch1

/-- The result's rows divide into 32 equal parts. -/
theorem odiv : 32 ∣ S4096x128.size 0 := ⟨128, rfl⟩
/-- Worker `w`'s block of 128 rows of the output. -/
abbrev oRow (w : Fin 32) : Rect S4096x128 := Rect.part (s := S4096x128) (a₀ := 0) odiv w
abbrev oRowSet (w : Fin 32) : Finset S4096x128.Idx := ((oV).view.slice (oRow w)).set

/-- The number of the worker on SparseCore `c`, tile `s`. -/
def wid (c : Fin 2) (s : Fin 16) : Fin 32 := ⟨2 * s.val + c.val, by omega⟩

/-! ## Shares and numbering -/

/-- Worker `w`'s share of the list and of the table. -/
abbrev wq (w : Fin 32) : PosShare TreeShare := ShareLeaves.leaf 5 fullShare w

/-- Shares and blocks are numbered by SparseCore and tile. -/
def widEquiv : Fin 2 × Fin 16 ≃ Fin 32 where
  toFun p := wid p.1 p.2
  invFun w := (⟨w.val % 2, by omega⟩, ⟨w.val / 2, by omega⟩)
  left_inv := by
    rintro ⟨c, s⟩
    exact Prod.ext (Fin.ext (by show (2 * s.val + c.val) % 2 = c.val; omega)) (Fin.ext (by show (2 * s.val + c.val) / 2 = s.val; omega))
  right_inv w := Fin.ext (by show 2 * (w.val / 2) + w.val % 2 = w.val; omega)

/-- A product over the workers is one over the SparseCores of one over the tiles. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ]
  exact bigSep_univ_prod (fun p : Fin 2 × Fin 16 => Φ (widEquiv p))

/-! ## What the call computes -/

variable (I : (d : Dev nD) → Buf (Elt F) (iLoc d)) (X : (d : Dev nD) → Buf (Elt F) (xLoc d)) (O₀ : (d : Dev nD) → Buf (Elt F) (oLoc d))

/-- Every index names a row of the pair table. -/
def InTable : Prop := ∀ (d : Dev nD) (j : S4096.Idx), ((I d j : BitVec 32)).toNat < 4096

/-- The row of the table that entry `r` of the list names, as an index at column `k`. (Out of the table: row 0.) -/
def srcIdx (v : BitVec 32) (k : Fin 128) : S4096x128.Idx :=
  ValueIdx.ix2 (if h : v.toNat < 4096 then ⟨v.toNat, h⟩ else ⟨0, by decide⟩ : Fin 4096) k

/-- The output of the call: row `r` is the row of the table that entry `r` of the list names. -/
def gathered (d : Dev nD) : Buf (Elt F) (oLoc d) := fun j => X d (srcIdx (I d (ValueIdx.ix1 (j 0))) (j 1))

/-! ## What the handshakes carry -/

/-- What worker `w` is handed: a share of the list, a share of the table, its block of the output; the block at `f`. -/
abbrev task (d : Dev nD) (w : Fin 32) (f : Buf (Elt F) (oLoc d)) : sProp 𝕄 :=
  iprop((iLoc d ↦{wq w} I d) ∗ (xLoc d ↦{wq w} X d) ∗ oLoc d ↦[oRowSet w]{fullShare} f)

/-- Each SparseCore takes its sixteen workers' holdings and brings them back with their blocks gathered. -/
def P : (K (F := F)).Pay (nD := nD) (Val := Elt F) (Name := ℕ) (U := UU) where
  st := fun q d c => match q with | 0 => bigSep Finset.univ fun s : Fin 16 => task I X d (wid (Fin.cast nCore_zero c) s) (O₀ d)
  dn := fun q d c => match q with | 0 => bigSep Finset.univ fun s : Fin 16 => task I X d (wid (Fin.cast nCore_zero c) s) (gathered I X d)
  go := fun q d c i => match q with | 0 => task I X d (wid (Fin.cast nCore_zero c) (Fin.cast nSub_zero i)) (O₀ d)
  td := fun q d c i => match q with | 0 => task I X d (wid (Fin.cast nCore_zero c) (Fin.cast nSub_zero i)) (gathered I X d)
  x := fun _ _ => iprop(emp)

instance P_storable : (P (F := F) I X O₀).IsStorable where
  st q d c := match q with
    | 0 => (inferInstance : BI.Storable (upEmb : UEmb _ 𝕄) (bigSep Finset.univ fun s : Fin 16 => task I X d (wid (Fin.cast nCore_zero c) s) (O₀ d)))
  dn q d c := match q with
    | 0 => (inferInstance : BI.Storable (upEmb : UEmb _ 𝕄) (bigSep Finset.univ fun s : Fin 16 => task I X d (wid (Fin.cast nCore_zero c) s) (gathered I X d)))
  go q d c i := match q with
    | 0 => (inferInstance : BI.Storable (upEmb : UEmb _ 𝕄) (task I X d (wid (Fin.cast nCore_zero c) (Fin.cast nSub_zero i)) (O₀ d)))
  td q d c i := match q with
    | 0 => (inferInstance : BI.Storable (upEmb : UEmb _ 𝕄) (task I X d (wid (Fin.cast nCore_zero c) (Fin.cast nSub_zero i)) (gathered I X d)))

variable [FloatOps F] [Named F]

/-! ## One tile's task -/

section Tile

variable (d : Dev nD) (L : grid1.Coords)

abbrev cV (L : grid1.Coords) : Fin τ.nSC := (L 0).castLE hcore1
abbrev jV (L : grid1.Coords) : Fin τ.nSub := (L 1).castLE hsub1
omit [FloatOps F] [Named F] in
/-- The launch's first bound is two. -/
theorem bound_zero : grid1.bound 0 = 2 := rfl
omit [FloatOps F] [Named F] in
/-- The launch's second bound is sixteen. -/
theorem bound_one : grid1.bound 1 = 16 := rfl
/-- The worker at grid point `L`. -/
abbrev wL (L : grid1.Coords) : Fin 32 := wid (Fin.cast bound_zero (L 0)) (Fin.cast bound_one (L 1))

abbrev irowK (L : grid1.Coords) : Rect S4096 := Rect.unit (s := S4096) (k1_off1 L) S128.size (k1_off1_inb L)
abbrev orowK (L : grid1.Coords) : Rect S4096x128 := Rect.unit (s := S4096x128) (k1_off2 L) S128x128.size (k1_off2_inb L)
/-- The worker's entries of the list, its block of the output and the whole table, as the task addresses them. -/
abbrev iRowK (L : grid1.Coords) : Memref sig .scVector .hbm S128 .i32 := (iV).slice (irowK L) (fun _ => rfl)
abbrev oRowK (L : grid1.Coords) : Memref sig .scVector .hbm S128x128 .f32 := (oV).slice (orowK L) (fun _ => rfl)
abbrev xAllK : Memref sig .scVector .hbm S4096x128 .f32 := (xV).slice (Rect.unit (s := S4096x128) ![0, 0] S4096x128.size inb_S4096x128_S4096x128_0_0) (fun _ => rfl)

omit [FloatOps F] [Named F] in
/-- The rows that a tile writes, as its copy names them, are its part of the result. -/
theorem orowK_eq : orowK L = oRow (wL L) := by
  unfold orowK oRow Rect.part Rect.block
  congr 1 <;> funext a
  · rw [k1_off2_eq]
    match a with
    | 0 =>
      have hw : (wL L).val = 2 * (L 1).val + (L 0).val := rfl
      show 256 * (L 1).val + 128 * (L 0).val = (wL L).val * 128
      omega
    | 1 => simp [Shape.partIx, Shape.partSize]
  · match a with
    | 0 => simp [Shape.partSize]
    | 1 => simp [Shape.partSize]

omit [FloatOps F] [Named F] in
/-- The places that a tile writes are its part of the result. -/
theorem set_oRowK : (oRowK L).view.set = oRowSet (wL L) := by
  show ((oV).view.slice (orowK L)).set = ((oV).view.slice (oRow (wL L))).set
  exact orowK_eq L ▸ rfl

omit [FloatOps F] [Named F] in
/-- A tile's part of the result, held as its copy names it. -/
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] [Named F] in
/-- The list of pair rows, held as the tile names it. -/
theorem pts_iV (q : PosShare TreeShare) (f : Buf (Elt F) (iLoc d)) :
    ((iV).view.loc (V d (cV L) (jV L)) ↦{q} f : sProp 𝕄) = iLoc d ↦{q} f := rfl
omit [FloatOps F] [Named F] in
/-- The table, held as the tile names it. -/
theorem pts_xV (q : PosShare TreeShare) (f : Buf (Elt F) (xLoc d)) :
    ((xV).view.loc (V d (cV L) (jV L)) ↦{q} f : sProp 𝕄) = xLoc d ↦{q} f := rfl
omit [FloatOps F] [Named F] in
/-- The tile's index buffer, held as the tile names it. -/
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] [Named F] in
/-- The tile's row buffer, held as the tile names it. -/
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] [Named F] in
/-- The tile's three transfer counters among the semaphores it is handed at zero. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] [Named F] in
/-- The two scratch buffers, at some contents, among the tile's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] [Named F] in
/-- Entry `x` of the worker's part of the list is entry `128 w + x` of the list. -/
theorem read_iRowK (x : S128.Idx) : (iRowK L).view.read (Elt F) (I d) x = I d ((iRowK L).view.emb x) :=
  (View.read_apply _ _).trans (cast_eq _ _)

omit [FloatOps F] [Named F] in
/-- The list as the tile fetched it: every word names a row of the table. -/
theorem fetched_lt (hI : InTable I) (fs : Buf (Elt F) ((V d (cV L) (jV L)).loc cc1_scratch0)) (pay : S128.Idx → Elt F .i32)
    (hpay : pay = (iRowK L).view.read (Elt F) (I d)) :
    ∀ x, ((sV).view.read (Elt F) (View.write (Elt F) (sV).view fs pay Finset.univ) x).toNat < S4096x128.size gathers_S4096x128_S128x128.axis := by
  subst hpay; intro x
  rw [View.write_whole_univ]
  simp only [Memref.view_whole, View.read_whole]
  rw [read_iRowK]
  exact hI d _

omit [FloatOps F] [Named F] in
/-- The rows that the indirect gather fetches are the worker's block of `gathered`. -/
theorem fetched_rows (fs : Buf (Elt F) ((V d (cV L) (jV L)).loc cc1_scratch0)) (pay : S128.Idx → Elt F .i32) (hI : InTable I)
    (hpay : pay = (iRowK L).view.read (Elt F) (I d)) (hn : S128.numel = S128x128.size gathers_S4096x128_S128x128.axis')
    (hin : ∀ x, ((sV).view.read (Elt F) (View.write (Elt F) (sV).view fs pay Finset.univ) x).toNat < S4096x128.size gathers_S4096x128_S128x128.axis)
    (y : S128x128.Idx) :
    SparseCore.gatherPayload gathers_S4096x128_S128x128 ((xAllK).view.read (Elt F) (X d))
      (SparseCore.rows ((sV).view.read (Elt F) (View.write (Elt F) (sV).view fs pay Finset.univ)) hn hin) y
      = gathered I X d ((oRowK L).view.emb y) := by
  have hl : ∀ x, (sV).view.read (Elt F) (View.write (Elt F) (sV).view fs pay Finset.univ) x = I d ((iRowK L).view.emb x) := by
    intro x
    rw [View.write_whole_univ]
    simp only [Memref.view_whole, View.read_whole]
    rw [hpay, read_iRowK]
  unfold SparseCore.gatherPayload
  rw [View.read_apply, cast_eq]
  unfold gathered
  refine congrArg (X d) ?_
  have he : ∀ a, ((oRowK L).view.emb y a).val = (k1_off2 L) a + 1 * (y a).val := fun a => rfl
  have hrow : (iRowK L).view.emb (S128.rowMajor.symm ((y 0).cast (show 128 = S128.numel by decide))) = ValueIdx.ix1 ((oRowK L).view.emb y 0) := by
    funext a
    match a with
    | 0 =>
      apply Fin.ext
      show k1_off1 L 0 + 1 * (S128.rowMajor.symm ((y 0).cast (show 128 = S128.numel by decide)) 0).val = k1_off2 L 0 + 1 * (y 0).val
      rw [← Shape.rowMajor_val_one, Equiv.apply_symm_apply]
      simp [k1_off1_eq, k1_off2_eq]; rfl
  funext a
  match a with
  | 0 =>
    apply Fin.ext
    have hlt : (I d (ValueIdx.ix1 ((oRowK L).view.emb y 0)) : BitVec 32).toNat < 4096 := hI d _
    show 0 + 1 * (gathers_S4096x128_S128x128.idx _ y gathers_S4096x128_S128x128.axis).val = (dite _ _ _ : Fin 4096).val
    rw [Shape.Gathers.idx_axis, dif_pos hlt]
    unfold SparseCore.rows
    simp only [hl]
    rw [Nat.zero_add, Nat.one_mul]
    exact congrArg (fun i => (I d i : BitVec 32).toNat) hrow
  | 1 =>
    apply Fin.ext
    show 0 + 1 * (gathers_S4096x128_S128x128.idx _ y 1).val = k1_off2 L 1 + 1 * (y 1).val
    rw [Shape.Gathers.idx_of_ne _ _ _ _ (by decide)]
    simp [k1_off2_eq]

omit [FloatOps F] [Named F] in
/-- What the copy to the output landed on the worker's block, at `gathered`. -/
theorem landed (pay : S128x128.Idx → Elt F .f32) (hpay : ∀ y, pay y = gathered I X d ((oRowK L).view.emb y)) :
    ((oRowK L).view.loc (V d (cV L) (jV L)) ↦[(oRowK L).view.set]{fullShare} (oRowK L).view.writes (Elt F) (O₀ d) [⟨Rect.whole S128x128, pay⟩] : sProp 𝕄)
      = oLoc d ↦[oRowSet (wL L)]{fullShare} gathered I X d := by
  rw [← pts_oRowK (F := F) d L]
  refine pointsTo_congr fun i hi => ?_
  obtain ⟨x, -, rfl⟩ := Finset.mem_map.mp hi
  have h := View.read_writes_cons_hit (oRowK L).view (O₀ d) (Rect.whole S128x128) pay [] x x (by
    exact Rect.emb_whole_apply S128x128 x)
  rw [View.read_apply, cast_eq] at h
  exact h.trans (hpay x)

set_option maxHeartbeats 4000000 in
/-- The task of the tile at `L`: the fetch of its part of the list, the indirect gather, the copy to the output, each
    with its wait; its block of the output ends at `gathered`. -/
theorem tile_body (hF : (K (F := F)).Facts) (hI : InTable I) (O : CellTallies nD τ sig (HIx 1)) (W : Waits sig (HIx 1)) (hO : ∀ g, O g none = 0) :
    iprop(levAts (K (F := F)).L (K (F := F)).lev ∗ emp ∗ task I X d (wL L) (O₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L xV (Memref.isWhole_whole _) iV (Memref.isWhole_whole _) oV (Memref.isWhole_whole _)
            sV (Memref.isWhole_whole _) rV (Memref.isWhole_whole _) cc1_scratch2 cc1_scoped0 cc1_scoped1)
          fun _ => iprop(task I X d (wL L) (gathered I X d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the indirect gather: a share of the table, the row buffer, the fetched list and the cell at zero go in
  ihave Hxs := (pointsTo_split_subset (q := wq (wL L)) (f := X d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 I d L) Finset.univ : sProp 𝕄)
      = (sV).view.loc (V d (cV L) (jV L)) ↦[(sV).view.set]{fullShare} View.write (Elt F) (sV).view fs (tile_body.sl.dma0 I d L) Finset.univ
      by rw [hss])) $$ Hs'
  have hN : ∀ h : S4096x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S4096x128_S128x128) (default : HIx 1)
      (rV).view.dmaCredit (hN _) (by decide) (fetched_lt I d L hI fs _ rfl)) $$ [Hxs Hr'' Hs'' HsemB]
  · isplitl [Hxs]; · iexact Hxs
    isplitl [Hr'']; · iexact Hr''
    isplitl [Hs'']; · iexact Hs''
    iexact HsemB
  iintro Hfl
  sl_exec
  -- its wait: the row buffer at the fetched rows, the share of the table and the list back, the cell at zero
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hx' := (pointsTo_split_subset (q := wq (wL L)) (f := X d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iexact Hi'
    isplitl [Hx']; · iexact Hx'
    iapply (Entails.of_eq (landed I X O₀ d L _ fun y => by
      refine (congrFun (View.read_write_univ (v := (rV).view) fr _) y).trans ?_
      exact fetched_rows I X d L fs _ hI rfl _ _ y)) $$ Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc1_scoped1.sem, (default : HIx 1)) (insert (SemLoc.dma cc1_scratch2.sem, default) (insert (SemLoc.dma cc1_scoped0.sem, default) W)))
  isplitr
  · ipureintro; intro p hp
    simp only [Finset.mem_insert] at hp
    rcases hp with hp | hp | hp | hp
    · exact Or.inr (by rw [hp]; rfl)
    · exact Or.inr (by rw [hp]; rfl)
    · exact Or.inr (by rw [hp]; rfl)
    · exact Or.inl hp
  · iexact HO

/-! ## What a tile owes the launch theorem -/

def coordsV (c : Fin (grid1.bound 0)) (s : Fin (grid1.bound 1)) : grid1.Coords :=
  fun | 0 => c | 1 => s | ⟨_ + 2, h⟩ => absurd h (Nat.not_lt.2 (Nat.le_add_left _ _))

/-- The launched tile runs the task at its own grid point. -/
theorem defs₀_vector (c : Fin τ.nSC) (s : Fin τ.nSub) :
    defs₀ (F := F) (.scVector c s) 1 ()
      = SparseCore.onTile hcore1 hsub1 (fun c s => cc1_k (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] [Named F] in
/-- A tile's waits at its end are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile, run from what it is given, leaves what it owes. -/
theorem tileObl (hI : InTable I) : (K (F := F)).TileObl (D (F := F)) 𝒱 (P I X O₀) v₀ 0 := by
  intro d c i O W hO _ _
  simp only [show (P I X O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I X O₀ d (coordsV ⟨_, hci.1⟩ ⟨_, hci.2⟩) facts hI O W hO).trans (wp_mono frame _ _ fun _ => obl_post)

end Tile

/-! ## The three arrays split over the workers -/

omit [FloatOps F] [Named F] in
/-- A tile's places are those of its rows. -/
theorem oRowSet_eq (w : Fin 32) : oRowSet w = (oRow w).set := by
  show ((View.whole (main_v6_scv : Ref sig .scVector)).slice (oRow w)).set = _
  rw [View.set_slice]; exact Finset.map_refl
omit [FloatOps F] [Named F] in
/-- No two tiles write the same place. -/
theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] [Named F] in
/-- The tiles write every place. -/
theorem oRows_cover : (Finset.univ : Finset (Fin 32)).biUnion oRowSet = Finset.univ :=
  (Finset.biUnion_congr rfl fun i _ => oRowSet_eq i).trans (Rect.biUnion_part odiv)

omit [FloatOps F] [Named F] in
/-- The list, the table and the output held whole are the 32 workers' holdings, by SparseCore and tile. -/
theorem tasks_eq (d : Dev nD) (f : Buf (Elt F) (oLoc d)) :
    (iprop((iLoc d ↦{fullShare} I d) ∗ (xLoc d ↦{fullShare} X d) ∗ oLoc d ↦{fullShare} f) : sProp 𝕄)
      = bigSep Finset.univ fun c : Fin 2 => bigSep Finset.univ fun s : Fin 16 => task I X d (wid c s) f := by
  have hi : (iLoc d ↦{fullShare} I d : sProp 𝕄) = bigSep Finset.univ fun w : Fin 32 => iLoc d ↦{wq w} I d :=
    ShareLeaves.pointsTo_leaves Finset.univ (I d) 5 fullShare
  have hx : (xLoc d ↦{fullShare} X d : sProp 𝕄) = bigSep Finset.univ fun w : Fin 32 => xLoc d ↦{wq w} X d :=
    ShareLeaves.pointsTo_leaves Finset.univ (X d) 5 fullShare
  rw [← bigSep_workers (fun w => task I X d w f), bigSep_sep', bigSep_sep', hi, hx,
    ← pointsTo_biUnion Finset.univ (ℓ := oLoc d) oRowSet oRows_disjoint, oRows_cover]

omit [FloatOps F] [Named F] in
/-- What all tiles of a SparseCore hold, counted by sixteen. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] [Named F] in
/-- What both SparseCores hold, counted by two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's holding is its tiles' holdings, and theirs after the tasks are its own after the call. -/
theorem vecSplit : (K (F := F)).VecSplit' (P I X O₀) 0 := by
  intro d c
  show (bigSep Finset.univ fun s : Fin 16 => task I X d (wid (Fin.cast nCore_zero c) s) (O₀ d)) ⊢ |={Set.univ}=> iprop(
      (bigSep Finset.univ fun i : Fin ((K (F := F)).nSub 0) => task I X d (wid (Fin.cast nCore_zero c) (Fin.cast nSub_zero i)) (O₀ d))
      ∗ ((bigSep Finset.univ fun i : Fin ((K (F := F)).nSub 0) => task I X d (wid (Fin.cast nCore_zero c) (Fin.cast nSub_zero i)) (gathered I X d))
          -∗ bigSep Finset.univ fun s : Fin 16 => task I X d (wid (Fin.cast nCore_zero c) s) (gathered I X d)))
  rw [bigSep_tiles (F := F) (fun s => task I X d (wid (Fin.cast nCore_zero c) s) (O₀ d)),
    bigSep_tiles (F := F) (fun s => task I X d (wid (Fin.cast nCore_zero c) s) (gathered I X d))]
  iintro H; imodintro
  isplitl [H]; · iexact H
  iintro H; iexact H

/-- What the SparseCores are given together: the list, the table and the result's array. -/
theorem st_eq (d : Dev nD) : (bigSep Finset.univ fun c : Fin ((K (F := F)).nCore 0) => (P I X O₀).st 0 d c)
    = iprop((iLoc d ↦{fullShare} I d) ∗ (xLoc d ↦{fullShare} X d) ∗ oLoc d ↦{fullShare} O₀ d) :=
  (bigSep_cores (F := F) (fun c => bigSep Finset.univ fun s : Fin 16 => task I X d (wid c s) (O₀ d))).trans (tasks_eq I X d _).symm
/-- What the SparseCores give back together: the list, the table, and the result's array with the gathered rows. -/
theorem dn_eq (d : Dev nD) : (bigSep Finset.univ fun c : Fin ((K (F := F)).nCore 0) => (P I X O₀).dn 0 d c)
    = iprop((iLoc d ↦{fullShare} I d) ∗ (xLoc d ↦{fullShare} X d) ∗ oLoc d ↦{fullShare} gathered I X d) :=
  (bigSep_cores (F := F) (fun c => bigSep Finset.univ fun s : Fin 16 => task I X d (wid c s) (gathered I X d))).trans (tasks_eq I X d _).symm

/-! ## The ghost state at launch -/

/-- The rounds of the TensorCore pipeline's cells. -/
def EP : Emb (UR sig nD τ) (MT nD τ sig (HIx 1) (Elt F) ℕ UU ℕ) :=
  (Emb.inl : Emb (UR sig nD τ) (UR sig nD τ × Counters)).trans (embR (A := UH) (B := UR sig nD τ × Counters))

omit [FloatOps F] [Named F] in
instance EP_landsIn : (EP : Emb (UR sig nD τ) 𝕄).LandsIn (upEmb : UEmb _ 𝕄) := by unfold EP; infer_instance

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] [Named F] in
/-- Nothing held many times is nothing held. -/
theorem bigSep_emp' {J : Type} (s : Finset J) : (bigSep s fun _ => iprop(emp)) = (iprop(emp) : sProp 𝕄) := bigSep_emp_const s

/-- What device `d` holds for its pipeline: its cells' ghost state and their tokens. -/
abbrev GP (d : Dev nD) : sProp 𝕄 :=
  iprop(Pipeline.cellsGhost cfgs (EP (F := F)) 0 d ∗ Pipeline.toksInit cfgs (EP (F := F)) 0 d)

/-- What the launch's counters start from. -/
theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P I X O₀).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UR sig nD τ × Counters)) $$ Hu
  icases H with ⟨HH, HP⟩
  ihave HP := (own_pair_emb (embR (A := UH) (B := UR sig nD τ × Counters))
    (initOf (Pipeline.cells (nD := nD) (τ := τ) cfgs cellOf_inj) (Pipeline.launchToks (nD := nD) (τ := τ) cfgs cellOf_inj)) (1 : Counters)) $$ HP
  icases HP with ⟨HP, -⟩
  imod (Pipeline.fund_ghost cfgs (EP (F := F)) cellOf_inj) $$ [HP] with ⟨Hg, Ht⟩
  · iexact HP
  imodintro
  isplitl [HH]; · iexact HH
  isplitl [Hg Ht]
  · rw [bigSep_sep']
    isplitl [Hg]
    · iapply (Entails.of_eq (show (bigSep Finset.univ fun d : Dev nD => bigSep Finset.univ fun p : Fin 1 => Pipeline.cellsGhost cfgs (EP (F := F)) p d)
        = bigSep Finset.univ fun d : Dev nD => Pipeline.cellsGhost cfgs (EP (F := F)) 0 d from bigSep_congr fun d _ => bigSep_univ_of_subsingleton (0 : Fin 1)))
      iexact Hg
    · iapply (Entails.of_eq (show (bigSep Finset.univ fun d : Dev nD => bigSep Finset.univ fun p : Fin 1 => (Pipeline.toksInit cfgs (EP (F := F)) p d : sProp 𝕄))
        = bigSep Finset.univ fun d : Dev nD => Pipeline.toksInit cfgs (EP (F := F)) 0 d from bigSep_congr fun d _ => bigSep_univ_of_subsingleton (0 : Fin 1)))
      iexact Ht
  rw [show (bigSep Finset.univ fun thr : Thread nD τ => bigSep Finset.univ fun q : Fin 1 => (P (F := F) I X O₀).x q thr) = bigSep Finset.univ fun _ => iprop(emp) from
    bigSep_congr fun _ _ => bigSep_univ_of_subsingleton (0 : Fin 1), bigSep_emp']
  iempintro

end Cert.Proof.KernelRun

end
-- ==== Proof.KernelRegion.lean ====
/-
  The TensorCore call of the whole program, run once at a symbolic grid point.

  Each of the 16 points takes a block of 256 rows of the flattened input and the whole codebook. It leaves the block's
  probabilities, its codes, and the loss so far: the first point starts the loss at zero, and each point adds its rows'
  least distances, scaled. The body's triple names what it leaves in closed form; the points' triples make the region's
  record, whose arrays at the end are the library's.
-/
module

public import proofs.«01_k».proof.Proof.KernelRun
public import Idealize.ShloMosaic.Lib.Pipeline.Frame
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.Regions
public import Idealize.ShloMosaic.Lib.Pipeline.RegionArrays
public import Idealize.ShloMosaic.Lib.Pipeline.RegionsLoop
public import Idealize.ShloMosaic.Lib.Pipeline.Value

@[expose] public section

set_option maxRecDepth 16384

noncomputable section

namespace Cert.Proof.KernelRun

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ownSems0_none prefHeld_of_none OwnSemFacts)

variable {F : FTy → Type} [FloatOps F] [Named F]

local notation "𝕄" => MT nD τ sig (HIx 1) (Elt F) ℕ UU ℕ

/-! ## The body's one condition -/

/-- The condition under which the body zeroes the loss. -/
abbrev cond0 (i : grid0.Coords) : Prop := (Scalar.cmpi .ne (Scalar.extui (Scalar.cmpi .eq (BitVec.ofNat 32 (i 0).val) 0#32)) 0#32) = 1#1
/-- It holds at the first point only. -/
theorem hcond0 (t : Fin grid0.N) : cond0 (grid0.coords t) ↔ t.val = 0 := by
  have ht : t.val < 16 := Nat.lt_of_lt_of_eq t.isLt N_0
  have e0 : (grid0.coords t 0).val = t.val / 1 % 16 := Pipeline.Grid.coords_val t 0 (by decide) rfl
  have : cond0 (grid0.coords t) ↔ t.val % 16 = 0 := by
    simp only [cond0, e0]
    word_cmp
  exact this.trans ⟨fun h => (Nat.mod_eq_of_lt ht).symm.trans h, fun h => (congrArg (· % 16) h)⟩

/-- Both offsets of a whole block are zero. -/
theorem hz : (![0, 0] : Fin 2 → Nat) = fun _ => 0 := by funext a; fin_cases a <;> rfl

/-! ## The body on any staging buffers -/

set_option maxHeartbeats 1000000 in
/-- The body at the first point: the loss block is zeroed and the block's own sum of distances added. -/
theorem body_first (c : Dev nD) (i : grid0.Coords) (arg1 : Memref sig .tc .vmem S256x64 .f32) (harg1 : arg1.IsWhole) (arg2 : Memref sig .tc .vmem S8192x64 .f32) (harg2 : arg2.IsWhole)
    (arg3 : Memref sig .tc .vmem S256x8192 .f32) (harg3 : arg3.IsWhole) (arg4 : Memref sig .tc .vmem S256x1 .i32) (harg4 : arg4.IsWhole)
    (arg5 : Memref sig .tc .vmem S1x1 .f32) (harg5 : arg5.IsWhole)
    (hc0 : cond0 i) (x0 : Vec F S256x64 .f32) (x1 : Vec F S8192x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (k0_pay5 x0 x1)
            ∗ owns (c : Thread nD τ) arg4 fullShare (k0_pay6 x0 x1) ∗ owns (c : Thread nD τ) arg5 fullShare (k0_pay2 (k0_pay7 x0 x1) (k0_pay1 (F := F)))) -∗ K ⟨⟩))
      ⊢ wp frame (wpE (defs₀ (F := F)) Variants.none (c : Thread nD τ) none) E (cc0__vq_body i arg1 harg1 arg2 harg2 arg3 harg3 arg4 harg4 arg5 harg5) K := by
  simp only [cc0__vq_body_eq_skeleton]; unfold cc0__vq_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (fun y => View.cover_of_tiledL _ S256x8192.size (by sl_kernel_rfl) y)]
    rw [View.canon_unit_zero hz]
    simp only [View.readAt_eq_ld, harg1.read_unread, harg2.read_unread, View.ld_unit_zero (S := S256x64) hz, View.ld_unit_zero (S := S8192x64) hz]
  isplitl [H3]
  · iexists _; isplitr
    swap; · iexact H3
    ipureintro
    rw [View.read_writes_eq_canon _ _ _ (fun y => View.cover_of_tiledL _ S256x1.size (by sl_kernel_rfl) y)]
    rw [View.canon_unit_zero hz]
    simp only [View.readAt_eq_ld, harg1.read_unread, harg2.read_unread, View.ld_unit_zero (S := S256x64) hz, View.ld_unit_zero (S := S8192x64) hz]
  iexists _; isplitr
  swap; · iexact H4
  ipureintro
  rw [View.read_writes_eq_canon _ _ _ (fun y => View.cover_of_tiledL _ S1x1.size (by sl_kernel_rfl) y)]
  rw [View.canon_cons_unit_zero hz]
  unfold body_first.sl.r body_first.sl.v45 body_first.sl.H4_1
  rw [View.readCov_unit_zero _ hz]
  simp only [View.readAt_eq_ld, harg1.read_unread, harg2.read_unread, harg5.read_unread, View.ld_unit_zero (S := S256x64) hz, View.ld_unit_zero (S := S8192x64) hz, View.ld_unit_zero (S := S1x1) hz]

set_option maxHeartbeats 1000000 in
/-- The body at a later point: the block's sum of distances is added to what the loss block held. -/
theorem body_later (c : Dev nD) (i : grid0.Coords) (arg1 : Memref sig .tc .vmem S256x64 .f32) (harg1 : arg1.IsWhole) (arg2 : Memref sig .tc .vmem S8192x64 .f32) (harg2 : arg2.IsWhole)
    (arg3 : Memref sig .tc .vmem S256x8192 .f32) (harg3 : arg3.IsWhole) (arg4 : Memref sig .tc .vmem S256x1 .i32) (harg4 : arg4.IsWhole)
    (arg5 : Memref sig .tc .vmem S1x1 .f32) (harg5 : arg5.IsWhole)
    (hc0 : ¬cond0 i) (x0 : Vec F S256x64 .f32) (x1 : Vec F S8192x64 .f32) (xo : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ owns (c : Thread nD τ) arg5 fullShare xo
        ∗ (iprop(owns (c : Thread nD τ) arg1 fullShare x0 ∗ owns (c : Thread nD τ) arg2 fullShare x1 ∗ owns (c : Thread nD τ) arg3 fullShare (k0_pay5 x0 x1)
            ∗ owns (c : Thread nD τ) arg4 fullShare (k0_pay6 x0 x1) ∗ owns (c : Thread nD τ) arg5 fullShare (k0_pay2 (k0_pay7 x0 x1) xo)) -∗ K ⟨⟩))
      ⊢ wp frame (wpE (defs₀ (F := F)) Variants.none (c : Thread nD τ) none) E (cc0__vq_body i arg1 harg1 arg2 harg2 arg3 harg3 arg4 harg4 arg5 harg5) K := by
  simp only [cc0__vq_body_eq_skeleton]; unfold cc0__vq_body_skel
  simp only [k0_part1_eq_skeleton]
  unfold owns
  iintro ⟨⟨%f0, %hf0, H0⟩, ⟨%f1, %hf1, H1⟩, ⟨%d2, %f2, -, H2⟩, ⟨%d3, %f3, -, H3⟩, ⟨%f4, %hf4, H4⟩, Hk⟩
  obtain rfl := harg1.eq_unread hf0; obtain rfl := harg2.eq_unread hf1; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (fun y => View.cover_of_tiledL _ S256x8192.size (by sl_kernel_rfl) y)]
    rw [View.canon_unit_zero hz]
    simp only [View.readAt_eq_ld, harg1.read_unread, harg2.read_unread, View.ld_unit_zero (S := S256x64) hz, View.ld_unit_zero (S := S8192x64) hz]
  isplitl [H3]
  · iexists _; isplitr
    swap; · iexact H3
    ipureintro
    rw [View.read_writes_eq_canon _ _ _ (fun y => View.cover_of_tiledL _ S256x1.size (by sl_kernel_rfl) y)]
    rw [View.canon_unit_zero hz]
    simp only [View.readAt_eq_ld, harg1.read_unread, harg2.read_unread, View.ld_unit_zero (S := S256x64) hz, View.ld_unit_zero (S := S8192x64) hz]
  iexists _; isplitr
  swap; · iexact H4
  ipureintro
  rw [View.read_writes_eq_canon _ _ _ (fun y => View.cover_of_tiledL _ S1x1.size (by sl_kernel_rfl) y)]
  rw [View.canon_unit_zero hz]
  unfold body_later.sl.r

  simp only [View.readAt_eq_ld, harg1.read_unread, harg2.read_unread, harg5.read_unread, View.ld_unit_zero (S := S256x64) hz, View.ld_unit_zero (S := S8192x64) hz, View.ld_unit_zero (S := S1x1) hz]

/-! ## What the region finds and leaves -/

section Region

variable (W : Dev nD → Valuation τ sig (Elt F))

/-- The TensorCore's buffers as the region finds them. -/
abbrev VT (c : Dev nD) (b : Ref sig .tc) : Buf (Elt F) ((c : Thread nD τ).loc b) := W c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (VT W c (Pipeline.arrRef spec0 w))

/-- The loss block after point `n`. -/
def acc (c : Dev nD) : (n : ℕ) → n < cfg0.N → Vec F S1x1 .f32
  | 0, hn => k0_pay2 (k0_pay7 (iblk W c 0 ⟨0, hn⟩) (iblk W c 1 ⟨0, hn⟩)) (k0_pay1 (F := F))
  | n + 1, hn => k0_pay2 (k0_pay7 (iblk W c 0 ⟨n + 1, hn⟩) (iblk W c 1 ⟨n + 1, hn⟩)) (acc c n (Nat.lt_of_succ_lt hn))

/-- The loss buffer after the first point. -/
theorem acc_zero (c : Dev nD) (t : Fin cfg0.N) (h : t.val = 0) :
    acc W c t.val t.isLt = k0_pay2 (k0_pay7 (iblk W c 0 t) (iblk W c 1 t)) (k0_pay1 (F := F)) := by
  obtain ⟨n, hn⟩ := t
  cases n with
  | zero => rfl
  | succ n => exact absurd h (Nat.succ_ne_zero n)

/-- The loss buffer after a later point. -/
theorem acc_succ (c : Dev nD) (t : Fin cfg0.N) (h : ¬t.val = 0) :
    acc W c t.val t.isLt = k0_pay2 (k0_pay7 (iblk W c 0 t) (iblk W c 1 t)) (acc W c (t.val - 1) (Nat.lt_of_le_of_lt (Nat.sub_le _ _) t.isLt)) := by
  obtain ⟨n, hn⟩ := t
  cases n with
  | zero => exact absurd rfl h
  | succ n => rfl

/-- The region's proof data: the arrays as it finds them; each input's buffer left at its block, the outputs' at the
    block's probabilities and codes and the loss so far. The core goes on owing its start signal throughout. -/
def dats (_ : Fin 1) (c : Dev nD) : Dat τ (Elt F) (HIx 1) ℕ UU ℕ cfg0 c where
  A w := VT W c (Pipeline.arrRef spec0 w)
  after w t := match w with
    | ⟨0, _⟩ => iblk W c 0 t
    | ⟨1, _⟩ => iblk W c 1 t
    | ⟨2, _⟩ => k0_pay5 (iblk W c 0 t) (iblk W c 1 t)
    | ⟨3, _⟩ => k0_pay6 (iblk W c 0 t) (iblk W c 1 t)
    | ⟨4, _⟩ => acc W c t.val t.isLt
  Φ _ := iprop(emp)
  q _ := fullShare
  owed _ := (K (F := F)).Otc c 0
  recorded _ := {p | (K (F := F)).lev (T c, p.1) p.2 ≤ 0}

/-- Each window's array at the start is what the valuation says. -/
theorem A_eq (c : Dev nD) (w : Fin cfg0.W) : (dats W 0 c).A w = VT W c (Pipeline.arrRef spec0 w) := by dsimp only [dats]

/-- A point keeps its block of the input. -/
theorem after0 (c : Dev nD) (t : Fin cfg0.N) : (dats W 0 c).after 0 t = iblk W c 0 t := by dsimp only [dats]
/-- A point keeps the table. -/
theorem after1 (c : Dev nD) (t : Fin cfg0.N) : (dats W 0 c).after 1 t = iblk W c 1 t := by dsimp only [dats]
/-- What a point leaves in its block of probabilities. -/
theorem after2 (c : Dev nD) (t : Fin cfg0.N) : (dats W 0 c).after 2 t = k0_pay5 (iblk W c 0 t) (iblk W c 1 t) := by dsimp only [dats]
/-- What a point leaves in its block of codes. -/
theorem after3 (c : Dev nD) (t : Fin cfg0.N) : (dats W 0 c).after 3 t = k0_pay6 (iblk W c 0 t) (iblk W c 1 t) := by dsimp only [dats]
/-- What a point leaves in the loss buffer. -/
theorem after4 (c : Dev nD) (t : Fin cfg0.N) : (dats W 0 c).after 4 t = acc W c t.val t.isLt := by dsimp only [dats]

/-- What a point finds as its block of the input. -/
theorem before0 (c : Dev nD) (t : Fin cfg0.N) (d) : (dats W 0 c).before 0 t d = iblk W c 0 t :=
  ((dats W 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- What a point finds as the table. -/
theorem before1 (c : Dev nD) (t : Fin cfg0.N) (d) : (dats W 0 c).before 1 t d = iblk W c 1 t :=
  ((dats W 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- After the first point the loss block's buffer holds what the point before left. -/
theorem before4 (c : Dev nD) (t : Fin cfg0.N) (h0 : ¬t.val = 0) (d) :
    (dats W 0 c).before 4 t d = acc W c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

abbrev ms0 (t : Fin cfg0.N) : Memref sig .tc .vmem S256x64 .f32 := win0_0.stage (cfg0.slots t 0)
abbrev ms1 (t : Fin cfg0.N) : Memref sig .tc .vmem S8192x64 .f32 := win0_1.stage (cfg0.slots t 1)
abbrev ms2 (t : Fin cfg0.N) : Memref sig .tc .vmem S256x8192 .f32 := win0_2.stage (cfg0.slots t 2)
abbrev ms3 (t : Fin cfg0.N) : Memref sig .tc .vmem S256x1 .i32 := win0_3.stage (cfg0.slots t 3)
abbrev ms4 (t : Fin cfg0.N) : Memref sig .tc .vmem S1x1 .f32 := win0_4.stage (cfg0.slots t 4)

def bodyPre (c : Dev nD) (t : Fin cfg0.N) : sProp 𝕄 :=
  iprop((dats W 0 c).Φ t.castSucc ∗ (dats W 0 c).owesAt none t.castSucc
    ∗ (∃ d, owns (c : Thread nD τ) (ms0 t) fullShare ((dats W 0 c).before 0 t d))
    ∗ (∃ d, owns (c : Thread nD τ) (ms1 t) fullShare ((dats W 0 c).before 1 t d))
    ∗ (∃ d, owns (c : Thread nD τ) (ms2 t) fullShare ((dats W 0 c).before 2 t d))
    ∗ (∃ d, owns (c : Thread nD τ) (ms3 t) fullShare ((dats W 0 c).before 3 t d))
    ∗ (∃ d, owns (c : Thread nD τ) (ms4 t) fullShare ((dats W 0 c).before 4 t d)))

def bodyPost (c : Dev nD) (t : Fin cfg0.N) : sProp 𝕄 :=
  iprop((dats W 0 c).Φ t.succ ∗ (dats W 0 c).owesAt none t.succ
    ∗ owns (c : Thread nD τ) (ms0 t) fullShare ((dats W 0 c).after 0 t)
    ∗ owns (c : Thread nD τ) (ms1 t) fullShare ((dats W 0 c).after 1 t)
    ∗ owns (c : Thread nD τ) (ms2 t) fullShare ((dats W 0 c).after 2 t)
    ∗ owns (c : Thread nD τ) (ms3 t) fullShare ((dats W 0 c).after 3 t)
    ∗ owns (c : Thread nD τ) (ms4 t) fullShare ((dats W 0 c).after 4 t))

set_option maxHeartbeats 800000 in
/-- The body at any point. -/
theorem sound_body (c : Dev nD) (t : Fin cfg0.N) :
    bodyPre W c t ⊢ wp frame (wpE (defs₀ (F := F)) Variants.none (c : Thread nD τ) none) Set.univ (bodyAt0 t) (fun _ => bodyPost W c t) := by
  unfold bodyPre bodyPost bodyAt0
  simp only [before0, before1]
  rw [show (dats W 0 c).Φ t.succ = (dats W 0 c).Φ t.castSucc from rfl,
    show (dats W 0 c).owesAt none t.succ = (dats W 0 c).owesAt none t.castSucc from rfl,
    after0, after1, after2, after3, after4]
  by_cases h0 : t.val = 0
  · rw [acc_zero W c t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((hcond0 t).mpr h0) (iblk W c 0 t) (iblk W c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc_succ W c t h0]
    simp only [before4 W c t h0]
    iintro ⟨HΦ, Ho, ⟨%d0, H0⟩, ⟨%d1, H1⟩, ⟨%d2, H2⟩, ⟨%d3, H3⟩, ⟨%d4, H4⟩⟩
    iapply (body_later c (grid0.coords t) _ _ _ _ _ _ _ _ _ _ (fun h => h0 ((hcond0 t).mp h)) (iblk W c 0 t) (iblk W c 1 t) _ Set.univ _)
    isplitl [H0]; · iexact H0
    isplitl [H1]; · iexact H1
    isplitl [H2]; · iexists _; iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The launched body at point `t` is the body on the point's staging buffers. -/
theorem defs₀_row (t : Fin cfg0.N) :
    defs₀ (F := F) .tc cfg0.body (cfg0.bodyArgs t (cfg0.slots t)) = bodyAt0 t := by
  unfold defs₀; rfl

/-- The body run at each point leaves what the record says. -/
theorem body_obligation (c : Dev nD) : BodyObligation (dats (F := F) W 0 c) (defs₀ (F := F)) Variants.none none Set.univ := fun t => by
  rw [bigSep_W0, bigSep_W0, defs₀_row]
  exact triple_restated (sound_body W c t) rfl .rfl fun _ => .rfl

/-! ## The region -/

omit [FloatOps F] [Named F] in
/-- The core's debt is at the calls' indices. -/
theorem Otc_none (d : Dev nD) (n : ℕ) (g : GSem nD τ sig) : (K (F := F)).Otc d n g (none : HIx 1) = 0 := by
  by_contra h
  have := SparseCore.Cfg.lev_of_Otc_pos (K := K (F := F)) (Nat.pos_of_ne_zero h)
  rw [SparseCore.Cfg.lev_none] at this; omega

/-- What the core owes before the call, with its recorded waits bounded. -/
abbrev owesT (d : Dev nD) : sProp 𝕄 :=
  iprop(∃ Ws, ⌜(K (F := F)).WBelow (T d) Ws 0⌝ ∗ owes (T d) ((K (F := F)).Otc d 0) Ws)

/-- The arrays that the region leaves, over what it found. -/
def WR (c : Dev nD) : Valuation τ sig (Elt F) :=
  Function.update (Function.update (Function.update (W c) (Proc.devRef .tc main_v2_0) ((dats W 0 c).arrAt 2 cfg0.N))
    (Proc.devRef .tc main_v2_1) ((dats W 0 c).arrAt 3 cfg0.N)) (Proc.devRef .tc main_v2_2) ((dats W 0 c).arrAt 4 cfg0.N)

/-- The call changes no buffer but its three results. -/
theorem WR_rest (c : Dev nD) (b : DevRef τ sig) (h0 : b ≠ Proc.devRef .tc main_v2_0) (h1 : b ≠ Proc.devRef .tc main_v2_1) (h2 : b ≠ Proc.devRef .tc main_v2_2) :
    WR W c b = W c b := by
  unfold WR
  rw [Function.update_of_ne h2, Function.update_of_ne h1, Function.update_of_ne h0]
/-- After the call the probabilities are the array of the written blocks. -/
theorem WR_prob (c : Dev nD) : WR W c (Proc.devRef .tc main_v2_0) = (dats W 0 c).arrAt 2 cfg0.N := by
  unfold WR
  rw [Function.update_of_ne (by decide), Function.update_of_ne (by decide), Function.update_self]
/-- After the call the codes are the array of the written blocks. -/
theorem WR_codes (c : Dev nD) : WR W c (Proc.devRef .tc main_v2_1) = (dats W 0 c).arrAt 3 cfg0.N := by
  unfold WR
  rw [Function.update_of_ne (by decide), Function.update_self]
/-- After the call the loss is the array of the written block. -/
theorem WR_loss (c : Dev nD) : WR W c (Proc.devRef .tc main_v2_2) = (dats W 0 c).arrAt 4 cfg0.N := by
  unfold WR
  rw [Function.update_self]

/-- Each window's array at the end is what the valuation after the call says. -/
theorem arr_final (c : Dev nD) (w : Fin cfg0.W) : (dats W 0 c).arrAt w cfg0.N = VT (WR W) c (Pipeline.arrRef spec0 w) := by
  match w with
  | ⟨0, _⟩ => exact ((dats W 0 c).arrAt_in 0 rfl _).trans (WR_rest W c (Proc.devRef .tc main_v1) (by decide) (by decide) (by decide)).symm
  | ⟨1, _⟩ => exact ((dats W 0 c).arrAt_in 1 rfl _).trans (WR_rest W c (Proc.devRef .tc main_arg1) (by decide) (by decide) (by decide)).symm
  | ⟨2, _⟩ => exact (WR_prob W c).symm
  | ⟨3, _⟩ => exact (WR_codes W c).symm
  | ⟨4, _⟩ => exact (WR_loss W c).symm

/-- A buffer that is no window's array is as before the call. -/
theorem VT_rest (c : Dev nD) (b : Ref sig .tc) (hb : b ∉ Finset.univ.image (Pipeline.arrRef spec0)) : VT (WR W) c b = VT W c b := by
  have hne : ∀ w : Fin 5, b ≠ Pipeline.arrRef spec0 w := fun w e => hb (e ▸ Finset.mem_image_of_mem _ (Finset.mem_univ w))
  exact WR_rest W c _ (fun e => hne 2 (Proc.devRef_injective _ e)) (fun e => hne 3 (Proc.devRef_injective _ e)) (fun e => hne 4 (Proc.devRef_injective _ e))

/-- The region's record: entered holding every unscoped buffer and owing the start signal, left holding the same buffers
    with the three results written. -/
def region : Pipeline.RegionSeg (pcfgs (F := F)) (fun p => (cfgs p).toPCfg_adm) (dats W) none (defs₀ (F := F)) 𝒱₀ (K (F := F)).L (K (F := F)).lev 0 where
  win := launch0.win.to₀
  block_pos := launch0.block_pos
  stage_whole := launch0.stage_whole
  K := PEmpty
  osem k := k.elim
  ho := OwnSemFacts.none _
  hbody c := (body_obligation W c).loose
  hwaits c := Pipeline.cellsWaits_intro _ _ none 0 c fun w s t => (K (F := F)).mayWait_none _ (Otc_none c 0)
  pre c := iprop(unscopedBufs c (VT W c) ∗ owesT c)
  post c := iprop(unscopedBufs c (VT (WR W) c) ∗ owesT c)
  X _ := iprop(emp)
  Y _ := iprop(emp)
  Z c := Pipeline.unscopedRest spec0 c (VT W c)
  hentry c := by
    rw [ownSems0_none, prefHeld_of_none _ rfl]
    iintro ⟨⟨Hu, HO⟩, -, -⟩
    ihave Hu := (Pipeline.arrays_of_unscopedBufs (pcfgs (F := F)) (fun p => (cfgs p).toPCfg_adm) (dats W) (p := 0) launch0.win launch0.arr_whole c
      (fun w => (dats W 0 c).share_full (fun _ => rfl) w) (VT W c) (A_eq W c)) $$ Hu
    icases Hu with ⟨Ha, Hr⟩
    imodintro
    isplitl [Ha]; · iexact Ha
    isplitr; · iempintro
    isplitl [HO]
    · icases HO with ⟨%Ws, %hW, HO⟩; iexists Ws; isplitr; · ipureintro; exact fun p hp => Or.inl (hW p hp)
      iexact HO
    isplitr; · iempintro
    iexact Hr
  hin c := by iintro -; iempintro
  hout c := by
    rw [ownSems0_none, show (Pipeline.scopedRest (Pipeline.pin (pcfgs (F := F)) (fun p => (cfgs p).toPCfg_adm) 0).spec c : sProp 𝕄) = BI.emp from scopedRest0_eq c]
    iintro -
    isplitr; · iempintro
    isplitr; · iempintro
    iempintro
  hexit c := by
    iintro ⟨Ha, HO, -, Hr⟩
    imodintro
    isplitl [Ha Hr]
    · iapply (Pipeline.unscopedBufs_of_arrays (pcfgs (F := F)) (fun p => (cfgs p).toPCfg_adm) (p := 0) launch0.win launch0.arr_whole c (dats W)
        (fun w => (dats W 0 c).share_full (fun _ => rfl) w) (VT W c) (VT (WR W) c) _ (arr_final W c) (VT_rest W c))
      isplitl [Ha] <;> iassumption
    · icases HO with ⟨%Ws, %hW, HO⟩; iexists Ws; isplitr
      swap; · iexact HO
      ipureintro
      intro p hp
      rcases hW hp with h | ⟨w, s, rfl⟩
      · exact h
      · exact le_of_eq (SparseCore.Cfg.lev_none _ _)

end Region

end Cert.Proof.KernelRun

end
-- ==== Proof.KernelMain.lean ====
/-
  The whole program on the TensorCore: host operations, the TensorCore call, host operations, the SparseCore call, host
  operations.

  `runs` says what the program leaves behind: from any memory whose computed list of table rows stays inside the table,
  every weakly fair execution ends with the results at the values that the host operations compute from the TensorCore
  call's arrays and from `gathered`, the two arguments unchanged and every semaphore counter at zero.
-/
module

public import proofs.«01_k».proof.Proof.KernelRegion

@[expose] public section

noncomputable section

namespace Cert.Proof.KernelRun

open Cert.KernelIdeal Cert.KernelIdeal.Gen

open Idealize.ShloMosaic Idealize.ShloMosaic.TcCoe
open Idealize.ShloMosaic.SparseCore (S V T liftProg)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs sub_ucRefs unscopedBufs_held)

variable {F : FTy → Type} [FloatOps F] [Named F]

local notation "𝕄" => MT nD τ sig (HIx 1) (Elt F) ℕ UU ℕ

/-- The host operations before the TensorCore call: the flattened input. -/
abbrev opsA : List (HloOp τ sig (Elt F)) :=
  [ unary main_arg0 main_v0 ((transpose S4x32x32x64 [0, 2, 3, 1] · transposes_S4x64x32x32_S4x32x32x64_0_2_3_1) : (⟨S4x64x32x32, .f32⟩ : BufTy).Contents (Elt F) → (⟨S4x32x32x64, .f32⟩ : BufTy).Contents (Elt F)),
    reshape main_v0 main_v1 (rfl : (.f32 : EltTy) = .f32) shapeCasts_S4x32x32x64_S4096x64 ]

/-- Between the calls: the flat list of codes, the table of row pairs, and each code halved. -/
abbrev opsB : List (HloOp τ sig (Elt F)) :=
  [ reshape main_v2_1 main_v3 (rfl : (.i32 : EltTy) = .i32) shapeCasts_S4096x1_S4096,
    reshape main_arg1 main_v4 (rfl : (.f32 : EltTy) = .f32) shapeCasts_S8192x64_S4096x128,
    nullary main_c (constantI S_ 32 2#32),
    TRef.unary (TRef.of (T := ⟨S_, .i32⟩) main_c) (TRef.of (T := ⟨S_, .i32⟩) main_call0_v0) id,
    TRef.unary (TRef.of (T := ⟨S_, .i32⟩) main_call0_v0) (TRef.of (T := ⟨S4096, .i32⟩) main_call0_v1) (broadcastInDim S4096 ![] bcast_S_S4096),
    TRef.binary (TRef.of (T := ⟨S4096, .i32⟩) main_v3) (TRef.of (T := ⟨S4096, .i32⟩) main_call0_v1) (TRef.of (T := ⟨S4096, .i32⟩) main_call0_v2) Host.divsi,
    TRef.unary (TRef.of (T := ⟨S4096, .i32⟩) main_v3) (TRef.of (T := ⟨S4096, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S4096, .i32⟩) main_call0_v5) (broadcastInDim S4096 ![] bcast_S_S4096),
    TRef.binary (TRef.of (T := ⟨S4096, .i32⟩) main_call0_v3) (TRef.of (T := ⟨S4096, .i32⟩) main_call0_v5) (TRef.of (T := ⟨S4096, .i1⟩) main_call0_v6) (cmpi .ne),
    TRef.unary (TRef.of (T := ⟨S_, .i32⟩) main_call0_v0) (TRef.of (T := ⟨S4096, .i32⟩) main_call0_v7) (broadcastInDim S4096 ![] bcast_S_S4096),
    TRef.binary (TRef.of (T := ⟨S4096, .i32⟩) main_v3) (TRef.of (T := ⟨S4096, .i32⟩) main_call0_v7) (TRef.of (T := ⟨S4096, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S4096, .i32⟩) main_call0_v9) (broadcastInDim S4096 ![] bcast_S_S4096),
    TRef.binary (TRef.of (T := ⟨S4096, .i32⟩) main_call0_v8) (TRef.of (T := ⟨S4096, .i32⟩) main_call0_v9) (TRef.of (T := ⟨S4096, .i1⟩) main_call0_v10) (cmpi .ne),
    TRef.binary (TRef.of (T := ⟨S4096, .i1⟩) main_call0_v6) (TRef.of (T := ⟨S4096, .i1⟩) main_call0_v10) (TRef.of (T := ⟨S4096, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S4096, .i32⟩) main_call0_v12) (broadcastInDim S4096 ![] bcast_S_S4096),
    TRef.binary (TRef.of (T := ⟨S4096, .i32⟩) main_call0_v2) (TRef.of (T := ⟨S4096, .i32⟩) main_call0_v12) (TRef.of (T := ⟨S4096, .i32⟩) main_call0_v13) subi,
    TRef.ternary (TRef.of (T := ⟨S4096, .i1⟩) main_call0_v11) (TRef.of (T := ⟨S4096, .i32⟩) main_call0_v13) (TRef.of (T := ⟨S4096, .i32⟩) main_call0_v2) (TRef.of (T := ⟨S4096, .i32⟩) main_v5) select ]

/-- After the SparseCore call: each code's parity, the choice of half, and the results' layouts. -/
abbrev opsC : List (HloOp τ sig (Elt F)) :=
  [ nullary main_c_0 (constantI S_ 32 2#32),
    TRef.unary (TRef.of (T := ⟨S_, .i32⟩) main_c_0) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S4096, .i32⟩) main_call1_v3) (broadcastInDim S4096 ![] bcast_S_S4096),
    TRef.binary (TRef.of (T := ⟨S4096, .i32⟩) main_v3) (TRef.of (T := ⟨S4096, .i32⟩) main_call1_v3) (TRef.of (T := ⟨S4096, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S4096, .i32⟩) main_call1_v5) (broadcastInDim S4096 ![] bcast_S_S4096),
    TRef.binary (TRef.of (T := ⟨S4096, .i32⟩) main_call1_v4) (TRef.of (T := ⟨S4096, .i32⟩) main_call1_v5) (TRef.of (T := ⟨S4096, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S4096, .i32⟩) main_call1_v7) (broadcastInDim S4096 ![] bcast_S_S4096),
    TRef.binary (TRef.of (T := ⟨S4096, .i32⟩) main_call1_v4) (TRef.of (T := ⟨S4096, .i32⟩) main_call1_v7) (TRef.of (T := ⟨S4096, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S4096, .i1⟩) main_call1_v10) (broadcastInDim S4096 ![] bcast_S_S4096),
    TRef.binary (TRef.of (T := ⟨S4096, .i1⟩) main_call1_v8) (TRef.of (T := ⟨S4096, .i1⟩) main_call1_v10) (TRef.of (T := ⟨S4096, .i1⟩) main_call1_v11) (cmpi .ne),
    TRef.binary (TRef.of (T := ⟨S4096, .i1⟩) main_call1_v11) (TRef.of (T := ⟨S4096, .i1⟩) main_call1_v6) (TRef.of (T := ⟨S4096, .i1⟩) main_call1_v12) andi,
    TRef.unary (TRef.of (T := ⟨S_, .i32⟩) main_call1_v2) (TRef.of (T := ⟨S4096, .i32⟩) main_call1_v13) (broadcastInDim S4096 ![] bcast_S_S4096),
    TRef.binary (TRef.of (T := ⟨S4096, .i32⟩) main_call1_v4) (TRef.of (T := ⟨S4096, .i32⟩) main_call1_v13) (TRef.of (T := ⟨S4096, .i32⟩) main_call1_v14) addi,
    TRef.ternary (TRef.of (T := ⟨S4096, .i1⟩) main_call1_v12) (TRef.of (T := ⟨S4096, .i32⟩) main_call1_v14) (TRef.of (T := ⟨S4096, .i32⟩) main_call1_v4) (TRef.of (T := ⟨S4096, .i32⟩) main_v7) select,
    nullary main_c_1 (constantI S_ 32 1#32),
    unary main_c_1 main_v8 (broadcastInDim S4096 ![] bcast_S_S4096 : (⟨S_, .i32⟩ : BufTy).Contents (Elt F) → (⟨S4096, .i32⟩ : BufTy).Contents (Elt F)),
    binary main_v7 main_v8 main_v9 (cmpi .eq : (⟨S4096, .i32⟩ : BufTy).Contents (Elt F) → (⟨S4096, .i32⟩ : BufTy).Contents (Elt F) → (⟨S4096, .i1⟩ : BufTy).Contents (Elt F)),
    unary main_v9 main_v10 (broadcastInDim S4096x1 ![0] bcast_S4096_S4096x1_0 : (⟨S4096, .i1⟩ : BufTy).Contents (Elt F) → (⟨S4096x1, .i1⟩ : BufTy).Contents (Elt F)),
    unary main_v6 main_v11 ((extractStridedSlice S4096x64 ![0, 64] · slices_S4096x128_S4096x64_0_64) : (⟨S4096x128, .f32⟩ : BufTy).Contents (Elt F) → (⟨S4096x64, .f32⟩ : BufTy).Contents (Elt F)),
    unary main_v6 main_v12 ((extractStridedSlice S4096x64 ![0, 0] · slices_S4096x128_S4096x64_0_0) : (⟨S4096x128, .f32⟩ : BufTy).Contents (Elt F) → (⟨S4096x64, .f32⟩ : BufTy).Contents (Elt F)),
    TRef.unary (TRef.of (T := ⟨S4096x1, .i1⟩) main_v10) (TRef.of (T := ⟨S4096x64, .i1⟩) main_call2_v0) (broadcastInDim S4096x64 ![0, 1] bcast_S4096x1_S4096x64_0_1),
    TRef.ternary (TRef.of (T := ⟨S4096x64, .i1⟩) main_call2_v0) (TRef.of (T := ⟨S4096x64, .f32⟩) main_v11) (TRef.of (T := ⟨S4096x64, .f32⟩) main_v12) (TRef.of (T := ⟨S4096x64, .f32⟩) main_v13) select,
    reshape main_v2_2 main_v14 (rfl : (.f32 : EltTy) = .f32) shapeCasts_S1x1_S_,
    reshape main_v13 main_v15 (rfl : (.f32 : EltTy) = .f32) shapeCasts_S4096x64_S4x32x32x64,
    unary main_v15 main_v16 ((transpose S4x64x32x32 [0, 3, 1, 2] · transposes_S4x32x32x64_S4x64x32x32_0_3_1_2) : (⟨S4x32x32x64, .f32⟩ : BufTy).Contents (Elt F) → (⟨S4x64x32x32, .f32⟩ : BufTy).Contents (Elt F)) ]

/-- The TensorCore call as the pipeline's own program. -/
abbrev callTc : Prog (TpuEff nD τ sig (Elt F) (Pipeline.Sig Λ₀ (Fin 1) fun p => (pcfgs (F := F) p).Adm) .tc) PUnit :=
  .op (.customCall (Pipeline.entry 0) ()) fun _ => .ret ⟨⟩

/-- @main is the first line, the TensorCore call, the second line, the SparseCore call, the third line. -/
theorem main_eq (d : Dev nD) : main (F := F) d
    = (seq opsA >>= fun _ => liftProg callTc >>= fun _ => seq opsB >>= fun _ => sc.run d 0 >>= fun _ => seq opsC) := by
  rfl

/-- These operations touch only the program's buffers. -/
theorem opsA_sub : ∀ op ∈ (opsA (F := F)), op.bufs ⊆ ucRefs τ sig :=
  fun op h => sub_ucRefs op (List.forall_iff_forall_mem.mp (show (opsA (F := F)).Forall fun op => op.bufs ⊆ tcRefs τ sig from
    ⟨unary_bufs_sub .., reshape_bufs_sub ..⟩) op h)
/-- These operations leave no result undetermined. -/
theorem opsA_fresh : ∀ op ∈ (opsA (F := F)), op.fresh = ∅ := by
  intro _ h; (repeat (cases h with | head => rfl | tail _ h => ?_)); exact nomatch h
/-- These operations touch only the program's buffers. -/
theorem opsB_sub : ∀ op ∈ (opsB (F := F)), op.bufs ⊆ ucRefs τ sig :=
  fun op h => sub_ucRefs op (List.forall_iff_forall_mem.mp (show (opsB (F := F)).Forall fun op => op.bufs ⊆ tcRefs τ sig from
    ⟨reshape_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩) op h)
/-- These operations leave no result undetermined. -/
theorem opsB_fresh : ∀ op ∈ (opsB (F := F)), op.fresh = ∅ := by
  intro _ h; (repeat (cases h with | head => rfl | tail _ h => ?_)); exact nomatch h
/-- These operations touch only the program's buffers. -/
theorem opsC_sub : ∀ op ∈ (opsC (F := F)), op.bufs ⊆ ucRefs τ sig :=
  fun op h => sub_ucRefs op (List.forall_iff_forall_mem.mp (show (opsC (F := F)).Forall fun op => op.bufs ⊆ tcRefs τ sig from
    ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., unary_bufs_sub .., ternary_bufs_sub .., reshape_bufs_sub .., reshape_bufs_sub .., unary_bufs_sub ..⟩) op h)
/-- These operations leave no result undetermined. -/
theorem opsC_fresh : ∀ op ∈ (opsC (F := F)), op.fresh = ∅ := by
  intro _ h; (repeat (cases h with | head => rfl | tail _ h => ?_)); exact nomatch h
/-! ## The contents along the way -/

variable (m : (ℓ : Loc nD τ sig) → Buf (Elt F) ℓ) (ρ : Dev nD → PrngReg)

abbrev a0 : DevRef τ sig := Proc.devRef .tc main_arg0
abbrev a1 : DevRef τ sig := Proc.devRef .tc main_arg1
abbrev vI : DevRef τ sig := Proc.devRef .tc main_v5
abbrev vX : DevRef τ sig := Proc.devRef .tc main_v4
abbrev vO : DevRef τ sig := Proc.devRef .tc main_v6
abbrev vQ : DevRef τ sig := Proc.devRef .tc main_v16
abbrev vL : DevRef τ sig := Proc.devRef .tc main_v14
abbrev vP : DevRef τ sig := Proc.devRef .tc main_v2_0

/-- At launch, at the TensorCore call, after it, at the SparseCore call, after it, at the end. -/
def V0 (d : Dev nD) : Valuation τ sig (Elt F) := fun b => m (d, b)
def V1 (d : Dev nD) : Valuation τ sig (Elt F) := after opsA (V0 m d)
def V2 (d : Dev nD) : Valuation τ sig (Elt F) := WR (V1 m) d
def V3 (d : Dev nD) : Valuation τ sig (Elt F) := after opsB (V2 m d)
abbrev Im (d : Dev nD) : Buf (Elt F) (iLoc d) := V3 m d vI
abbrev Xm (d : Dev nD) : Buf (Elt F) (xLoc d) := V3 m d vX
abbrev Om (d : Dev nD) : Buf (Elt F) (oLoc d) := V3 m d vO
def V4 (d : Dev nD) : Valuation τ sig (Elt F) := Function.update (V3 m d) vO (gathered (Im m) (Xm m) d)
def V5 (d : Dev nD) : Valuation τ sig (Elt F) := after opsC (V4 m d)

/-- The SparseCore call's three arrays. -/
abbrev SC3 : Finset (DevRef τ sig) := {vI, vX, vO}
/-- The program's arguments and its results. -/
abbrev SR5 : Finset (DevRef τ sig) := {a0, a1, vQ, vL, vP}

omit [FloatOps F] [Named F] in
/-- The SparseCore call's three arrays, held as one set, are held one by one. -/
theorem held_SC3 (d : Dev nD) (W : Valuation τ sig (Elt F)) :
    (held (SparseCore.T d) SC3 W : sProp 𝕄) = iprop((iLoc d ↦{fullShare} W vI) ∗ (xLoc d ↦{fullShare} W vX) ∗ oLoc d ↦{fullShare} W vO) := by
  unfold held SC3
  rw [SparseCore.bigSep_insert' (by decide), SparseCore.bigSep_insert' (by decide), bigSep_singleton]
omit [FloatOps F] [Named F] in
/-- The arguments and the results, held as one set, are held one by one. -/
theorem held_SR5 (d : Dev nD) (W : Valuation τ sig (Elt F)) :
    (held (SparseCore.T d) SR5 W : sProp 𝕄) = iprop(((SparseCore.T d).loc main_arg0 ↦{fullShare} W a0)
      ∗ ((SparseCore.T d).loc main_arg1 ↦{fullShare} W a1) ∗ ((SparseCore.T d).loc main_v16 ↦{fullShare} W vQ)
      ∗ ((SparseCore.T d).loc main_v14 ↦{fullShare} W vL) ∗ (SparseCore.T d).loc main_v2_0 ↦{fullShare} W vP) := by
  unfold held SR5
  rw [SparseCore.bigSep_insert' (by decide), SparseCore.bigSep_insert' (by decide), SparseCore.bigSep_insert' (by decide),
    SparseCore.bigSep_insert' (by decide), bigSep_singleton]

/-- The SparseCore call's arrays are buffers of the program. -/
theorem SC3_sub : SC3 ⊆ ucRefs τ sig := by
  intro b hb
  simp only [SC3, Finset.mem_insert, Finset.mem_singleton] at hb
  rcases hb with rfl | rfl | rfl <;> exact Finset.mem_filter.mpr ⟨devRef_mem_tcRefs _, by decide⟩
/-- The arguments and the results are buffers of the program. -/
theorem SR5_sub : SR5 ⊆ ucRefs τ sig := by
  intro b hb
  simp only [SR5, Finset.mem_insert, Finset.mem_singleton] at hb
  rcases hb with rfl | rfl | rfl | rfl | rfl <;> exact Finset.mem_filter.mpr ⟨devRef_mem_tcRefs _, by decide⟩

/-- The buffers at the SparseCore call: the call's three arrays and the rest. -/
theorem held_V3 (d : Dev nD) : (held (SparseCore.T d) (ucRefs τ sig) (V3 m d) : sProp 𝕄)
    = iprop(((iLoc d ↦{fullShare} Im m d) ∗ (xLoc d ↦{fullShare} Xm m d) ∗ oLoc d ↦{fullShare} Om m d) ∗ held (SparseCore.T d) (ucRefs τ sig \ SC3) (V3 m d)) := by
  rw [held_sub_split (SparseCore.T d) SC3_sub, held_SC3]
/-- The buffers after the SparseCore call: the output at `gathered`, the rest as it was. -/
theorem held_V4 (d : Dev nD) : (held (SparseCore.T d) (ucRefs τ sig) (V4 m d) : sProp 𝕄)
    = iprop(((iLoc d ↦{fullShare} Im m d) ∗ (xLoc d ↦{fullShare} Xm m d) ∗ oLoc d ↦{fullShare} gathered (Im m) (Xm m) d)
        ∗ held (SparseCore.T d) (ucRefs τ sig \ SC3) (V3 m d)) := by
  rw [held_sub_split (SparseCore.T d) SC3_sub, held_SC3]
  rw [show V4 m d vI = Im m d from Function.update_of_ne (show vI ≠ vO by decide) _ _,
    show V4 m d vX = Xm m d from Function.update_of_ne (show vX ≠ vO by decide) _ _,
    show V4 m d vO = gathered (Im m) (Xm m) d from Function.update_self _ _ _]
  rw [held_congr (SparseCore.T d) (S := ucRefs τ sig \ SC3) (V := V4 m d) (V' := V3 m d) fun b hb => Function.update_of_ne (by
    rintro rfl; exact (Finset.mem_sdiff.mp hb).2 (by decide)) _ _]

/-- What @main leaves: the two arguments and the results at the final contents. -/
abbrev FIN (d : Dev nD) : sProp 𝕄 := held (SparseCore.T d) SR5 (V5 m d)

set_option maxRecDepth 16384 in
/-- The TensorCore call in @main: from the buffers and the core's state to the same with the call's results written. -/
theorem hregion (W : Dev nD → Valuation τ sig (Elt F)) (d : Dev nD) (Q : PUnit → sProp 𝕄) :
    iprop((iprop(boundary (d : Thread nD τ) ∗ held (d : Thread nD τ) (ucRefs τ sig) (WR W d) ∗ (K (F := F)).tcSt EH d 0) -∗ Q ⟨⟩)
        ∗ boundary (d : Thread nD τ) ∗ held (d : Thread nD τ) (ucRefs τ sig) (W d) ∗ (K (F := F)).tcSt EH d 0 ∗ levAts (K (F := F)).L (K (F := F)).lev ∗ GP (F := F) d)
      ⊢ wp frame (wpE ((K (F := F)).defs (D (F := F))) 𝒱 (SparseCore.T d) none) Set.univ (liftProg callTc) Q := by
  refine .trans ?_ ((K (F := F)).wp_liftProg (D (F := F)) 𝒱 (SparseCore.T d) Set.univ none callTc Q)
  rw [← unscopedBufs_held d (WR W d), ← unscopedBufs_held d (W d)]
  unfold SparseCore.Cfg.tcSt
  have e := Pipeline.RegionSeg.wp (pcfgs (F := F)) (fun p => (cfgs p).toPCfg_adm) (dats W) none cellOf_inj (EP (F := F)) (defs₀ (F := F)) 𝒱₀
    (K (F := F)).L (K (F := F)).lev (region W) d none (fun _ h => nomatch h) (fun _ => .ret ⟨⟩) Q
  rw [show (region W).pre d = iprop(unscopedBufs d (VT W d) ∗ owesT d) from rfl,
    show (region W).post d = iprop(unscopedBufs d (VT (WR W) d) ∗ owesT d) from rfl] at e
  iintro ⟨HQ, Hb, Hu, ⟨Ho, Hst⟩, #Hlev, Hg, Ht⟩
  iapply e
  isplitl [HQ Hst]
  · iintro ⟨Hb, Hu, Ho⟩
    rw [wp_ret]; imodintro
    iapply HQ
    isplitl [Hb]; · iexact Hb
    isplitl [Hu]; · iexact Hu
    isplitl [Ho]; · iexact Ho
    iexact Hst
  isplitl [Hb]; · iexact Hb
  isplitl [Hu Ho]
  · isplitl [Hu]; · iexact Hu
    iexact Ho
  isplitr; · iexact Hlev
  isplitl [Hg]; · iexact Hg
  iexact Ht

set_option maxRecDepth 16384 in
/-- @main on device `d`'s TensorCore. -/
theorem hmain (κ : GSem nD τ sig → ℕ) (d : Dev nD) :
    iprop((K (F := F)).ctx EH (P (Im m) (Xm m) (Om m)) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from
    unscopedBufs_held d (V0 m d), main_eq]
  iintro ⟨#Hctx, Hst, ⟨Hb, Hheld, Hts, -⟩, Hg⟩
  iapply (wp_seq 𝒱 none Set.univ d (ucRefs τ sig) (fun _ => liftProg callTc >>= fun _ => seq opsB >>= fun _ => sc.run d 0 >>= fun _ => seq opsC) opsA opsA_sub opsA_fresh (V0 m d)) $$ [Hb Hheld]
  · isplitl [Hb] <;> iassumption
  iintro ⟨Hb, Hheld⟩
  rw [wp_bind]
  ihave #Hlev := (SparseCore.Cfg.ctx_levAts (K := K (F := F)) (EH := EH) (P := P (Im m) (Xm m) (Om m)) κ) $$ Hctx
  iapply (hregion (V1 m) d _)
  isplitl [Hts]
  swap
  · isplitl [Hb]; · iexact Hb
    isplitl [Hheld]; · iexact Hheld
    isplitl [Hst]; · iexact Hst
    isplitr; · iexact Hlev
    iexact Hg
  iintro ⟨Hb, Hheld, Hst⟩
  iapply (wp_seq 𝒱 none Set.univ d (ucRefs τ sig) (fun _ => sc.run d 0 >>= fun _ => seq opsC) opsB opsB_sub opsB_fresh (V2 m d)) $$ [Hb Hheld]
  · isplitl [Hb]; · iexact Hb
    iexact Hheld
  iintro ⟨Hb, Hheld⟩
  ihave Hh := (Entails.of_eq (show (held (d.tc : Thread nD τ) (ucRefs τ sig) (after opsB (V2 m d)) : sProp 𝕄) = _ from held_V3 m d)) $$ Hheld
  icases Hh with ⟨Hcall, Hrest⟩
  rw [wp_bind]
  iapply ((K (F := F)).wp_run (D (F := F)) 𝒱 (EH := EH) (P := P (Im m) (Xm m) (Om m)) κ d 0) $$ [Hst Hcall Hrest Hb Hts]
  isplitr; · iexact Hctx
  isplitl [Hst]; · iexact Hst
  isplitl [Hcall]
  · rw [st_eq]; iexact Hcall
  iintro ⟨Hst, Hdn⟩
  ihave Hdn' := (Entails.of_eq (dn_eq (Im m) (Xm m) (Om m) d)) $$ Hdn
  ihave Hheld := (Entails.of_eq (held_V4 m d).symm) $$ [Hdn' Hrest]
  · isplitl [Hdn'] <;> iassumption
  rw [show (seq (opsC (F := F)) : Prog (TpuEff nD τ sig (Elt F) _ .tc) PUnit) = (seq opsC >>= fun _ => pure ⟨⟩) from (bind_pure _).symm]
  iapply (wp_seq 𝒱 none Set.univ d (ucRefs τ sig) (fun _ => pure ⟨⟩) opsC opsC_sub opsC_fresh (V4 m d)) $$ [Hb Hheld]
  · isplitl [Hb] <;> iassumption
  iintro ⟨Hb, Hheld⟩
  ihave Hh := (Entails.of_eq (show (held (d.tc : Thread nD τ) (ucRefs τ sig) (after opsC (V4 m d)) : sProp 𝕄) = _
    from held_sub_split (SparseCore.T d) SR5_sub (V5 m d))) $$ Hheld
  icases Hh with ⟨Hfin, -⟩
  rw [wp_pure]; imodintro
  isplitl [Hst]; · iexact Hst
  isplitl [Hfin]; · iexact Hfin
  isplitl [Hb] <;> iassumption

/-- A memory at the arguments and the results holds the final contents. -/
def Fin5 (d : Dev nD) (M : (ℓ : Loc nD τ sig) → Buf (Elt F) ℓ) : Prop :=
  M ((SparseCore.T d).loc main_arg0) = V5 m d a0 ∧ M ((SparseCore.T d).loc main_arg1) = V5 m d a1
    ∧ M ((SparseCore.T d).loc main_v16) = V5 m d vQ ∧ M ((SparseCore.T d).loc main_v14) = V5 m d vL ∧ M ((SparseCore.T d).loc main_v2_0) = V5 m d vP

set_option maxRecDepth 16384 in
/-- From what is held at the end, what the memory holds at the end. -/
theorem hfin (d : Dev nD) (s' : Phys nD τ sig (Elt F)) : iprop(FIN m d ∗ SI s') ⊢ (⌜Fin5 m d s'.mem.mem⌝ : sProp 𝕄) := by
  unfold FIN
  rw [held_SR5]
  iintro ⟨⟨H0, H1, H2, H3, H4⟩, HSI⟩
  ihave H := (persistent_entails_right (SI_pointsTo_agree (st := s') (ℓ := (SparseCore.T d).loc main_arg0) (I := Finset.univ) (q := fullShare) (f := V5 m d a0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V5 m d a1))) $$ [HSI H1]
  · isplitl [HSI] <;> iassumption
  icases H with ⟨%h1, HSI, -⟩
  ihave H := (persistent_entails_right (SI_pointsTo_agree (st := s') (ℓ := (SparseCore.T d).loc main_v16) (I := Finset.univ) (q := fullShare) (f := V5 m d vQ))) $$ [HSI H2]
  · isplitl [HSI] <;> iassumption
  icases H with ⟨%h2, HSI, -⟩
  ihave H := (persistent_entails_right (SI_pointsTo_agree (st := s') (ℓ := (SparseCore.T d).loc main_v14) (I := Finset.univ) (q := fullShare) (f := V5 m d vL))) $$ [HSI H3]
  · isplitl [HSI] <;> iassumption
  icases H with ⟨%h3, HSI, -⟩
  ihave H := (SI_pointsTo_agree (st := s') (ℓ := (SparseCore.T d).loc main_v2_0) (I := Finset.univ) (q := fullShare) (f := V5 m d vP)) $$ [HSI H4]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-! ## The run -/

/-- What every execution ends in. -/
def QC : PUnit × MemSt nD τ sig (Elt F) → Prop := fun r => (∀ d : Dev nD, Fin5 m d r.2.mem) ∧ r.2.sem = fun _ => 0

/-- Every weakly fair execution ends, at the final contents and every counter at zero, if every index names a row. -/
theorem runs [∀ e, Nonempty (Elt F e)] (hI : InTable (Im m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Im m) (Xm m) (Om m)) (A := ∅) facts v₀
    (fun q hq => match q with | 0 => nomatch hq)
    (fun q _ => match q with | 0 => tileObl (Im m) (Xm m) (Om m) hI)
    (fun q _ => match q with | 0 => SparseCore.Cfg.VecSplit.of_plain (vecSplit (Im m) (Xm m) (Om m)))
    m ρ main (fun d => GP d) (FIN m) (u₀ (F := F)) (sep_elim_left.trans (hu₀ (Im m) (Xm m) (Om m))) (hmain m ρ) (fun d s' => Fin5 m d s'.mem.mem) (hfin m) (QC m) (fun _ h hz => ⟨h, hz⟩)

end Cert.Proof.KernelRun

end
-- ==== Proof.KernelHost.lean ====
/-
  What the whole program's host operations compute from the TensorCore call's codes.

  `list_eq`: the list of table rows that the SparseCore call reads is each code halved. `result_eq`: where every code is
  below 8192, the first result is the rows of the table that the codes name, reshaped and transposed.
-/
module

public import proofs.«01_k».proof.Proof.KernelMain

@[expose] public section

set_option maxRecDepth 16384

noncomputable section

namespace Cert.Proof.KernelRun

open Cert.KernelIdeal Cert.KernelIdeal.Gen
open Idealize.ShloMosaic Idealize.ShloMosaic.TcCoe Idealize.ShloMosaic.StableHlo
open Cert.Proof.LookupIdealRun (half odd half_toNat odd_eq)

variable {F : FTy → Type} [FloatOps F] [Named F]

variable (m : (ℓ : Loc nD τ sig) → Buf (Elt F) ℓ)

abbrev bC : DevRef τ sig := Proc.devRef .tc main_v3
abbrev vC : DevRef τ sig := Proc.devRef .tc main_v2_1
abbrev vA : DevRef τ sig := Proc.devRef .tc main_v2_2
abbrev vZ : DevRef τ sig := Proc.devRef .tc main_v1

/-- The flattened input. -/
def flat (d : Dev nD) : (⟨S4096x64, .f32⟩ : BufTy).Contents (Elt F) :=
  shapeCast S4096x64 (transpose S4x32x32x64 [0, 2, 3, 1] (m (d, a0)) transposes_S4x64x32x32_S4x32x32x64_0_2_3_1) shapeCasts_S4x32x32x64_S4096x64

/-- The first host operations flatten the input. -/
theorem V1_flat (d : Dev nD) : V1 m d vZ = flat m d := by
  unfold V1
  simp only [opsA]
  after_results
  rfl

/-- The first host operations keep the input. -/
theorem V1_a0 (d : Dev nD) : V1 m d a0 = m (d, a0) := by
  unfold V1
  simp only [opsA]
  after_results
  rfl

/-- The first host operations keep the table. -/
theorem V1_a1 (d : Dev nD) : V1 m d a1 = m (d, a1) := by
  unfold V1
  simp only [opsA]
  after_results
  rfl

/-- The TensorCore call keeps the input. -/
theorem V2_a0 (d : Dev nD) : V2 m d a0 = m (d, a0) := (WR_rest (V1 m) d a0 (by decide) (by decide) (by decide)).trans (V1_a0 m d)
/-- The TensorCore call keeps the table. -/
theorem V2_a1 (d : Dev nD) : V2 m d a1 = m (d, a1) := (WR_rest (V1 m) d a1 (by decide) (by decide) (by decide)).trans (V1_a1 m d)

/-- The flat list of codes. -/
def codes (d : Dev nD) : S4096.Idx → BitVec 32 := shapeCast S4096 (V2 m d vC) shapeCasts_S4096x1_S4096

/-- The table in rows of 128. -/
def pairs (d : Dev nD) : (⟨S4096x128, .f32⟩ : BufTy).Contents (Elt F) :=
  shapeCast S4096x128 (m (d, a1)) shapeCasts_S8192x64_S4096x128

/-- The SparseCore call is asked for the codes' pair rows. -/
theorem list_eq (d : Dev nD) : Im m d = fun j => half (codes m d j) := by
  unfold Im V3
  simp only [opsB, TRef.binary, TRef.nullary, TRef.ternary, TRef.unary, TRef.toBuf, TRef.ofBuf, cast_eq]
  after_results
  rfl

/-- The SparseCore call's table is the codebook in pair rows. -/
theorem table_eq (d : Dev nD) : Xm m d = pairs m d := by
  unfold Xm V3
  simp only [opsB, TRef.binary, TRef.nullary, TRef.ternary, TRef.unary, TRef.toBuf, TRef.ofBuf, cast_eq]
  after_results
  rw [show pairs m d = shapeCast S4096x128 (V2 m d a1) shapeCasts_S8192x64_S4096x128 by rw [V2_a1]; rfl]
  rfl

/-- The SparseCore call keeps the codes. -/
theorem codes_eq (d : Dev nD) : V4 m d bC = codes m d := by
  unfold V4
  rw [Function.update_of_ne (by decide)]
  unfold V3
  simp only [opsB, TRef.binary, TRef.nullary, TRef.ternary, TRef.unary, TRef.toBuf, TRef.ofBuf, cast_eq]
  after_results
  rfl

/-- What follows the TensorCore call keeps the input. -/
theorem V5_a0 (d : Dev nD) : V5 m d a0 = V2 m d a0 := by
  unfold V5
  simp only [opsC, TRef.binary, TRef.nullary, TRef.ternary, TRef.unary, TRef.toBuf, TRef.ofBuf, cast_eq]
  after_results
  unfold V4
  rw [Function.update_of_ne (by decide)]
  unfold V3
  simp only [opsB, TRef.binary, TRef.nullary, TRef.ternary, TRef.unary, TRef.toBuf, TRef.ofBuf, cast_eq]
  after_results

/-- What follows the TensorCore call keeps the table. -/
theorem V5_a1 (d : Dev nD) : V5 m d a1 = V2 m d a1 := by
  unfold V5
  simp only [opsC, TRef.binary, TRef.nullary, TRef.ternary, TRef.unary, TRef.toBuf, TRef.ofBuf, cast_eq]
  after_results
  unfold V4
  rw [Function.update_of_ne (by decide)]
  unfold V3
  simp only [opsB, TRef.binary, TRef.nullary, TRef.ternary, TRef.unary, TRef.toBuf, TRef.ofBuf, cast_eq]
  after_results

/-- What follows the TensorCore call keeps the probabilities. -/
theorem V5_vP (d : Dev nD) : V5 m d vP = V2 m d vP := by
  unfold V5
  simp only [opsC, TRef.binary, TRef.nullary, TRef.ternary, TRef.unary, TRef.toBuf, TRef.ofBuf, cast_eq]
  after_results
  unfold V4
  rw [Function.update_of_ne (by decide)]
  unfold V3
  simp only [opsB, TRef.binary, TRef.nullary, TRef.ternary, TRef.unary, TRef.toBuf, TRef.ofBuf, cast_eq]
  after_results

/-- The arguments end as they began. -/
theorem args_eq (d : Dev nD) : V5 m d a0 = m (d, a0) ∧ V5 m d a1 = m (d, a1) :=
  ⟨(V5_a0 m d).trans (V2_a0 m d), (V5_a1 m d).trans (V2_a1 m d)⟩

/-- The probabilities are the array that the TensorCore call leaves. -/
theorem prob_eq (d : Dev nD) : V5 m d vP = (dats (V1 m) 0 d).arrAt 2 cfg0.N := (V5_vP m d).trans (WR_prob (V1 m) d)

/-- The loss is the one entry of the array that the TensorCore call leaves. -/
theorem loss_eq (d : Dev nD) : V5 m d vL = shapeCast S_ ((dats (V1 m) 0 d).arrAt 4 cfg0.N : (⟨S1x1, .f32⟩ : BufTy).Contents (Elt F)) shapeCasts_S1x1_S_ := by
  have e : V4 m d vA = (dats (V1 m) 0 d).arrAt 4 cfg0.N := by
    unfold V4
    rw [Function.update_of_ne (by decide)]
    unfold V3
    simp only [opsB, TRef.binary, TRef.nullary, TRef.ternary, TRef.unary, TRef.toBuf, TRef.ofBuf, cast_eq]
    after_results
    exact WR_loss (V1 m) d
  rw [← e]
  unfold V5
  simp only [opsC, TRef.binary, TRef.nullary, TRef.ternary, TRef.unary, TRef.toBuf, TRef.ofBuf, cast_eq]
  after_results
  rfl

/-- The half of each fetched row that the code's parity names. -/
def picked (d : Dev nD) : S4096x64.Idx → Elt F .f32 :=
  select (broadcastInDim S4096x64 ![0, 1] bcast_S4096x1_S4096x64_0_1
      (broadcastInDim S4096x1 ![0] bcast_S4096_S4096x1_0 (fun j => odd (codes m d j))))
    (extractStridedSlice S4096x64 ![0, 64] (gathered (Im m) (Xm m) d) slices_S4096x128_S4096x64_0_64)
    (extractStridedSlice S4096x64 ![0, 0] (gathered (Im m) (Xm m) d) slices_S4096x128_S4096x64_0_0)

/-- The result, from the halves picked. -/
theorem result_picked (d : Dev nD) : V5 m d vQ = transpose S4x64x32x32 [0, 3, 1, 2]
    (shapeCast S4x32x32x64 (picked m d) shapeCasts_S4096x64_S4x32x32x64) transposes_S4x32x32x64_S4x64x32x32_0_3_1_2 := by
  have hO : V4 m d vO = gathered (Im m) (Xm m) d := by unfold V4; rw [Function.update_self]
  unfold V5
  simp only [opsC, TRef.binary, TRef.nullary, TRef.ternary, TRef.unary, TRef.toBuf, TRef.ofBuf, cast_eq]
  after_results
  rw [codes_eq, hO]
  rfl

/-- The rows of the table that the codes name, in the codes' order. -/
def rows (d : Dev nD) : S4096x64.Idx → Elt F .f32 := fun i => m (d, a1) (Cert.Proof.LookupIdealRun.codeIdx (codes m d (ValueIdx.ix1 (i 0))) (i 1))

/-- Every code names a row of the table. -/
def CodesOk : Prop := ∀ (d : Dev nD) (j : S4096.Idx), (codes m d j).toNat < 8192

/-- Where the codes are in the codebook their pair rows are in the call's table. -/
theorem inTable (hC : CodesOk m) : InTable (Im m) := by
  intro d j
  rw [list_eq]
  show (half (codes m d j)).toNat < 4096
  rw [half_toNat _ (hC d j)]
  have := hC d j
  omega

/-- A word of the pair table: row `v / 2`, the half that `v`'s parity names, column `k` is row `v` of the table. -/
theorem pairs_apply (d : Dev nD) (v : BitVec 32) (hv : v.toNat < 8192) (k : Fin 64) (k' : Fin 128)
    (hk : k'.val = k.val + 64 * (v.toNat % 2)) : pairs m d (srcIdx (half v) k') = m (d, a1) (Cert.Proof.LookupIdealRun.codeIdx v k) := by
  refine shapeCast_apply (s := S8192x64) (m (d, a1)) shapeCasts_S8192x64_S4096x128 (srcIdx (half v) k') (Cert.Proof.LookupIdealRun.codeIdx v k) ?_
  have hh := half_toNat v hv
  rw [Shape.rowMajor_val_two, Shape.rowMajor_val_two]
  unfold Cert.Proof.LookupIdealRun.codeIdx srcIdx
  rw [dif_pos hv, dif_pos (show (half v).toNat < 4096 by omega)]
  show v.toNat * 64 + k.val = (half v).toNat * 128 + k'.val
  omega

/-- The halves picked are the codebook's rows that the codes name. -/
theorem picked_eq (hC : CodesOk m) (d : Dev nD) : picked m d = rows m d := by
  funext i
  have hv := hC d (ValueIdx.ix1 (i 0))
  have hbit : broadcastInDim S4096x64 ![0, 1] bcast_S4096x1_S4096x64_0_1
      (broadcastInDim S4096x1 ![0] bcast_S4096_S4096x1_0 (fun j => odd (codes m d j))) i
      = odd (codes m d (ValueIdx.ix1 (i 0))) := by
    rw [broadcastInDim_apply _ bcast_S4096x1_S4096x64_0_1 _ i (ValueIdx.ix2 (i 0) (0 : Fin 1)) (fun a => match a with
        | ⟨0, _⟩ => by show (i 0).val = if (4096 : Nat) = 1 then 0 else (i 0).val; rw [if_neg (by decide)]
        | ⟨1, _⟩ => by show 0 = if (1 : Nat) = 1 then 0 else (i 1).val; rw [if_pos rfl]),
      broadcastInDim_apply _ bcast_S4096_S4096x1_0 _ (ValueIdx.ix2 (i 0) (0 : Fin 1)) (ValueIdx.ix1 (i 0)) (fun a => match a with
        | ⟨0, _⟩ => by show (i 0).val = if (4096 : Nat) = 1 then 0 else (i 0).val; rw [if_neg (by decide)])]
  have h1 : (i 1).val < 64 := (i 1).isLt
  show Scalar.select (broadcastInDim S4096x64 ![0, 1] bcast_S4096x1_S4096x64_0_1
      (broadcastInDim S4096x1 ![0] bcast_S4096_S4096x1_0 (fun j => odd (codes m d j))) i) _ _ = _
  rw [hbit, odd_eq _ hv]
  have hG : ∀ (k' : Fin 128), gathered (Im m) (Xm m) d (ValueIdx.ix2 (i 0) k')
      = pairs m d (srcIdx (half (codes m d (ValueIdx.ix1 (i 0)))) k') := by
    intro k'
    show Xm m d (srcIdx (Im m d (ValueIdx.ix1 (i 0))) k') = _
    rw [list_eq, table_eq]
  show Scalar.select _ (extractStridedSlice (s := S4096x128) S4096x64 ![0, 64] (gathered (Im m) (Xm m) d) slices_S4096x128_S4096x64_0_64 i)
    (extractStridedSlice (s := S4096x128) S4096x64 ![0, 0] (gathered (Im m) (Xm m) d) slices_S4096x128_S4096x64_0_0 i) = rows m d i
  generalize gathered (Im m) (Xm m) d = G at hG ⊢
  rcases Nat.mod_two_eq_zero_or_one (codes m d (ValueIdx.ix1 (i 0))).toNat with h | h
  · rw [if_neg (by omega), ValueIdx.select_zero]
    refine (extractStridedSlice_apply (s := S4096x128) ![0, 0] G slices_S4096x128_S4096x64_0_0 i (ValueIdx.ix2 (i 0) ⟨(i 1).val, by omega⟩) (fun a => match a with
      | ⟨0, _⟩ => by show (i 0).val = 0 + (i 0).val; omega
      | ⟨1, _⟩ => by show (i 1).val = 0 + (i 1).val; omega)).trans ((hG _).trans ?_)
    exact pairs_apply m d _ hv (i 1) _ (by show (i 1).val = _; omega)
  · rw [if_pos h, ValueIdx.select_one]
    refine (extractStridedSlice_apply (s := S4096x128) ![0, 64] G slices_S4096x128_S4096x64_0_64 i (ValueIdx.ix2 (i 0) ⟨64 + (i 1).val, by omega⟩) (fun a => match a with
      | ⟨0, _⟩ => by show (i 0).val = 0 + (i 0).val; omega
      | ⟨1, _⟩ => by show 64 + (i 1).val = 64 + (i 1).val; omega)).trans ((hG _).trans ?_)
    exact pairs_apply m d _ hv (i 1) _ (by show 64 + (i 1).val = _; omega)

/-- WHAT THE PROGRAM RETURNS: the rows that the codes name, reshaped and transposed. -/
theorem result_eq (hC : CodesOk m) (d : Dev nD) : V5 m d vQ = transpose S4x64x32x32 [0, 3, 1, 2]
    (shapeCast S4x32x32x64 (rows m d) shapeCasts_S4096x64_S4x32x32x64) transposes_S4x32x32x64_S4x64x32x32_0_3_1_2 := by
  rw [result_picked, picked_eq m hC]

end Cert.Proof.KernelRun

end
-- ==== Proof.KernelAt.lean ====
/-
  The values of the TensorCore body at an index, over the reals: a row's distances, their least, the probabilities, the
  code and the block's contribution to the loss, each as one formula over the body's two blocks.
-/
module

public import proofs.«01_k».proof.Proof.Gen.KernelIdeal.Skeleton
public import Idealize.ShloMosaic.Lib.Pointwise

@[expose] public section

set_option maxRecDepth 16384

noncomputable section

namespace Cert.Proof.KernelAt

open Cert.KernelIdeal Cert.KernelIdeal.Gen
open Idealize.ShloMosaic Idealize.ShloMosaic.TcCoe

variable (v0 : Vec Ideal S256x64 .f32) (v2 : Vec Ideal S8192x64 .f32)

/-- A distance: the row's squared norm less twice its product with the table's row. -/
theorem pay3_apply (i : Fin 256) (k : Fin 8192) :
    k0_pay3 v0 v2 (ValueIdx.ix2 i k)
      = (∑ x : Fin 64, v0 (ValueIdx.ix2 i x) * v0 (ValueIdx.ix2 i x) : EReal)
        - ∑ x : Fin 64, (v0 (ValueIdx.ix2 i x) + v0 (ValueIdx.ix2 i x)) * v2 (ValueIdx.ix2 k x) := by
  pointwise [k0_pay3]
  rfl

/-- A row's least distance. -/
theorem pay4_apply (i : Fin 256) (z : Fin 1) :
    k0_pay4 v0 v2 (ValueIdx.ix2 i z)
      = Finset.fold min (Ideal.ofBits FTy.f32 0x7F800000#32) (fun x : Fin 8192 => k0_pay3 v0 v2 (ValueIdx.ix2 i x)) Finset.univ := by
  pointwise [k0_pay4]
  rfl

/-- A probability. -/
theorem pay5_apply (i : Fin 256) (k : Fin 8192) :
    k0_pay5 v0 v2 (ValueIdx.ix2 i k)
      = Ideal.exp2 ((k0_pay4 v0 v2 (ValueIdx.ix2 i 0) - k0_pay3 v0 v2 (ValueIdx.ix2 i k)) * Named.named (F := Ideal) κ "two_log2e" 0x4038AA3B#32)
        * Ideal.div 1 (∑ x : Fin 8192, Ideal.exp2 ((k0_pay4 v0 v2 (ValueIdx.ix2 i 0) - k0_pay3 v0 v2 (ValueIdx.ix2 i x)) * Named.named (F := Ideal) κ "two_log2e" 0x4038AA3B#32)) := by
  pointwise [k0_pay5]
  rfl

/-- A code. -/
theorem pay6_apply (i : Fin 256) (z : Fin 1) :
    k0_pay6 v0 v2 (ValueIdx.ix2 i z)
      = Ideal.fptosi 32 (Finset.fold min (Ideal.ofBits FTy.f32 0x7F800000#32)
          (fun x : Fin 8192 => if k0_pay3 v0 v2 (ValueIdx.ix2 i x) = k0_pay4 v0 v2 (ValueIdx.ix2 i 0)
            then ((BitVec.ofNat 32 x.val).toInt : ℝ) else Ideal.ofBits FTy.f32 0x46000000#32) Finset.univ) := by
  pointwise [k0_pay6]
  rfl

/-- A block's sum of least distances. -/
theorem pay7_eq : k0_pay7 v0 v2 = ∑ x : Fin 256, k0_pay4 v0 v2 (ValueIdx.ix2 x 0) := by
  pointwise [k0_pay7]
  exact Finset.sum_congr rfl fun x _ => by rw [Fin.sum_univ_one]; rfl

/-- The loss block after a point. -/
theorem pay2_apply (r : Ideal .f32) (w : Vec Ideal S1x1 .f32) (i k : Fin 1) :
    k0_pay2 r w (ValueIdx.ix2 i k) = w (ValueIdx.ix2 i k) + r * Ideal.ofBits FTy.f32 0x36A00000#32 := by
  pointwise [k0_pay2]

/-- The loss starts at zero. -/
theorem pay1_apply (i k : Fin 1) : k0_pay1 (F := Ideal) (ValueIdx.ix2 i k) = 0 := by
  pointwise [k0_pay1]

end Cert.Proof.KernelAt

end
-- ==== Proof.RowMath.lean ====
/-
  The mathematics of one row: the first place where a row of distances is least, the fold that finds it by comparing
  with the least value, the fold that finds it by carrying value and place together, and the softmax of a row.
  Nothing here is about a program.
-/
module

public import Idealize.ShloMosaic.PureOps.Ideal.Laws
public import Idealize.ShloMosaic.Lib.IdealHost

@[expose] public section

set_option maxRecDepth 16384

noncomputable section

namespace Cert.Proof.RowMath

open Idealize.ShloMosaic

/-! ## The first least place -/

section First
variable {n : ℕ} {α : Type} [LinearOrder α]

/-- `k` is the first place where `d` is least. -/
def IsFirst (d : Fin n → α) (k : Fin n) : Prop := (∀ j, d k ≤ d j) ∧ ∀ j, j < k → d k < d j

/-- A row with an entry has a first least place. -/
theorem exists_isFirst [NeZero n] (d : Fin n → α) : ∃ k, IsFirst d k := by
  obtain ⟨k0, hk0⟩ := Finite.exists_min d
  obtain ⟨k, hk, hlt⟩ := (wellFounded_lt (α := Fin n)).has_min {k | ∀ j, d k ≤ d j} ⟨k0, hk0⟩
  refine ⟨k, hk, fun j hj => lt_of_le_of_ne (hk j) fun e => hlt j (fun i => ?_) hj⟩
  rw [← e]; exact hk i

/-- The first place where `d` is least. -/
def first [NeZero n] (d : Fin n → α) : Fin n := (exists_isFirst d).choose

/-- `first` is a first least place. -/
theorem first_spec [NeZero n] (d : Fin n → α) : IsFirst d (first d) := (exists_isFirst d).choose_spec

/-- There is only one first least place. -/
theorem IsFirst.unique {d : Fin n → α} {k l : Fin n} (hk : IsFirst d k) (hl : IsFirst d l) : k = l := by
  rcases lt_trichotomy k l with h | h | h
  · exact absurd (hk.1 l) (not_le.mpr (hl.2 k h))
  · exact h
  · exact absurd (hl.1 k) (not_le.mpr (hk.2 l h))

/-- There is one first least place. -/
theorem IsFirst.eq_first [NeZero n] {d : Fin n → α} {k : Fin n} (hk : IsFirst d k) : k = first d := hk.unique (first_spec d)

/-- A strictly monotone map of the entries moves no first least place. -/
theorem first_comp [NeZero n] {β : Type} [LinearOrder β] (d : Fin n → α) (f : α → β) (hf : StrictMono f) :
    first (fun j => f (d j)) = first d :=
  (IsFirst.eq_first (d := fun j => f (d j)) ⟨fun j => hf.monotone ((first_spec d).1 j), fun j h => hf ((first_spec d).2 j h)⟩).symm

end First

/-- The fold of `min` over a row is its entry at the first least place. -/
theorem fold_min {n : ℕ} [NeZero n] (d : Fin n → EReal) : (Finset.univ : Finset (Fin n)).fold min ⊤ d = d (first d) :=
  le_antisymm ((Finset.fold_min_le _).mpr (.inr ⟨first d, Finset.mem_univ _, le_rfl⟩))
    ((Finset.le_fold_min _).mpr ⟨le_top, fun k _ => (first_spec d).1 k⟩)

/-- The least of the places at which the row has its least value (`b`, above every place, standing for the others) is the first. -/
theorem fold_min_place {n : ℕ} [NeZero n] (d : Fin n → EReal) (b : EReal) (hb : ∀ k : Fin n, ((k.val : ℝ) : EReal) ≤ b) :
    (Finset.univ : Finset (Fin n)).fold min ⊤ (fun k => if d k = d (first d) then ((k.val : ℝ) : EReal) else b)
      = (((first d).val : ℝ) : EReal) := by
  refine le_antisymm ((Finset.fold_min_le _).mpr (.inr ⟨first d, Finset.mem_univ _, by rw [if_pos rfl]⟩))
    ((Finset.le_fold_min _).mpr ⟨le_top, fun k _ => ?_⟩)
  by_cases h : d k = d (first d)
  · rw [if_pos h, EReal.coe_le_coe_iff, Nat.cast_le]
    exact not_lt.mp fun hlt => absurd h ((first_spec d).2 k hlt).ne'
  · rw [if_neg h]; exact hb _

/-! ## Value and place carried together -/

/-- `a` comes no later than `b`: a smaller value, or the same value and a place no greater. -/
def NoLater (a b : EReal × BitVec 32) : Prop := a.1 < b.1 ∨ (a.1 = b.1 ∧ a.2.toInt ≤ b.2.toInt)

/-- No pair comes before itself. -/
theorem NoLater.refl (a : EReal × BitVec 32) : NoLater a a := .inr ⟨rfl, le_rfl⟩

/-- The order of pairs is transitive. -/
theorem NoLater.trans {a b c : EReal × BitVec 32} (h : NoLater a b) (h' : NoLater b c) : NoLater a c := by
  rcases h with h | ⟨h, hi⟩ <;> rcases h' with h' | ⟨h', hi'⟩
  · exact .inl (h.trans h')
  · exact .inl (h'.symm ▸ h)
  · exact .inl (h.symm ▸ h')
  · exact .inr ⟨h.trans h', hi.trans hi'⟩

/-- Pairs neither of which comes later are equal. -/
theorem NoLater.antisymm {a b : EReal × BitVec 32} (h : NoLater a b) (h' : NoLater b a) : a = b := by
  rcases h with h | ⟨h, hi⟩ <;> rcases h' with h' | ⟨h', hi'⟩
  · exact absurd h' (lt_asymm h)
  · exact absurd h' h.ne'
  · exact absurd h h'.ne'
  · exact Prod.ext h (BitVec.eq_of_toInt_eq (le_antisymm hi hi'))

/-- Of two pairs one comes no later. -/
theorem noLater_total (a b : EReal × BitVec 32) : NoLater a b ∨ NoLater b a := by
  rcases lt_trichotomy a.1 b.1 with h | h | h
  · exact .inl (.inl h)
  · rcases le_total a.2.toInt b.2.toInt with hi | hi
    · exact .inl (.inr ⟨h, hi⟩)
    · exact .inr (.inr ⟨h.symm, hi⟩)
  · exact .inr (.inl h)

open Classical in
/-- A fold by an operation that keeps whichever pair comes no later ends in a pair of the list (or the start) that comes no
    later than any of them. -/
theorem foldl_noLater (f : EReal × BitVec 32 → EReal × BitVec 32 → EReal × BitVec 32)
    (hf : ∀ a b, (f a b = a ∨ f a b = b) ∧ NoLater (f a b) a ∧ NoLater (f a b) b) (L : List (EReal × BitVec 32)) (a : EReal × BitVec 32) :
    L.foldl f a ∈ a :: L ∧ ∀ b ∈ a :: L, NoLater (L.foldl f a) b := by
  induction L generalizing a with
  | nil => simp [NoLater.refl]
  | cons c L ih =>
    obtain ⟨hm, hall⟩ := ih (f a c)
    obtain ⟨hor, ha, hc⟩ := hf a c
    rw [List.foldl_cons]
    refine ⟨?_, fun b hb => ?_⟩
    · rcases List.mem_cons.mp hm with h | h
      · rw [h]; rcases hor with h | h <;> rw [h] <;> simp
      · simp [h]
    · have h0 := hall (f a c) (by simp)
      rcases List.mem_cons.mp hb with rfl | hb
      · exact h0.trans ha
      · rcases List.mem_cons.mp hb with rfl | hb
        · exact h0.trans hc
        · exact hall b (by simp [hb])

/-- The fold finds any pair of the list that comes no later than the start and than every pair of the list. -/
theorem foldl_eq (f : EReal × BitVec 32 → EReal × BitVec 32 → EReal × BitVec 32)
    (hf : ∀ a b, (f a b = a ∨ f a b = b) ∧ NoLater (f a b) a ∧ NoLater (f a b) b) (L : List (EReal × BitVec 32)) (a p : EReal × BitVec 32)
    (hp : p ∈ L) (hall : ∀ b ∈ a :: L, NoLater p b) : L.foldl f a = p := by
  obtain ⟨hm, h⟩ := foldl_noLater f hf L a
  exact (h p (by simp [hp])).antisymm (hall _ hm)

/-! ## Sums of reals and the softmax -/

/-- A sum of reals is the same number among the extended reals. -/
theorem coe_sum {ι : Type} (s : Finset ι) (x : ι → ℝ) : ((∑ k ∈ s, x k : ℝ) : EReal) = ∑ k ∈ s, (x k : EReal) := by
  classical
  induction s using Finset.induction_on with
  | empty => simp
  | insert a s ha ih => rw [Finset.sum_insert ha, Finset.sum_insert ha, EReal.coe_add, ih]

/-- The softmax of a row. -/
def soft {n : ℕ} (x : Fin n → ℝ) (k : Fin n) : ℝ := Real.exp (x k) / ∑ j, Real.exp (x j)

/-- A sum of exponentials is positive. -/
theorem sum_exp_pos {n : ℕ} [NeZero n] (x : Fin n → ℝ) : 0 < ∑ j, Real.exp (x j) :=
  Finset.sum_pos (fun j _ => Real.exp_pos _) ⟨0, Finset.mem_univ _⟩

/-- Taking the same number from every entry does not change the softmax. -/
theorem soft_sub {n : ℕ} (x : Fin n → ℝ) (c : ℝ) (k : Fin n) : soft (fun j => x j - c) k = soft x k := by
  have e : ∀ j, Real.exp (x j - c) = Real.exp (x j) * Real.exp (-c) := fun j => by rw [← Real.exp_add]; rfl
  unfold soft
  simp only [e]
  rw [← Finset.sum_mul, mul_div_mul_right _ _ (Real.exp_pos _).ne']

/-- `2` to the power `t · 2/ln 2` is `exp (2t)`. -/
theorem two_rpow (t : ℝ) : Real.rpow 2 (t * (2 * (Real.log 2)⁻¹)) = Real.exp (2 * t) := by
  have h : Real.log 2 ≠ 0 := (Real.log_pos (by norm_num)).ne'
  show (2 : ℝ) ^ (t * (2 * (Real.log 2)⁻¹)) = _
  rw [Real.rpow_def_of_pos (by norm_num)]
  congr 1
  field_simp

/-- The squared norm of a row less twice its products with the rows of `e`. -/
def distR {m n p : ℕ} (x : Fin m → Fin p → ℝ) (e : Fin n → Fin p → ℝ) (i : Fin m) (k : Fin n) : ℝ :=
  (∑ j, x i j * x i j) - ∑ j, (x i j + x i j) * e k j

end Cert.Proof.RowMath

end
-- ==== Proof.KernelBlock.lean ====
/-
  A block of the TensorCore call over the reals: its rows of distances are rows of the whole array's distances, and its
  codes, probabilities and sum are functions of those rows, whatever the input.
-/
module

public import proofs.«01_k».proof.Proof.KernelHost
public import proofs.«01_k».proof.Proof.KernelAt
public import proofs.«01_k».proof.Proof.RowMath
public import Idealize.ShloMosaic.Lib.Pipeline.ValueKit

@[expose] public section

set_option maxRecDepth 16384

noncomputable section

namespace Cert.Proof.KernelBlock

open Cert.KernelIdeal Cert.KernelIdeal.Gen Cert.Proof.KernelRun
open Idealize.ShloMosaic Idealize.ShloMosaic.TcCoe Idealize.ShloMosaic.StableHlo Idealize.ShloMosaic.Pipeline
open Cert.Proof.RowMath Cert.Proof.KernelAt

/-! ## The literals -/

/-- The literal the minimum starts from is `⊤`. -/
theorem top_bits : Ideal.ofBits FTy.f32 0x7F800000#32 = ⊤ := by simp [Ideal.ofBits, Ideal.ieee]

/-- The literal beyond every place is 8192. -/
theorem bits_8192 : Ideal.ofBits FTy.f32 0x46000000#32 = ((8192 : ℝ) : EReal) := by
  simp [Ideal.ofBits, Ideal.ieee, -EReal.coe_mul]; norm_num

/-- The loss's scale is 1.25 / (4096 * 64). -/
theorem bits_scale : Ideal.ofBits FTy.f32 0x36A00000#32 = ((5 / 1048576 : ℝ) : EReal) := by
  simp [Ideal.ofBits, Ideal.ieee, -EReal.coe_mul]; norm_num

/-- The named constant is 2 / ln 2. -/
theorem two_log2e : Named.named (F := Ideal) κ "two_log2e" (φ := .f32) 0x4038AA3B#32 = ((2 * (Real.log 2)⁻¹ : ℝ) : EReal) :=
  IdealRules.named_const.ideal_named_scalar _ _ _ _ rfl

/-- A place, as a word, as a number. -/
theorem toInt_place (k : Fin 8192) : (BitVec.ofNat 32 k.val).toInt = (k.val : ℤ) := by
  have := k.isLt
  rw [BitVec.toInt_eq_toNat_cond, BitVec.toNat_ofNat, Nat.mod_eq_of_lt (by omega), if_pos (by omega)]

/-- A place, as a real, cut back to a word. -/
theorem fptosi_place (k : Fin 8192) : Ideal.fptosi 32 ((k.val : ℝ) : EReal) = BitVec.ofNat 32 k.val := by
  have := k.isLt
  unfold Ideal.fptosi
  rw [Ideal.toIntClamped_coe, if_pos (Nat.cast_nonneg _), Int.floor_natCast, min_eq_right (by norm_num; omega), max_eq_right (by norm_num)]
  exact BitVec.ofInt_natCast 32 k.val

/-! ## A block's rows -/

variable (v0 : Vec Ideal S256x64 .f32) (v2 : Vec Ideal S8192x64 .f32)

/-- Row `i` of the block's distances. -/
def row (i : Fin 256) (k : Fin 8192) : EReal := k0_pay3 v0 v2 (ValueIdx.ix2 i k)

/-- A row of probabilities from a row of distances. -/
def probE (d : Fin 8192 → EReal) (k : Fin 8192) : EReal :=
  Ideal.exp2 ((d (first d) - d k) * ((2 * (Real.log 2)⁻¹ : ℝ) : EReal))
    * Ideal.div 1 (∑ x : Fin 8192, Ideal.exp2 ((d (first d) - d x) * ((2 * (Real.log 2)⁻¹ : ℝ) : EReal)))

/-- The least distance of a row is the distance at its first least place. -/
theorem least_eq (i : Fin 256) (z : Fin 1) : k0_pay4 v0 v2 (ValueIdx.ix2 i z) = row v0 v2 i (first (row v0 v2 i)) := by
  rw [pay4_apply, top_bits]
  exact fold_min (row v0 v2 i)

/-- A step's probabilities, from the distances of the row. -/
theorem prob_eq (i : Fin 256) (k : Fin 8192) : k0_pay5 v0 v2 (ValueIdx.ix2 i k) = probE (row v0 v2 i) k := by
  rw [pay5_apply, least_eq, two_log2e]
  rfl

/-- A step's codes are the first least places. -/
theorem code_eq (i : Fin 256) (z : Fin 1) : k0_pay6 v0 v2 (ValueIdx.ix2 i z) = BitVec.ofNat 32 (first (row v0 v2 i)).val := by
  rw [pay6_apply, least_eq, top_bits, bits_8192, ← fptosi_place]
  refine congrArg (Ideal.fptosi 32) (Eq.trans ?_ (fold_min_place (row v0 v2 i) ((8192 : ℝ) : EReal) fun k => ?_))
  · refine congrArg (fun f => Finset.fold min ⊤ f Finset.univ) (funext fun k => ?_)
    rw [toInt_place, Int.cast_natCast]
    rfl
  · rw [EReal.coe_le_coe_iff]
    exact_mod_cast k.isLt.le

/-- A step's part of the loss is the sum of its rows' least distances. -/
theorem part_eq : k0_pay7 v0 v2 = ∑ i : Fin 256, row v0 v2 i (first (row v0 v2 i)) := by
  rw [pay7_eq]
  exact Finset.sum_congr rfl fun i _ => least_eq v0 v2 i 0

/-! ## The arrays -/

/-- A row's distances, from the whole flattened input and the table. -/
def distE (z : S4096x64.Idx → EReal) (e : S8192x64.Idx → EReal) (r : Fin 4096) (k : Fin 8192) : EReal :=
  (∑ x : Fin 64, z (ValueIdx.ix2 r x) * z (ValueIdx.ix2 r x))
    - ∑ x : Fin 64, (z (ValueIdx.ix2 r x) + z (ValueIdx.ix2 r x)) * e (ValueIdx.ix2 k x)

variable (W : Dev nD → Valuation τ sig (Elt Ideal)) (c : Dev nD)

/-- The flattened input and the table as the region finds them. -/
def zW : S4096x64.Idx → EReal := W c (Proc.devRef .tc main_v1)
def eW : S8192x64.Idx → EReal := W c (Proc.devRef .tc main_arg1)

/-- The array row that row `i` of block `t` is. -/
def rowOf (t : Fin cfg0.N) (i : Fin 256) : Fin 4096 :=
  ⟨t.val * 256 + i.val, by have := Nat.lt_of_lt_of_eq t.isLt N_0; have := i.isLt; omega⟩

/-- Which block of each array a point takes. -/
theorem idx_facts : ∀ t : Fin grid0.N, win0_0.index t = ![t.val, 0] ∧ win0_1.index t = ![0, 0] ∧ win0_2.index t = ![t.val, 0]
    ∧ win0_3.index t = ![t.val, 0] ∧ win0_4.index t = ![0, 0] := by decide +kernel

/-- A point's block of the flattened input. -/
theorem iblk0 (t : Fin cfg0.N) (i : Fin 256) (x : Fin 64) : iblk W c 0 t (ValueIdx.ix2 i x) = zW W c (ValueIdx.ix2 (rowOf t i) x) := by
  have h := (idx_facts t).1
  unfold zW rowOf
  blk_ext [iblk, h]

/-- Every point takes the whole table. -/
theorem iblk1 (t : Fin cfg0.N) (k : Fin 8192) (x : Fin 64) : iblk W c 1 t (ValueIdx.ix2 k x) = eW W c (ValueIdx.ix2 k x) := by
  have h := (idx_facts t).2.1
  unfold eW
  blk_ext [iblk, h]

/-- A row of distances of a point's blocks is a row of distances of the whole arrays. -/
theorem row_iblk (t : Fin cfg0.N) (i : Fin 256) : row (iblk W c 0 t) (iblk W c 1 t) i = distE (zW W c) (eW W c) (rowOf t i) := by
  funext k
  unfold row distE
  rw [pay3_apply]
  simp only [iblk0, iblk1]

end Cert.Proof.KernelBlock

end
-- ==== Proof.KernelArrays.lean ====
/-
  The TensorCore call's three arrays over the reals, each as one function of the flattened input and the table.

  `codes_final`: each row's code is the first place where its distances are least, whatever the input. `prob_final`: each
  row's probabilities. `loss_final`: the loss, a sum over the blocks.
-/
module

public import proofs.«01_k».proof.Proof.KernelBlock

@[expose] public section

set_option maxRecDepth 16384

noncomputable section

namespace Cert.Proof.KernelBlock

open Cert.KernelIdeal Cert.KernelIdeal.Gen Cert.Proof.KernelRun
open Idealize.ShloMosaic Idealize.ShloMosaic.TcCoe Idealize.ShloMosaic.StableHlo Idealize.ShloMosaic.Pipeline
open Cert.Proof.RowMath Cert.Proof.KernelAt

variable (W : Dev nD → Valuation τ sig (Elt Ideal)) (c : Dev nD)

/-- Every index of a two-axis shape is the pair of its coordinates. -/
theorem eq_ix2 {a b : ℕ} (y : (⟨2, ![a, b]⟩ : Shape).Idx) : y = ValueIdx.ix2 (y 0) (y 1) := by
  funext k; fin_cases k <;> rfl

/-- An index of the codes' array is in point `t`'s block. -/
theorem mem_blk3 (t : Fin cfg0.N) (i : S4096x1.Idx) :
    i ∈ ((cfg0.win 3).blk t).view.set ↔ t.val * 256 ≤ (i 0 : Nat) ∧ (i 0 : Nat) < t.val * 256 + 256 := by
  show i ∈ ((View.whole main_v2_1).slice (win0_3.rect t)).set ↔ _
  rw [View.set_slice_whole, Rect.mem_set_unit]
  have h1 : (i 1 : Nat) < 1 := (i 1).isLt
  have h := (idx_facts t).2.2.2.1
  have e : win0_3.index t 0 * win0_3.size 0 = t.val * 256 ∧ win0_3.index t 1 * win0_3.size 1 = 0 := by
    rw [h]; exact ⟨rfl, rfl⟩
  refine ⟨fun h => ?_, fun h a => ?_⟩
  · have : win0_3.index t 0 * win0_3.size 0 ≤ (i 0 : Nat) ∧ (i 0 : Nat) < win0_3.index t 0 * win0_3.size 0 + 256 := h 0
    rw [e.1] at this; exact this
  · match a with
    | ⟨0, _⟩ => show win0_3.index t 0 * win0_3.size 0 ≤ (i 0 : Nat) ∧ (i 0 : Nat) < win0_3.index t 0 * win0_3.size 0 + 256
                rw [e.1]; exact h
    | ⟨1, _⟩ => show win0_3.index t 1 * win0_3.size 1 ≤ (i 1 : Nat) ∧ (i 1 : Nat) < win0_3.index t 1 * win0_3.size 1 + 1
                rw [e.2]; omega

/-- An index of the probabilities' array is in point `t`'s block. -/
theorem mem_blk2 (t : Fin cfg0.N) (i : S4096x8192.Idx) :
    i ∈ ((cfg0.win 2).blk t).view.set ↔ t.val * 256 ≤ (i 0 : Nat) ∧ (i 0 : Nat) < t.val * 256 + 256 := by
  show i ∈ ((View.whole main_v2_0).slice (win0_2.rect t)).set ↔ _
  rw [View.set_slice_whole, Rect.mem_set_unit]
  have h1 : (i 1 : Nat) < 8192 := (i 1).isLt
  have h := (idx_facts t).2.2.1
  have e : win0_2.index t 0 * win0_2.size 0 = t.val * 256 ∧ win0_2.index t 1 * win0_2.size 1 = 0 := by
    rw [h]; exact ⟨rfl, Nat.zero_mul _⟩
  refine ⟨fun h => ?_, fun h a => ?_⟩
  · have : win0_2.index t 0 * win0_2.size 0 ≤ (i 0 : Nat) ∧ (i 0 : Nat) < win0_2.index t 0 * win0_2.size 0 + 256 := h 0
    rw [e.1] at this; exact this
  · match a with
    | ⟨0, _⟩ => show win0_2.index t 0 * win0_2.size 0 ≤ (i 0 : Nat) ∧ (i 0 : Nat) < win0_2.index t 0 * win0_2.size 0 + 256
                rw [e.1]; exact h
    | ⟨1, _⟩ => show win0_2.index t 1 * win0_2.size 1 ≤ (i 1 : Nat) ∧ (i 1 : Nat) < win0_2.index t 1 * win0_2.size 1 + 8192
                rw [e.2]; omega

/-- The point that writes row `n`. -/
theorem point_of (n : ℕ) (hn : n < 4096) : ∃ t : Fin cfg0.N, t.val * 256 ≤ n ∧ n < t.val * 256 + 256 :=
  ⟨⟨n / 256, by rw [show cfg0.N = 16 from N_0]; omega⟩, by dsimp only; omega, by dsimp only; omega⟩

/-- Every entry of the codes' array lies in a block that some point writes back. -/
theorem cover3 (i : S4096x1.Idx) : ∃ t : Fin cfg0.N, (cfg0.win 3).flush t = true ∧ i ∈ ((cfg0.win 3).blk t).view.set := by
  obtain ⟨t, h⟩ := point_of (i 0).val (i 0).isLt
  exact ⟨t, flush0_3 t, (mem_blk3 t i).mpr h⟩

/-- Every entry of the probabilities' array lies in a block that some point writes back. -/
theorem cover2 (i : S4096x8192.Idx) : ∃ t : Fin cfg0.N, (cfg0.win 2).flush t = true ∧ i ∈ ((cfg0.win 2).blk t).view.set := by
  obtain ⟨t, h⟩ := point_of (i 0).val (i 0).isLt
  exact ⟨t, flush0_2 t, (mem_blk2 t i).mpr h⟩

/-- The codes, row by row. -/
def codesG : S4096x1.Idx → BitVec 32 := fun j => BitVec.ofNat 32 (first (distE (zW W c) (eW W c) (j 0))).val

/-- The probabilities, row by row. -/
def probG : S4096x8192.Idx → EReal := fun j => probE (distE (zW W c) (eW W c) (j 0)) (j 1)

/-- Where a place of a point's block of codes lies in the whole array. -/
theorem emb3 (t : Fin cfg0.N) (y : S256x1.Idx) : (win0_3.blk t).view.emb y = ValueIdx.ix2 (rowOf t (y 0)) (y 1) := by
  have h := (idx_facts t).2.2.2.1
  have e : win0_3.index t 0 * win0_3.size 0 = t.val * 256 ∧ win0_3.index t 1 * win0_3.size 1 = 0 := by
    rw [h]; exact ⟨rfl, rfl⟩
  funext a
  match a with
  | ⟨0, _⟩ => exact Fin.ext ((Pipeline.Window.rect_emb_val win0_3 t y 0).trans (congrArg (· + (y 0).val) e.1))
  | ⟨1, _⟩ => exact Fin.ext ((Pipeline.Window.rect_emb_val win0_3 t y 1).trans ((congrArg (· + (y 1).val) e.2).trans (Nat.zero_add _)))

/-- Where a place of a point's block of probabilities lies in the whole array. -/
theorem emb2 (t : Fin cfg0.N) (y : S256x8192.Idx) : (win0_2.blk t).view.emb y = ValueIdx.ix2 (rowOf t (y 0)) (y 1) := by
  have h := (idx_facts t).2.2.1
  have e : win0_2.index t 0 * win0_2.size 0 = t.val * 256 ∧ win0_2.index t 1 * win0_2.size 1 = 0 := by
    rw [h]; exact ⟨rfl, Nat.zero_mul _⟩
  funext a
  match a with
  | ⟨0, _⟩ => exact Fin.ext ((Pipeline.Window.rect_emb_val win0_2 t y 0).trans (congrArg (· + (y 0).val) e.1))
  | ⟨1, _⟩ => exact Fin.ext ((Pipeline.Window.rect_emb_val win0_2 t y 1).trans ((congrArg (· + (y 1).val) e.2).trans (Nat.zero_add _)))

/-- A point's code is the whole array's at that place. -/
theorem code_at (t : Fin cfg0.N) (y : S256x1.Idx) :
    k0_pay6 (iblk W c 0 t) (iblk W c 1 t) y = codesG W c ((win0_3.blk t).view.emb y) := by
  rw [emb3]
  exact (congrArg (k0_pay6 (iblk W c 0 t) (iblk W c 1 t)) (eq_ix2 (a := 256) (b := 1) y)).trans
    ((code_eq (iblk W c 0 t) (iblk W c 1 t) (y 0) (y 1)).trans
      (congrArg (fun d : Fin 8192 → EReal => BitVec.ofNat 32 (first d).val) (row_iblk W c t (y 0))))

/-- A point's probability is the whole array's at that place. -/
theorem prob_at (t : Fin cfg0.N) (y : S256x8192.Idx) :
    k0_pay5 (iblk W c 0 t) (iblk W c 1 t) y = probG W c ((win0_2.blk t).view.emb y) := by
  rw [emb2]
  exact (congrArg (k0_pay5 (iblk W c 0 t) (iblk W c 1 t)) (eq_ix2 (a := 256) (b := 8192) y)).trans
    ((KernelBlock.prob_eq (iblk W c 0 t) (iblk W c 1 t) (y 0) (y 1)).trans
      (congrArg (fun d : Fin 8192 → EReal => probE d (y 1)) (row_iblk W c t (y 0))))

/-- What a point writes back of the codes is the whole array's block. -/
theorem flushed3 (t : Fin cfg0.N) : (dats W 0 c).flushed 3 t = ((cfg0.win 3).blk t).view.read (Elt Ideal) (codesG W c) := by
  show (cfg0.win 3).cut (grid0.coords t) ((dats W 0 c).after 3 t) = _
  rw [after3]
  exact funext fun y => code_at W c t y

/-- What a point writes back of the probabilities is the whole array's block. -/
theorem flushed2 (t : Fin cfg0.N) : (dats W 0 c).flushed 2 t = ((cfg0.win 2).blk t).view.read (Elt Ideal) (probG W c) := by
  show (cfg0.win 2).cut (grid0.coords t) ((dats W 0 c).after 2 t) = _
  rw [after2]
  exact funext fun y => prob_at W c t y

/-- The codes after the call. -/
theorem codes_final : (dats W 0 c).arrAt 3 cfg0.N = codesG W c :=
  (dats W 0 c).arrAt_eq_of_cover 3 (codesG W c) (fun t _ => flushed3 W c t) cover3

/-- The probabilities after the call. -/
theorem prob_final : (dats W 0 c).arrAt 2 cfg0.N = probG W c :=
  (dats W 0 c).arrAt_eq_of_cover 2 (probG W c) (fun t _ => flushed2 W c t) cover2

/-- What block `t` adds to the loss, before the scale. -/
def partE (t : Fin cfg0.N) : EReal := ∑ i : Fin 256, distE (zW W c) (eW W c) (rowOf t i) (first (distE (zW W c) (eW W c) (rowOf t i)))

/-- The loss after point `n`. -/
def lossE : (n : ℕ) → n < cfg0.N → EReal
  | 0, hn => 0 + partE W c ⟨0, hn⟩ * ((5 / 1048576 : ℝ) : EReal)
  | n + 1, hn => lossE n (Nat.lt_of_succ_lt hn) + partE W c ⟨n + 1, hn⟩ * ((5 / 1048576 : ℝ) : EReal)

/-- The loss after the first point. -/
theorem lossE_zero (hn : 0 < cfg0.N) : lossE W c 0 hn = 0 + partE W c ⟨0, hn⟩ * ((5 / 1048576 : ℝ) : EReal) := by rw [lossE]
/-- The loss after a later point: the one before and that point's part, scaled. -/
theorem lossE_succ (n : ℕ) (hn : n + 1 < cfg0.N) :
    lossE W c (n + 1) hn = lossE W c n (Nat.lt_of_succ_lt hn) + partE W c ⟨n + 1, hn⟩ * ((5 / 1048576 : ℝ) : EReal) := by rw [lossE]

/-- A point's part of the loss, from its blocks. -/
theorem part_iblk (t : Fin cfg0.N) : k0_pay7 (iblk W c 0 t) (iblk W c 1 t) = partE W c t := by
  rw [part_eq]
  unfold partE
  simp only [row_iblk]

/-- The loss buffer after a point holds the loss so far. -/
theorem acc_eq (n : ℕ) (hn : n < cfg0.N) (i k : Fin 1) : acc W c n hn (ValueIdx.ix2 i k) = lossE W c n hn := by
  induction n with
  | zero =>
    rw [acc_zero W c ⟨0, hn⟩ rfl, pay2_apply, pay1_apply, part_iblk, bits_scale, lossE_zero]
  | succ n ih =>
    rw [acc_succ W c ⟨n + 1, hn⟩ (Nat.succ_ne_zero n), pay2_apply, part_iblk, bits_scale, lossE_succ]
    exact congrArg (· + _) (ih (Nat.lt_of_succ_lt hn))

/-- The grid has sixteen points. -/
theorem last_lt : 15 < cfg0.N := by show 15 < grid0.N; rw [N_0]; decide

/-- The one loss entry, as contents of the loss array. -/
def lossG : S1x1.Idx → EReal := acc W c 15 last_lt

/-- The loss array has one entry. -/
theorem one_entry (i k : S1x1.Idx) : i = k := by
  funext a
  match a with
  | ⟨0, _⟩ => exact Subsingleton.elim (α := Fin 1) _ _
  | ⟨1, _⟩ => exact Subsingleton.elim (α := Fin 1) _ _

/-- Whatever the loss array holds, its block at any point is all of it. -/
theorem cut4 (t : Fin cfg0.N) (G : S1x1.Idx → EReal) :
    (cfg0.win 4).cut (α := EReal) (grid0.coords t) G = ((cfg0.win 4).blk t).view.read (Elt Ideal) G :=
  funext fun y => congrArg G (one_entry _ _)

/-- The one write-back of the loss block is at the last point. -/
theorem flushed4 (t : Fin cfg0.N) (hf : (cfg0.win 4).flush t = true) :
    (dats W 0 c).flushed 4 t = ((cfg0.win 4).blk t).view.read (Elt Ideal) (lossG W c) := by
  have hN : cfg0.N = 16 := N_0
  have h3 : t.val = 15 := by have := (flush0_4 t).mp hf; have := t.isLt; omega
  have e : (dats W 0 c).after 4 t = lossG W c := by
    rw [after4]
    unfold lossG
    congr 1
  show (cfg0.win 4).cut (grid0.coords t) ((dats W 0 c).after 4 t) = _
  rw [e]
  generalize lossG W c = G
  exact cut4 t G

/-- The loss's one entry lies in the block that the last point writes back. -/
theorem cover4 (i : S1x1.Idx) : ∃ t : Fin cfg0.N, (cfg0.win 4).flush t = true ∧ i ∈ ((cfg0.win 4).blk t).view.set := by
  refine ⟨⟨15, last_lt⟩, (flush0_4 _).mpr rfl, ?_⟩
  show i ∈ ((View.whole main_v2_2).slice (win0_4.rect ⟨15, last_lt⟩)).set
  rw [View.set_slice_whole, Rect.mem_set_unit]
  have h := (idx_facts ⟨15, last_lt⟩).2.2.2.2
  have e : win0_4.index ⟨15, last_lt⟩ 0 * win0_4.size 0 = 0 ∧ win0_4.index ⟨15, last_lt⟩ 1 * win0_4.size 1 = 0 := by
    rw [h]; exact ⟨rfl, rfl⟩
  intro a
  match a with
  | ⟨0, _⟩ => show win0_4.index ⟨15, last_lt⟩ 0 * win0_4.size 0 ≤ (i 0 : Nat) ∧ (i 0 : Nat) < win0_4.index ⟨15, last_lt⟩ 0 * win0_4.size 0 + 1
              have h0 : (i 0 : Nat) < 1 := (i 0).isLt
              rw [e.1]; omega
  | ⟨1, _⟩ => show win0_4.index ⟨15, last_lt⟩ 1 * win0_4.size 1 ≤ (i 1 : Nat) ∧ (i 1 : Nat) < win0_4.index ⟨15, last_lt⟩ 1 * win0_4.size 1 + 1
              have h1 : (i 1 : Nat) < 1 := (i 1).isLt
              rw [e.2]; omega

/-- The loss after the call. -/
theorem loss_final : (dats W 0 c).arrAt 4 cfg0.N = lossG W c :=
  (dats W 0 c).arrAt_eq_of_cover 4 (lossG W c) (flushed4 W c) cover4

/-- The loss's array at the end holds the loss after the last point. -/
theorem lossG_eq (j : S1x1.Idx) : lossG W c j = lossE W c 15 last_lt := by
  rw [eq_ix2 j]
  exact acc_eq W c 15 last_lt (j 0) (j 1)

end Cert.Proof.KernelBlock

end
-- ==== Proof.KernelValue.lean ====
/-
  The whole program's results over the reals, read off its arguments.

  `inTable_all`: every code is below 8192 whatever the arguments, so that the SparseCore call's fetches stay inside the
  table. `rows_eq`, `prob_real`, `loss_real`: the three results where the arguments are real numbers.
-/
module

public import proofs.«01_k».proof.Proof.KernelArrays

@[expose] public section

set_option maxRecDepth 16384

noncomputable section

namespace Cert.Proof.KernelBlock

open Cert.KernelIdeal Cert.KernelIdeal.Gen Cert.Proof.KernelRun
open Idealize.ShloMosaic Idealize.ShloMosaic.TcCoe Idealize.ShloMosaic.StableHlo Idealize.ShloMosaic.Pipeline
open Cert.Proof.RowMath Cert.Proof.KernelAt

/-! ## Rows of real numbers -/

section Real
variable (z : S4096x64.Idx → EReal) (e : S8192x64.Idx → EReal) (X : Fin 4096 → Fin 64 → ℝ) (E : Fin 8192 → Fin 64 → ℝ)

/-- Real entries have real distances. -/
theorem distE_coe (hz : ∀ r x, z (ValueIdx.ix2 r x) = (X r x : EReal)) (he : ∀ k x, e (ValueIdx.ix2 k x) = (E k x : EReal)) (r : Fin 4096) :
    distE z e r = fun k => (distR X E r k : EReal) := by
  funext k
  unfold distE distR
  simp only [hz, he, ← EReal.coe_mul, ← EReal.coe_add, ← coe_sum, ← EReal.coe_sub]

/-- The first least place of real distances among the extended reals is the one among the reals. -/
theorem first_coe (d : Fin 8192 → ℝ) : first (fun k => (d k : EReal)) = first d :=
  first_comp d _ EReal.coe_strictMono

/-- A row of probabilities of real distances is the softmax of minus twice the distances. -/
theorem probE_coe (d : Fin 8192 → ℝ) (k : Fin 8192) : probE (fun k => (d k : EReal)) k = (soft (fun j => -2 * d j) k : EReal) := by
  have h : ∀ j, Ideal.exp2 (((d (first d) : EReal) - (d j : EReal)) * ((2 * (Real.log 2)⁻¹ : ℝ) : EReal))
      = (Real.exp (-2 * d j - -2 * d (first d)) : EReal) := fun j => by
    rw [← EReal.coe_sub, ← EReal.coe_mul, Ideal.exp2_coe, two_rpow]
    congr 2; ring
  unfold probE
  rw [first_coe]
  simp only [h]
  rw [← coe_sum, Ideal.div_coe (sum_exp_pos _).ne', ← soft_sub _ (-2 * d (first d)), one_mul, ← EReal.coe_mul]
  unfold soft
  rw [← div_eq_mul_one_div]

end Real

/-! ## The loss -/

variable (W : Dev nD → Valuation τ sig (Elt Ideal)) (c : Dev nD)

/-- Where each point's part is a real number the loss after a point is the sum of the parts so far, scaled. -/
theorem lossE_coe (q : ℕ → ℝ) (hq : ∀ t : Fin cfg0.N, partE W c t = (q t.val : EReal)) (n : ℕ) (hn : n < cfg0.N) :
    lossE W c n hn = ((∑ t ∈ Finset.range (n + 1), q t * (5 / 1048576 : ℝ) : ℝ) : EReal) := by
  induction n with
  | zero =>
    rw [lossE_zero, hq, zero_add, ← EReal.coe_mul, Finset.sum_range_one]
  | succ n ih =>
    rw [lossE_succ, hq, ih (Nat.lt_of_succ_lt hn), ← EReal.coe_mul, ← EReal.coe_add, Finset.sum_range_succ _ (n + 1)]

/-- A sum over the blocks of sums over their rows is the sum over the rows. -/
theorem sum_blocks (f : Fin 4096 → ℝ) :
    ∑ t : Fin 16, ∑ i : Fin 256, f (rowOf ⟨t.val, by have := t.isLt; have : cfg0.N = 16 := N_0; omega⟩ i) = ∑ r : Fin 4096, f r := by
  rw [← Fintype.sum_prod_type']
  refine Eq.trans ?_ (Equiv.sum_comp (finProdFinEquiv (m := 16) (n := 256)) f)
  refine Finset.sum_congr rfl fun p _ => congrArg f (Fin.ext ?_)
  show p.1.val * 256 + p.2.val = p.2.val + 256 * p.1.val
  omega

/-- The loss of real rows: the sum of their least distances, scaled. -/
theorem lossG_coe (X : Fin 4096 → Fin 64 → ℝ) (E : Fin 8192 → Fin 64 → ℝ)
    (hz : ∀ r x, zW W c (ValueIdx.ix2 r x) = (X r x : EReal)) (he : ∀ k x, eW W c (ValueIdx.ix2 k x) = (E k x : EReal)) (j : S1x1.Idx) :
    lossG W c j = (((∑ r, distR X E r (first (distR X E r))) * (5 / 1048576 : ℝ) : ℝ) : EReal) := by
  have hN : cfg0.N = 16 := N_0
  have hp : ∀ t, partE W c t = ((∑ i : Fin 256, distR X E (rowOf t i) (first (distR X E (rowOf t i))) : ℝ) : EReal) := fun t => by
    unfold partE
    rw [coe_sum]
    refine Finset.sum_congr rfl fun i _ => ?_
    rw [distE_coe _ _ X E hz he, first_coe]
  rw [lossG_eq, lossE_coe W c (fun n => if h : n < cfg0.N then ∑ i : Fin 256, distR X E (rowOf ⟨n, h⟩ i) (first (distR X E (rowOf ⟨n, h⟩ i))) else 0)
    (fun t => by rw [hp, dif_pos t.isLt]), ← Finset.sum_mul, Finset.sum_range]
  refine congrArg (fun x : ℝ => ((x * (5 / 1048576 : ℝ) : ℝ) : EReal)) (Eq.trans ?_ (sum_blocks fun r => distR X E r (first (distR X E r))))
  exact Finset.sum_congr rfl fun t _ => dif_pos (by have := t.isLt; omega)

/-! ## The results -/

variable (m : (ℓ : Loc nD τ sig) → Buf (Elt Ideal) ℓ)

/-- The TensorCore call's first argument is the flattened input. -/
theorem zW_eq (d : Dev nD) : zW (V1 m) d = flat m d := V1_flat m d
/-- The TensorCore call's second argument is the table. -/
theorem eW_eq (d : Dev nD) : eW (V1 m) d = m (d, a1) := V1_a1 m d

/-- The code of row `r`. -/
def code (d : Dev nD) (r : Fin 4096) : Fin 8192 := first (distE (flat m d) (m (d, a1)) r)

/-- The codes' words. -/
theorem codes_apply (d : Dev nD) (j : S4096.Idx) : codes m d j = BitVec.ofNat 32 (code m d (j 0)).val := by
  have e : V2 m d vC = codesG (V1 m) d := (WR_codes (V1 m) d).trans (codes_final (V1 m) d)
  have h : codesG (V1 m) d (ValueIdx.ix2 (j 0) 0) = BitVec.ofNat 32 (code m d (j 0)).val := by
    unfold codesG code
    rw [zW_eq, eW_eq]
  rw [← h, ← e]
  refine shapeCast_apply (s := S4096x1) (V2 m d vC) shapeCasts_S4096x1_S4096 j (ValueIdx.ix2 (j 0) 0) ?_
  rw [Shape.rowMajor_val_two, Shape.rowMajor_val_one]
  show (j 0).val * 1 + 0 = (j 0).val
  omega

/-- A code's word read as a number. -/
theorem toNat_code (d : Dev nD) (j : S4096.Idx) : (codes m d j).toNat = (code m d (j 0)).val := by
  have := (code m d (j 0)).isLt
  rw [codes_apply, BitVec.toNat_ofNat, Nat.mod_eq_of_lt (by omega)]

/-- Every code names a row of the table, whatever the arguments. -/
theorem codesOk : CodesOk m := fun d j => by rw [toNat_code]; exact (code m d (j 0)).isLt

/-- Every pair row the SparseCore call is asked for lies in its table, whatever the arguments. -/
theorem inTable_all : InTable (Im m) := inTable m (codesOk m)

/-- The rows of the table that the codes name. -/
theorem rows_eq (d : Dev nD) : rows m d = fun i : S4096x64.Idx => m (d, a1) (ValueIdx.ix2 (code m d (i 0)) (i 1)) := by
  funext i
  unfold rows Cert.Proof.LookupIdealRun.codeIdx
  refine congrArg (m (d, a1)) ?_
  have h := codesOk m d (ValueIdx.ix1 (i 0))
  rw [dif_pos h]
  refine congrArg (fun k => ValueIdx.ix2 k (i 1)) (Fin.ext ?_)
  exact toNat_code m d (ValueIdx.ix1 (i 0))

/-- The first result. -/
theorem quant_eq (d : Dev nD) : V5 m d vQ = transpose S4x64x32x32 [0, 3, 1, 2]
    (shapeCast S4x32x32x64 (fun i : S4096x64.Idx => m (d, a1) (ValueIdx.ix2 (code m d (i 0)) (i 1))) shapeCasts_S4096x64_S4x32x32x64)
    transposes_S4x32x32x64_S4x64x32x32_0_3_1_2 := by
  rw [result_eq m (codesOk m), rows_eq]

section Real
variable (X : Fin 4096 → Fin 64 → ℝ) (E : Fin 8192 → Fin 64 → ℝ) (d : Dev nD)
  (hz : ∀ r x, flat m d (ValueIdx.ix2 r x) = (X r x : EReal)) (he : ∀ k x, m (d, a1) (ValueIdx.ix2 k x) = (E k x : EReal))
include hz he

/-- For real arguments a row's code is the first least place of its distances. -/
theorem code_real (r : Fin 4096) : code m d r = first (distR X E r) := by
  unfold code
  rw [distE_coe _ _ X E hz he, first_coe]

/-- The third result, where the arguments are real. -/
theorem prob_real (i : S4096x8192.Idx) : (V5 m d vP : S4096x8192.Idx → EReal) i = (soft (fun k => -2 * distR X E (i 0) k) (i 1) : EReal) := by
  have e : V5 m d vP = probG (V1 m) d := (KernelRun.prob_eq m d).trans (prob_final (V1 m) d)
  rw [e]
  unfold probG
  rw [zW_eq, eW_eq]
  exact (congrArg (fun d : Fin 8192 → EReal => probE d (i 1)) (distE_coe _ _ X E hz he (i 0))).trans (probE_coe _ _)

/-- The second result, where the arguments are real. -/
theorem loss_real (j : S_.Idx) : (V5 m d vL : S_.Idx → EReal) j = (((∑ r, distR X E r (first (distR X E r))) * (5 / 1048576 : ℝ) : ℝ) : EReal) := by
  have e := (loss_eq m d).trans (congrArg (fun a => shapeCast S_ (a : S1x1.Idx → EReal) shapeCasts_S1x1_S_) (loss_final (V1 m) d))
  rw [e]
  exact lossG_coe (V1 m) d X E (by rw [zW_eq]; exact hz) (by rw [eW_eq]; exact he) _

end Real

end Cert.Proof.KernelBlock

end
-- ==== Proof.RefMath.lean ====
/-
  The references' steps as functions of arrays, and their values over the reals: the distances with and without the
  table's squared norms, the code of the least distance, the softmax, the rows looked up, the loss and the output.
-/
module

public import proofs.«01_k».proof.Proof.Gen.ReferenceIdeal
public import proofs.«01_k».proof.Proof.Gen.WithoutNormsIdeal
public import proofs.«01_k».proof.Proof.LookupRefValue
public import proofs.«01_k».proof.Proof.RowMath
public import Idealize.ShloMosaic.Lib.Pointwise

@[expose] public section

set_option maxRecDepth 16384

noncomputable section

namespace Cert.Proof.RefMath

open Cert.WithoutNormsIdeal Cert.WithoutNormsIdeal.Gen
open Idealize.ShloMosaic Idealize.ShloMosaic.TcCoe Idealize.ShloMosaic.StableHlo
open Cert.Proof.RowMath

/-! ## The steps -/

/-- The input with its channels last, one row per position. -/
def flatOf (z : FVec Ideal S4x64x32x32 .f32) : FVec Ideal S4096x64 .f32 :=
  shapeCast S4096x64 (transpose S4x32x32x64 [0, 2, 3, 1] z transposes_S4x64x32x32_S4x32x32x64_0_2_3_1) shapeCasts_S4x32x32x64_S4096x64

/-- The squared norms of the rows, one column. -/
def normsOf (x : FVec Ideal S4096x64 .f32) : FVec Ideal S4096x1 .f32 :=
  broadcastInDim S4096x1 ![0] bcast_S4096_S4096x1_0 (Host.reduceAdd (mulf x x) (constant S_ .f32 0x00000000#32) reducesTo_S4096x64_S4096_d1 h_S_)

/-- Twice the products of the rows with the table's rows. -/
def crossOf (x : FVec Ideal S4096x64 .f32) (e : FVec Ideal S8192x64 .f32) : FVec Ideal S4096x8192 .f32 :=
  mulf (broadcastInDim S4096x8192 ![] bcast_S_S4096x8192 (constant S_ .f32 0x40000000#32))
    (Host.dotGeneral dot_S4096x64_S64x8192_S4096x8192_1_0_0_1_n_n none x (transpose S64x8192 [1, 0] e transposes_S8192x64_S64x8192_1_0))

/-- The distances without the table's squared norms. -/
def distOf (x : FVec Ideal S4096x64 .f32) (e : FVec Ideal S8192x64 .f32) : FVec Ideal S4096x8192 .f32 :=
  subf (broadcastInDim S4096x8192 ![0, 1] bcast_S4096x1_S4096x8192_0_1 (normsOf x)) (crossOf x e)

/-- The table's squared norms, one row. -/
def tableNormsOf (e : FVec Ideal S8192x64 .f32) : FVec Ideal Cert.ReferenceIdeal.S1x8192 .f32 :=
  broadcastInDim Cert.ReferenceIdeal.S1x8192 ![1] Cert.ReferenceIdeal.Gen.bcast_S8192_S1x8192_1
    (Host.reduceAdd (mulf e e) (constant S_ .f32 0x00000000#32) Cert.ReferenceIdeal.Gen.reducesTo_S8192x64_S8192_d1 h_S_)

/-- The distances with the table's squared norms. -/
def distNOf (x : FVec Ideal S4096x64 .f32) (e : FVec Ideal S8192x64 .f32) : FVec Ideal S4096x8192 .f32 :=
  subf (addf (broadcastInDim S4096x8192 ![0, 1] bcast_S4096x1_S4096x8192_0_1 (normsOf x))
    (broadcastInDim S4096x8192 ![0, 1] Cert.ReferenceIdeal.Gen.bcast_S1x8192_S4096x8192_0_1 (tableNormsOf e))) (crossOf x e)

/-- The places of the rows' least entries. -/
def codesOf (d : FVec Ideal S4096x8192 .f32) : IVec S4096 32 :=
  fun j => (Host.argReduce (reducer_argmin_f32_i32 (F := Ideal)) d (iotaInDim S4096x8192 32 1) (constant S_ .f32 0x7F800000#32) (constantI S_ 32 0#32)
    reducesTo_S4096x8192_S4096_d1 h_S_ j).2

/-- Minus the distances over one half. -/
def scaledOf (d : FVec Ideal S4096x8192 .f32) : FVec Ideal S4096x8192 .f32 :=
  Host.divf (Host.negf d) (broadcastInDim S4096x8192 ![] bcast_S_S4096x8192 (constant S_ .f32 0x3F000000#32))

/-- The rows' greatest entries and the number `b`. -/
def foldOf (s : FVec Ideal S4096x8192 .f32) (b : FVec Ideal S_ .f32) : FVec Ideal S4096 .f32 :=
  Host.reduce FloatOps.maximumf s b reducesTo_S4096x8192_S4096_d1 h_S_

/-- The rows' greatest entries. -/
def topOf (s : FVec Ideal S4096x8192 .f32) : FVec Ideal S4096 .f32 :=
  maximumf (broadcastInDim S4096 ![] bcast_S_S4096 (constant S_ .f32 0xFF800000#32))
    (foldOf s (constant S_ .f32 0xFF800000#32))

/-- The exponentials of the entries less their row's greatest. -/
def expOf (s : FVec Ideal S4096x8192 .f32) : FVec Ideal S4096x8192 .f32 :=
  Host.exp (subf s (broadcastInDim S4096x8192 ![0, 1] bcast_S4096x1_S4096x8192_0_1 (broadcastInDim S4096x1 ![0] bcast_S4096_S4096x1_0 (topOf s))))

/-- The rows divided by their sums. -/
def shareOf (p : FVec Ideal S4096x8192 .f32) : FVec Ideal S4096x8192 .f32 :=
  Host.divf p (broadcastInDim S4096x8192 ![0, 1] bcast_S4096x1_S4096x8192_0_1 (broadcastInDim S4096x1 ![0] bcast_S4096_S4096x1_0
    (Host.reduceAdd p (constant S_ .f32 0x00000000#32) reducesTo_S4096x8192_S4096_d1 h_S_)))

/-- The softmax of minus twice the distances. -/
def softOf (d : FVec Ideal S4096x8192 .f32) : FVec Ideal S4096x8192 .f32 := shareOf (expOf (scaledOf d))

/-- The mean of `(a − b)² − q²`. -/
def meanOf (a b q : FVec Ideal S4096x64 .f32) : FVec Ideal S_ .f32 :=
  Host.divf (Host.reduceAdd (subf (mulf (subf a b) (subf a b)) (mulf q q)) (constant S_ .f32 0x00000000#32) reducesTo_S4096x64_S_d0_1 h_S_)
    (constant S_ .f32 0x48800000#32)

/-- The loss without the squares of the rows looked up. -/
def lossOf (x q : FVec Ideal S4096x64 .f32) : FVec Ideal S_ .f32 :=
  addf (meanOf q x q) (mulf (constant S_ .f32 0x3E800000#32) (meanOf x q q))

/-- Rows in the input's layout. -/
def backOf (q : FVec Ideal S4096x64 .f32) : FVec Ideal S4x64x32x32 .f32 :=
  transpose S4x64x32x32 [0, 3, 1, 2] (shapeCast S4x32x32x64 q shapeCasts_S4096x64_S4x32x32x64) transposes_S4x32x32x64_S4x64x32x32_0_3_1_2

/-- The output: the rows plus what the rows looked up differ from them by. -/
def outOf (x q : FVec Ideal S4096x64 .f32) : FVec Ideal S4x64x32x32 .f32 := backOf (addf x (subf q x))

/-! ## The steps at an index -/

/-- A row's squared norm, entry by entry. -/
theorem normsOf_apply (x : FVec Ideal S4096x64 .f32) (r : Fin 4096) (k : Fin 1) :
    normsOf x (ValueIdx.ix2 r k) = (∑ j : Fin 64, x (ValueIdx.ix2 r j) * x (ValueIdx.ix2 r j) : EReal) := by
  pointwise [normsOf]
  rfl

/-- Twice the product of a row of the input and one of the table. -/
theorem crossOf_apply (x : FVec Ideal S4096x64 .f32) (e : FVec Ideal S8192x64 .f32) (r : Fin 4096) (k : Fin 8192) :
    crossOf x e (ValueIdx.ix2 r k) = Ideal.ofBits .f32 0x40000000#32 * (∑ j : Fin 64, x (ValueIdx.ix2 r j) * e (ValueIdx.ix2 k j) : EReal) := by
  pointwise [crossOf]
  rfl

/-- The distance without the table's norm. -/
theorem distOf_apply (x : FVec Ideal S4096x64 .f32) (e : FVec Ideal S8192x64 .f32) (r : Fin 4096) (k : Fin 8192) :
    distOf x e (ValueIdx.ix2 r k) = normsOf x (ValueIdx.ix2 r 0) - crossOf x e (ValueIdx.ix2 r k) := by
  pointwise [distOf]
  rfl

/-- The squared norm of a row of the table. -/
theorem tableNormsOf_apply (e : FVec Ideal S8192x64 .f32) (r : Fin 1) (k : Fin 8192) :
    tableNormsOf e (ValueIdx.ix2 r k) = (∑ j : Fin 64, e (ValueIdx.ix2 k j) * e (ValueIdx.ix2 k j) : EReal) := by
  pointwise [tableNormsOf]
  rfl

/-- The distance with the table's norm. -/
theorem distNOf_apply (x : FVec Ideal S4096x64 .f32) (e : FVec Ideal S8192x64 .f32) (r : Fin 4096) (k : Fin 8192) :
    distNOf x e (ValueIdx.ix2 r k) = normsOf x (ValueIdx.ix2 r 0) + tableNormsOf e (ValueIdx.ix2 0 k) - crossOf x e (ValueIdx.ix2 r k) := by
  pointwise [distNOf]
  rfl

/-- The softmax's argument. -/
theorem scaledOf_apply (d : FVec Ideal S4096x8192 .f32) (r : Fin 4096) (k : Fin 8192) :
    scaledOf d (ValueIdx.ix2 r k) = Ideal.div (-(d (ValueIdx.ix2 r k))) (Ideal.ofBits .f32 0x3F000000#32) := by
  pointwise [scaledOf]

/-- The larger of two arrays, at a place. -/
theorem maximumf_at (a b : FVec Ideal S4096 .f32) (j : S4096.Idx) : maximumf a b j = max (a j) (b j) := rfl

/-- A literal broadcast, at a place. -/
theorem splat_at (w : BitVec 32) (j : S4096.Idx) :
    broadcastInDim S4096 ![] bcast_S_S4096 (constant (F := Ideal) S_ .f32 w) j = Ideal.ofBits .f32 w := rfl

/-- The number the softmax subtracts in a row. -/
theorem topOf_apply (s : FVec Ideal S4096x8192 .f32) (r : Fin 4096) :
    topOf s (ValueIdx.ix1 r) = max (Ideal.ofBits .f32 0xFF800000#32) (foldOf s (constant S_ .f32 0xFF800000#32) (ValueIdx.ix1 r)) := by
  unfold topOf
  rw [maximumf_at, splat_at]

/-- The softmax's exponential. -/
theorem expOf_apply (s : FVec Ideal S4096x8192 .f32) (r : Fin 4096) (k : Fin 8192) :
    expOf s (ValueIdx.ix2 r k) = Ideal.exp (s (ValueIdx.ix2 r k) - topOf s (ValueIdx.ix1 r)) := by
  pointwise [expOf]
  rfl

/-- An exponential's share of its row's sum. -/
theorem shareOf_apply (p : FVec Ideal S4096x8192 .f32) (r : Fin 4096) (k : Fin 8192) :
    shareOf p (ValueIdx.ix2 r k) = Ideal.div (p (ValueIdx.ix2 r k)) (∑ j : Fin 8192, p (ValueIdx.ix2 r j) : EReal) := by
  pointwise [shareOf]
  rfl

/-- The mean of the squared differences less the squares. -/
theorem meanOf_apply (a b q : FVec Ideal S4096x64 .f32) (i : S_.Idx) :
    meanOf a b q i = Ideal.div (∑ r : Fin 4096, ∑ j : Fin 64,
      ((a (ValueIdx.ix2 r j) - b (ValueIdx.ix2 r j)) * (a (ValueIdx.ix2 r j) - b (ValueIdx.ix2 r j)) - q (ValueIdx.ix2 r j) * q (ValueIdx.ix2 r j)) : EReal)
      (Ideal.ofBits .f32 0x48800000#32) := by
  pointwise [meanOf]
  rfl

/-- The loss: one mean and a quarter of the other. -/
theorem lossOf_apply (x q : FVec Ideal S4096x64 .f32) (i : S_.Idx) :
    lossOf x q i = meanOf q x q i + Ideal.ofBits .f32 0x3E800000#32 * meanOf x q q i := by
  pointwise [lossOf]

end Cert.Proof.RefMath

end
-- ==== Proof.WithoutNormsIdealRun.lean ====
/-
  The run of the reference without the table's squared norms: its operations in five stages, and what each leaves.
-/
module

public import proofs.«01_k».proof.Proof.RefMath
public import Idealize.ShloMosaic.Lib.StableHlo.Run

@[expose] public section

set_option maxRecDepth 16384

noncomputable section

namespace Cert.Proof.WithoutNormsIdealRun

open Cert.WithoutNormsIdeal Cert.WithoutNormsIdeal.Gen
open Idealize.ShloMosaic Idealize.ShloMosaic.TcCoe Idealize.SL.Sem Idealize.ShloMosaic.StableHlo
open Cert.Proof.RefMath

variable {F : FTy → Type} [FloatOps F]

/-- The distances. -/
abbrev opsA : List (HloOp τ sig (Elt F)) :=
  [ unary main_arg0 main_v0 ((transpose S4x32x32x64 [0, 2, 3, 1] · transposes_S4x64x32x32_S4x32x32x64_0_2_3_1) : (⟨S4x64x32x32, .f32⟩ : BufTy).Contents (Elt F) → (⟨S4x32x32x64, .f32⟩ : BufTy).Contents (Elt F)),
    reshape main_v0 main_v1 (rfl : (.f32 : EltTy) = .f32) shapeCasts_S4x32x32x64_S4096x64,
    binary main_v1 main_v1 main_v2 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v2 main_cst main_v3 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v3 main_v4 (broadcastInDim S4096x1 ![0] bcast_S4096_S4096x1_0 : (⟨S4096, .f32⟩ : BufTy).Contents (Elt F) → (⟨S4096x1, .f32⟩ : BufTy).Contents (Elt F)),
    unary main_arg1 main_v5 ((transpose S64x8192 [1, 0] · transposes_S8192x64_S64x8192_1_0) : (⟨S8192x64, .f32⟩ : BufTy).Contents (Elt F) → (⟨S64x8192, .f32⟩ : BufTy).Contents (Elt F)),
    binary main_v1 main_v5 main_v6 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
    nullary main_cst_0 (constant S_ .f32 0x40000000#32),
    unary main_cst_0 main_v7 (broadcastInDim S4096x8192 ![] bcast_S_S4096x8192 : (⟨S_, .f32⟩ : BufTy).Contents (Elt F) → (⟨S4096x8192, .f32⟩ : BufTy).Contents (Elt F)),
    binary main_v7 main_v6 main_v8 (mulf : (⟨S4096x8192, .f32⟩ : BufTy).Contents (Elt F) → (⟨S4096x8192, .f32⟩ : BufTy).Contents (Elt F) → (⟨S4096x8192, .f32⟩ : BufTy).Contents (Elt F)),
    unary main_v4 main_v9 (broadcastInDim S4096x8192 ![0, 1] bcast_S4096x1_S4096x8192_0_1 : (⟨S4096x1, .f32⟩ : BufTy).Contents (Elt F) → (⟨S4096x8192, .f32⟩ : BufTy).Contents (Elt F)),
    binary main_v9 main_v8 main_v10 (subf : (⟨S4096x8192, .f32⟩ : BufTy).Contents (Elt F) → (⟨S4096x8192, .f32⟩ : BufTy).Contents (Elt F) → (⟨S4096x8192, .f32⟩ : BufTy).Contents (Elt F)) ]

/-- The codes of the least distances. -/
abbrev opsB : List (HloOp τ sig (Elt F)) :=
  [ TRef.nullary (TRef.of (T := ⟨S4096x8192, .i32⟩) main_call0_v0) (iotaInDim S4096x8192 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4096x8192, .f32⟩) main_v10) (TRef.of (T := ⟨S4096x8192, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmin_f32_i32 x y u v reducesTo_S4096x8192_S4096_d1 h_S_ j).1),
    TRef.quaternary (TRef.of (T := ⟨S4096x8192, .f32⟩) main_v10) (TRef.of (T := ⟨S4096x8192, .i32⟩) main_call0_v0) (TRef.of (T := ⟨S_, .f32⟩) main_call0_cst) (TRef.of (T := ⟨S_, .i32⟩) main_call0_c) (TRef.of (T := ⟨S4096, .i32⟩) main_v11) (fun x y u v j => (Host.argReduce reducer_argmin_f32_i32 x y u v reducesTo_S4096x8192_S4096_d1 h_S_ j).2) ]

/-- The softmax of the distances. -/
abbrev opsC : List (HloOp τ sig (Elt F)) :=
  [ unary main_v10 main_v12 (Host.negf : (⟨S4096x8192, .f32⟩ : BufTy).Contents (Elt F) → (⟨S4096x8192, .f32⟩ : BufTy).Contents (Elt F)),
    nullary main_cst_1 (constant S_ .f32 0x3F000000#32),
    unary main_cst_1 main_v13 (broadcastInDim S4096x8192 ![] bcast_S_S4096x8192 : (⟨S_, .f32⟩ : BufTy).Contents (Elt F) → (⟨S4096x8192, .f32⟩ : BufTy).Contents (Elt F)),
    binary main_v12 main_v13 main_v14 (Host.divf : (⟨S4096x8192, .f32⟩ : BufTy).Contents (Elt F) → (⟨S4096x8192, .f32⟩ : BufTy).Contents (Elt F) → (⟨S4096x8192, .f32⟩ : BufTy).Contents (Elt F)),
    nullary main_cst_2 (constant S_ .f32 0xFF800000#32),
    binary main_v14 main_cst_2 main_v15 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v16 (broadcastInDim S4096 ![] bcast_S_S4096 : (⟨S_, .f32⟩ : BufTy).Contents (Elt F) → (⟨S4096, .f32⟩ : BufTy).Contents (Elt F)),
    binary main_v16 main_v15 main_v17 (maximumf : (⟨S4096, .f32⟩ : BufTy).Contents (Elt F) → (⟨S4096, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (broadcastInDim S4096x8192 ![0, 1] bcast_S4096x1_S4096x8192_0_1 : (⟨S4096x1, .f32⟩ : BufTy).Contents (Elt F) → (⟨S4096x8192, .f32⟩ : BufTy).Contents (Elt F)),
    binary main_v14 main_v19 main_v20 (subf : (⟨S4096x8192, .f32⟩ : BufTy).Contents (Elt F) → (⟨S4096x8192, .f32⟩ : BufTy).Contents (Elt F) → (⟨S4096x8192, .f32⟩ : BufTy).Contents (Elt F)),
    unary main_v20 main_v21 (Host.exp : (⟨S4096x8192, .f32⟩ : BufTy).Contents (Elt F) → (⟨S4096x8192, .f32⟩ : BufTy).Contents (Elt F)),
    nullary main_cst_4 (constant S_ .f32 0x00000000#32),
    binary main_v21 main_cst_4 main_v22 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v22 main_v23 (broadcastInDim S4096x1 ![0] bcast_S4096_S4096x1_0 : (⟨S4096, .f32⟩ : BufTy).Contents (Elt F) → (⟨S4096x1, .f32⟩ : BufTy).Contents (Elt F)),
    unary main_v23 main_v24 (broadcastInDim S4096x8192 ![0, 1] bcast_S4096x1_S4096x8192_0_1 : (⟨S4096x1, .f32⟩ : BufTy).Contents (Elt F) → (⟨S4096x8192, .f32⟩ : BufTy).Contents (Elt F)),
    binary main_v21 main_v24 main_v25 (Host.divf : (⟨S4096x8192, .f32⟩ : BufTy).Contents (Elt F) → (⟨S4096x8192, .f32⟩ : BufTy).Contents (Elt F) → (⟨S4096x8192, .f32⟩ : BufTy).Contents (Elt F)) ]

/-- The rows looked up. -/
abbrev opsD : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096, .i32⟩) main_call1_v0) (broadcastInDim S4096 ![] bcast_S_S4096),
    TRef.binary (TRef.of (T := ⟨S4096, .i32⟩) main_v11) (TRef.of (T := ⟨S4096, .i32⟩) main_call1_v0) (TRef.of (T := ⟨S4096, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S4096, .i32⟩) main_call1_v2) (broadcastInDim S4096 ![] bcast_S_S4096),
    TRef.binary (TRef.of (T := ⟨S4096, .i32⟩) main_v11) (TRef.of (T := ⟨S4096, .i32⟩) main_call1_v2) (TRef.of (T := ⟨S4096, .i32⟩) main_call1_v3) addi,
    TRef.ternary (TRef.of (T := ⟨S4096, .i1⟩) main_call1_v1) (TRef.of (T := ⟨S4096, .i32⟩) main_call1_v3) (TRef.of (T := ⟨S4096, .i32⟩) main_v11) (TRef.of (T := ⟨S4096, .i32⟩) main_call1_v4) select,
    TRef.unary (TRef.of (T := ⟨S4096, .i32⟩) main_call1_v4) (TRef.of (T := ⟨S4096x1, .i32⟩) main_call1_v5) (broadcastInDim S4096x1 ![0] bcast_S4096_S4096x1_0),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S4096x1, .i32⟩) main_call1_v6) (broadcastInDim S4096x1 ![] bcast_S_S4096x1),
    TRef.binary (TRef.of (T := ⟨S4096x1, .i32⟩) main_call1_v5) (TRef.of (T := ⟨S4096x1, .i32⟩) main_call1_v6) (TRef.of (T := ⟨S4096x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S4096x1, .i32⟩) main_call1_v9) (broadcastInDim S4096x1 ![0, 1] bcast_S1x1_S4096x1_0_1),
    TRef.binary (TRef.of (T := ⟨S4096x1, .i32⟩) main_call1_v5) (TRef.of (T := ⟨S4096x1, .i32⟩) main_call1_v9) (TRef.of (T := ⟨S4096x1, .i1⟩) main_call1_v10) (cmpi .sle),
    TRef.binary (TRef.of (T := ⟨S4096x1, .i1⟩) main_call1_v7) (TRef.of (T := ⟨S4096x1, .i1⟩) main_call1_v10) (TRef.of (T := ⟨S4096x1, .i1⟩) main_call1_v11) andi,
    TRef.nullary (TRef.of (T := ⟨S_, .i1⟩) main_call1_c_3) (constantI S_ 1 1#1),
    TRef.binary (TRef.of (T := ⟨S4096x1, .i1⟩) main_call1_v11) (TRef.of (T := ⟨S_, .i1⟩) main_call1_c_3) (TRef.of (T := ⟨S4096, .i1⟩) main_call1_v12) (fun x v => Host.reduce IntOp.andi x v reducesTo_S4096x1_S4096_d1 h_S_),
    TRef.binary (TRef.of (T := ⟨S8192x64, .f32⟩) main_arg1) (TRef.of (T := ⟨S4096x1, .i32⟩) main_call1_v5) (TRef.of (T := ⟨S4096x64, .f32⟩) main_call1_v13) (fun x i => Host.gather gather_S8192x64_S4096x1_S4096x64_1_0_n_n_0_1_164 x i),
    TRef.unary (TRef.of (T := ⟨S4096, .i1⟩) main_call1_v12) (TRef.of (T := ⟨S4096x64, .i1⟩) main_call1_v14) (broadcastInDim S4096x64 ![0] bcast_S4096_S4096x64_0),
    TRef.nullary (TRef.of (T := ⟨S_, .f32⟩) main_call1_cst) (constant S_ .f32 0x7FC00000#32),
    TRef.unary (TRef.of (T := ⟨S_, .f32⟩) main_call1_cst) (TRef.of (T := ⟨S4096x64, .f32⟩) main_call1_v15) (broadcastInDim S4096x64 ![] bcast_S_S4096x64),
    TRef.ternary (TRef.of (T := ⟨S4096x64, .i1⟩) main_call1_v14) (TRef.of (T := ⟨S4096x64, .f32⟩) main_call1_v13) (TRef.of (T := ⟨S4096x64, .f32⟩) main_call1_v15) (TRef.of (T := ⟨S4096x64, .f32⟩) main_v26) select ]

/-- The loss and the output. -/
abbrev opsE : List (HloOp τ sig (Elt F)) :=
  [ binary main_v26 main_v1 main_v27 (subf : (⟨S4096x64, .f32⟩ : BufTy).Contents (Elt F) → (⟨S4096x64, .f32⟩ : BufTy).Contents (Elt F) → (⟨S4096x64, .f32⟩ : BufTy).Contents (Elt F)),
    binary main_v27 main_v27 main_v28 (mulf : (⟨S4096x64, .f32⟩ : BufTy).Contents (Elt F) → (⟨S4096x64, .f32⟩ : BufTy).Contents (Elt F) → (⟨S4096x64, .f32⟩ : BufTy).Contents (Elt F)),
    binary main_v26 main_v26 main_v29 (mulf : (⟨S4096x64, .f32⟩ : BufTy).Contents (Elt F) → (⟨S4096x64, .f32⟩ : BufTy).Contents (Elt F) → (⟨S4096x64, .f32⟩ : BufTy).Contents (Elt F)),
    binary main_v28 main_v29 main_v30 (subf : (⟨S4096x64, .f32⟩ : BufTy).Contents (Elt F) → (⟨S4096x64, .f32⟩ : BufTy).Contents (Elt F) → (⟨S4096x64, .f32⟩ : BufTy).Contents (Elt F)),
    nullary main_cst_5 (constant S_ .f32 0x00000000#32),
    binary main_v30 main_cst_5 main_v31 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_6 (constant S_ .f32 0x48800000#32),
    binary main_v31 main_cst_6 main_v32 (Host.divf : (⟨S_, .f32⟩ : BufTy).Contents (Elt F) → (⟨S_, .f32⟩ : BufTy).Contents (Elt F) → (⟨S_, .f32⟩ : BufTy).Contents (Elt F)),
    binary main_v1 main_v26 main_v33 (subf : (⟨S4096x64, .f32⟩ : BufTy).Contents (Elt F) → (⟨S4096x64, .f32⟩ : BufTy).Contents (Elt F) → (⟨S4096x64, .f32⟩ : BufTy).Contents (Elt F)),
    binary main_v33 main_v33 main_v34 (mulf : (⟨S4096x64, .f32⟩ : BufTy).Contents (Elt F) → (⟨S4096x64, .f32⟩ : BufTy).Contents (Elt F) → (⟨S4096x64, .f32⟩ : BufTy).Contents (Elt F)),
    binary main_v26 main_v26 main_v35 (mulf : (⟨S4096x64, .f32⟩ : BufTy).Contents (Elt F) → (⟨S4096x64, .f32⟩ : BufTy).Contents (Elt F) → (⟨S4096x64, .f32⟩ : BufTy).Contents (Elt F)),
    binary main_v34 main_v35 main_v36 (subf : (⟨S4096x64, .f32⟩ : BufTy).Contents (Elt F) → (⟨S4096x64, .f32⟩ : BufTy).Contents (Elt F) → (⟨S4096x64, .f32⟩ : BufTy).Contents (Elt F)),
    nullary main_cst_7 (constant S_ .f32 0x00000000#32),
    binary main_v36 main_cst_7 main_v37 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_8 (constant S_ .f32 0x48800000#32),
    binary main_v37 main_cst_8 main_v38 (Host.divf : (⟨S_, .f32⟩ : BufTy).Contents (Elt F) → (⟨S_, .f32⟩ : BufTy).Contents (Elt F) → (⟨S_, .f32⟩ : BufTy).Contents (Elt F)),
    nullary main_cst_9 (constant S_ .f32 0x3E800000#32),
    binary main_cst_9 main_v38 main_v39 (mulf : (⟨S_, .f32⟩ : BufTy).Contents (Elt F) → (⟨S_, .f32⟩ : BufTy).Contents (Elt F) → (⟨S_, .f32⟩ : BufTy).Contents (Elt F)),
    binary main_v32 main_v39 main_v40 (addf : (⟨S_, .f32⟩ : BufTy).Contents (Elt F) → (⟨S_, .f32⟩ : BufTy).Contents (Elt F) → (⟨S_, .f32⟩ : BufTy).Contents (Elt F)),
    binary main_v26 main_v1 main_v41 (subf : (⟨S4096x64, .f32⟩ : BufTy).Contents (Elt F) → (⟨S4096x64, .f32⟩ : BufTy).Contents (Elt F) → (⟨S4096x64, .f32⟩ : BufTy).Contents (Elt F)),
    binary main_v1 main_v41 main_v42 (addf : (⟨S4096x64, .f32⟩ : BufTy).Contents (Elt F) → (⟨S4096x64, .f32⟩ : BufTy).Contents (Elt F) → (⟨S4096x64, .f32⟩ : BufTy).Contents (Elt F)),
    reshape main_v42 main_v43 (rfl : (.f32 : EltTy) = .f32) shapeCasts_S4096x64_S4x32x32x64,
    unary main_v43 main_v44 ((transpose S4x64x32x32 [0, 3, 1, 2] · transposes_S4x32x32x64_S4x64x32x32_0_3_1_2) : (⟨S4x32x32x64, .f32⟩ : BufTy).Contents (Elt F) → (⟨S4x64x32x32, .f32⟩ : BufTy).Contents (Elt F)) ]

/-- The program's operations, in order. -/
abbrev ops : List (HloOp τ sig (Elt F)) := opsA ++ (opsB ++ (opsC ++ (opsD ++ opsE)))

/-- The program is its operations one after another. -/
theorem main_eq (c : Dev nD) : main (F := F) c = seq ops := rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
/-- These operations touch only the program's buffers. -/
theorem opsA_sub : (opsA : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub ..⟩
/-- These operations touch only the program's buffers. -/
theorem opsB_sub : (opsB : List (HloOp τ sig (Elt F))).Forall fun op => op.bufs ⊆ tcRefs τ sig :=
  ⟨nullary_bufs_sub .., nullary_bufs_sub .., nullary_bufs_sub .., quaternary_bufs_sub .., quaternary_bufs_sub ..⟩
/-- These operations touch only the program's buffers. -/
theorem opsC_sub : (opsC : List (HloOp τ sig (Elt F))).Forall fun op => op.bufs ⊆ tcRefs τ sig :=
  ⟨unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
/-- These operations touch only the program's buffers. -/
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- These operations touch only the program's buffers. -/
theorem opsE_sub : (opsE : List (HloOp τ sig (Elt F))).Forall fun op => op.bufs ⊆ tcRefs τ sig :=
  ⟨binary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub .., unary_bufs_sub ..⟩
/-- All operations touch only the program's buffers. -/
theorem ops_sub : (ops : List (HloOp τ sig (Elt F))).Forall fun op => op.bufs ⊆ tcRefs τ sig :=
  List.forall_append.2 ⟨opsA_sub, List.forall_append.2 ⟨opsB_sub, List.forall_append.2 ⟨opsC_sub, List.forall_append.2 ⟨opsD_sub, opsE_sub⟩⟩⟩⟩

/-- Operations in two groups, one after the other. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-! ## The stages -/

variable (V : Valuation τ sig (Elt Ideal))

/-- What the buffers hold after stage A. -/
def VA : Valuation τ sig (Elt Ideal) := after (opsA (F := Ideal)) V

/-- What the buffers hold after stage B. -/
def VB : Valuation τ sig (Elt Ideal) := after (opsB (F := Ideal)) (VA V)

/-- What the buffers hold after stage C. -/
def VC : Valuation τ sig (Elt Ideal) := after (opsC (F := Ideal)) (VB V)

/-- What the buffers hold after stage D. -/
def VD : Valuation τ sig (Elt Ideal) := after (opsD (F := Ideal)) (VC V)

/-- What the buffers hold after stage E. -/
def VE : Valuation τ sig (Elt Ideal) := after (opsE (F := Ideal)) (VD V)

/-- All operations are the five groups. -/
theorem after_ops : after (ops (F := Ideal)) V = VE V := by
  simp only [ops, after_append]
  rfl

/-- The first group keeps `main_arg0`. -/
theorem VA_main_arg0 : VA V main_arg0 = V main_arg0 := by
  unfold VA
  simp only [opsA, TRef.binary, TRef.nullary, TRef.ternary, TRef.unary, TRef.quaternary, TRef.toBuf, TRef.ofBuf, cast_eq]
  after_results

/-- The first group keeps `main_arg1`. -/
theorem VA_main_arg1 : VA V main_arg1 = V main_arg1 := by
  unfold VA
  simp only [opsA, TRef.binary, TRef.nullary, TRef.ternary, TRef.unary, TRef.quaternary, TRef.toBuf, TRef.ofBuf, cast_eq]
  after_results

/-- The second group keeps `main_arg0`. -/
theorem VB_main_arg0 : VB V main_arg0 = VA V main_arg0 := by
  unfold VB
  simp only [opsB, TRef.binary, TRef.nullary, TRef.ternary, TRef.unary, TRef.quaternary, TRef.toBuf, TRef.ofBuf, cast_eq]
  after_results

/-- The second group keeps `main_arg1`. -/
theorem VB_main_arg1 : VB V main_arg1 = VA V main_arg1 := by
  unfold VB
  simp only [opsB, TRef.binary, TRef.nullary, TRef.ternary, TRef.unary, TRef.quaternary, TRef.toBuf, TRef.ofBuf, cast_eq]
  after_results

/-- The second group keeps `main_v1`. -/
theorem VB_main_v1 : VB V main_v1 = VA V main_v1 := by
  unfold VB
  simp only [opsB, TRef.binary, TRef.nullary, TRef.ternary, TRef.unary, TRef.quaternary, TRef.toBuf, TRef.ofBuf, cast_eq]
  after_results

/-- The second group keeps `main_v10`. -/
theorem VB_main_v10 : VB V main_v10 = VA V main_v10 := by
  unfold VB
  simp only [opsB, TRef.binary, TRef.nullary, TRef.ternary, TRef.unary, TRef.quaternary, TRef.toBuf, TRef.ofBuf, cast_eq]
  after_results

/-- The third group keeps `main_arg0`. -/
theorem VC_main_arg0 : VC V main_arg0 = VB V main_arg0 := by
  unfold VC
  simp only [opsC, TRef.binary, TRef.nullary, TRef.ternary, TRef.unary, TRef.quaternary, TRef.toBuf, TRef.ofBuf, cast_eq]
  after_results

/-- The third group keeps `main_arg1`. -/
theorem VC_main_arg1 : VC V main_arg1 = VB V main_arg1 := by
  unfold VC
  simp only [opsC, TRef.binary, TRef.nullary, TRef.ternary, TRef.unary, TRef.quaternary, TRef.toBuf, TRef.ofBuf, cast_eq]
  after_results

/-- The third group keeps `main_v1`. -/
theorem VC_main_v1 : VC V main_v1 = VB V main_v1 := by
  unfold VC
  simp only [opsC, TRef.binary, TRef.nullary, TRef.ternary, TRef.unary, TRef.quaternary, TRef.toBuf, TRef.ofBuf, cast_eq]
  after_results

/-- The third group keeps `main_v11`. -/
theorem VC_main_v11 : VC V main_v11 = VB V main_v11 := by
  unfold VC
  simp only [opsC, TRef.binary, TRef.nullary, TRef.ternary, TRef.unary, TRef.quaternary, TRef.toBuf, TRef.ofBuf, cast_eq]
  after_results

/-- The fourth group keeps `main_arg0`. -/
theorem VD_main_arg0 : VD V main_arg0 = VC V main_arg0 := by
  unfold VD
  simp only [opsD, TRef.binary, TRef.nullary, TRef.ternary, TRef.unary, TRef.quaternary, TRef.toBuf, TRef.ofBuf, cast_eq]
  after_results

/-- The fourth group keeps `main_arg1`. -/
theorem VD_main_arg1 : VD V main_arg1 = VC V main_arg1 := by
  unfold VD
  simp only [opsD, TRef.binary, TRef.nullary, TRef.ternary, TRef.unary, TRef.quaternary, TRef.toBuf, TRef.ofBuf, cast_eq]
  after_results

/-- The fourth group keeps `main_v1`. -/
theorem VD_main_v1 : VD V main_v1 = VC V main_v1 := by
  unfold VD
  simp only [opsD, TRef.binary, TRef.nullary, TRef.ternary, TRef.unary, TRef.quaternary, TRef.toBuf, TRef.ofBuf, cast_eq]
  after_results

/-- The fourth group keeps `main_v25`. -/
theorem VD_main_v25 : VD V main_v25 = VC V main_v25 := by
  unfold VD
  simp only [opsD, TRef.binary, TRef.nullary, TRef.ternary, TRef.unary, TRef.quaternary, TRef.toBuf, TRef.ofBuf, cast_eq]
  after_results

/-- The last group keeps `main_arg0`. -/
theorem VE_main_arg0 : VE V main_arg0 = VD V main_arg0 := by
  unfold VE
  simp only [opsE, TRef.binary, TRef.nullary, TRef.ternary, TRef.unary, TRef.quaternary, TRef.toBuf, TRef.ofBuf, cast_eq]
  after_results

/-- The last group keeps `main_arg1`. -/
theorem VE_main_arg1 : VE V main_arg1 = VD V main_arg1 := by
  unfold VE
  simp only [opsE, TRef.binary, TRef.nullary, TRef.ternary, TRef.unary, TRef.quaternary, TRef.toBuf, TRef.ofBuf, cast_eq]
  after_results

/-- The last group keeps `main_v25`. -/
theorem VE_main_v25 : VE V main_v25 = VD V main_v25 := by
  unfold VE
  simp only [opsE, TRef.binary, TRef.nullary, TRef.ternary, TRef.unary, TRef.quaternary, TRef.toBuf, TRef.ofBuf, cast_eq]
  after_results

/-- The first group flattens the input. -/
theorem VA_main_v1 : VA V main_v1 = flatOf (V main_arg0) := by
  unfold VA
  simp only [opsA, TRef.binary, TRef.nullary, TRef.ternary, TRef.unary, TRef.quaternary, TRef.toBuf, TRef.ofBuf, cast_eq]
  after_results
  rfl

/-- The first group computes the distances. -/
theorem VA_main_v10 : VA V main_v10 = distOf (flatOf (V main_arg0)) (V main_arg1) := by
  unfold VA
  simp only [opsA, TRef.binary, TRef.nullary, TRef.ternary, TRef.unary, TRef.quaternary, TRef.toBuf, TRef.ofBuf, cast_eq]
  after_results
  rfl

/-- The second group computes the codes. -/
theorem VB_main_v11 : VB V main_v11 = codesOf (VA V main_v10) := by
  unfold VB
  simp only [opsB, TRef.binary, TRef.nullary, TRef.ternary, TRef.unary, TRef.quaternary, TRef.toBuf, TRef.ofBuf, cast_eq]
  after_results
  rfl

/-- The third group computes the softmax. -/
theorem VC_main_v25 : VC V main_v25 = softOf (VB V main_v10) := by
  unfold VC
  simp only [opsC, TRef.binary, TRef.nullary, TRef.ternary, TRef.unary, TRef.quaternary, TRef.toBuf, TRef.ofBuf, cast_eq]
  after_results
  rfl

/-- The rows looked up at codes that are the words `x0` of the reference lookup. -/
theorem VD_main_v26 (x0 : (⟨Cert.LookupRefIdeal.S4096x1, .i32⟩ : BufTy).Contents (Elt Ideal)) (h : VC V main_v11 = Cert.LookupRefIdeal.Read.val_main_v0 (F := Ideal) x0) :
    VD V main_v26 = Cert.LookupRefIdeal.Read.val_main_v1 (F := Ideal) x0 (VC V main_arg1) := by
  unfold VD
  simp only [opsD, TRef.binary, TRef.nullary, TRef.ternary, TRef.unary, TRef.quaternary, TRef.toBuf, TRef.ofBuf, cast_eq]
  after_results
  rw [h]
  rfl

/-- The last group computes the loss. -/
theorem VE_main_v40 : VE V main_v40 = lossOf (VD V main_v1) (VD V main_v26) := by
  unfold VE
  simp only [opsE, TRef.binary, TRef.nullary, TRef.ternary, TRef.unary, TRef.quaternary, TRef.toBuf, TRef.ofBuf, cast_eq]
  after_results
  rfl

/-- The last group computes the first result. -/
theorem VE_main_v44 : VE V main_v44 = outOf (VD V main_v1) (VD V main_v26) := by
  unfold VE
  simp only [opsE, TRef.binary, TRef.nullary, TRef.ternary, TRef.unary, TRef.quaternary, TRef.toBuf, TRef.ofBuf, cast_eq]
  after_results
  rfl

/-! ## The run -/

/-- Every run from zero counters ends with every buffer as the stages leave it. -/
theorem runs (m : (ℓ : Loc nD τ sig) → Buf (Elt Ideal) ℓ) (ρ : Dev nD → PrngReg) :
    θ_run (defs (F := Ideal)) (onTc (τ := τ) (main (F := Ideal))) ⟨m, fun _ => 0, ρ⟩ fun r => ∀ (c : Dev nD) (b : Ref sig .tc),
      r.2.mem ((c.tc : Thread nD τ).loc b) = VE (fun b => m (c, b)) b :=
  (θ_run (defs (F := Ideal)) _ _).mono (fun _ h c b => (h c b).trans (congrFun (after_ops _) b))
    (run_seq scopedRefs_eq scopedSems_eq (defs (F := Ideal)) main (fun _ => ops (F := Ideal)) main_eq (fun _ => ops_sub) m ρ)

end Cert.Proof.WithoutNormsIdealRun

end
-- ==== Proof.RefValue.lean ====
/-
  The references' steps over the reals: the code of the least distance, the softmax, the rows looked up, the loss and the
  output, each as one formula over real numbers.
-/
module

public import proofs.«01_k».proof.Proof.RefMath

@[expose] public section

set_option maxRecDepth 16384

noncomputable section

namespace Cert.Proof.RefMath

open Cert.WithoutNormsIdeal Cert.WithoutNormsIdeal.Gen
open Idealize.ShloMosaic Idealize.ShloMosaic.TcCoe Idealize.ShloMosaic.StableHlo
open Cert.Proof.RowMath

/-! ## Literals -/

/-- The literal 2. -/
theorem two_bits : Ideal.ofBits .f32 0x40000000#32 = ((2 : ℝ) : EReal) := by
  simp [Ideal.ofBits, Ideal.ieee, -EReal.coe_mul]; norm_num
/-- The literal 1 / 2. -/
theorem half_bits : Ideal.ofBits .f32 0x3F000000#32 = ((1 / 2 : ℝ) : EReal) := by
  simp [Ideal.ofBits, Ideal.ieee, -EReal.coe_mul]; norm_num
/-- The literal 4096 * 64. -/
theorem count_bits : Ideal.ofBits .f32 0x48800000#32 = ((262144 : ℝ) : EReal) := by
  simp [Ideal.ofBits, Ideal.ieee, -EReal.coe_mul]; norm_num
/-- The literal 1 / 4. -/
theorem quarter_bits : Ideal.ofBits .f32 0x3E800000#32 = ((1 / 4 : ℝ) : EReal) := by
  simp [Ideal.ofBits, Ideal.ieee, -EReal.coe_mul]; norm_num
/-- The literal the maximum starts from is `⊥`. -/
theorem bot_bits : Ideal.ofBits .f32 0xFF800000#32 = (⊥ : EReal) := by
  simp [Ideal.ofBits, Ideal.ieee]
/-- The literal the search starts from is `⊤`. -/
theorem inf_bits : Ideal.ofBits .f32 0x7F800000#32 = (⊤ : EReal) := by
  simp [Ideal.ofBits, Ideal.ieee]

/-! ## Distances -/

section Dist
variable (x : FVec Ideal S4096x64 .f32) (e : FVec Ideal S8192x64 .f32) (X : Fin 4096 → Fin 64 → ℝ) (E : Fin 8192 → Fin 64 → ℝ)
variable (hz : ∀ r j, x (ValueIdx.ix2 r j) = (X r j : EReal)) (he : ∀ k j, e (ValueIdx.ix2 k j) = (E k j : EReal))
include hz

/-- The squared norm of a row of real numbers. -/
theorem normsOf_real (r : Fin 4096) (k : Fin 1) : normsOf x (ValueIdx.ix2 r k) = ((∑ j, X r j * X r j : ℝ) : EReal) := by
  rw [normsOf_apply, coe_sum]
  exact Finset.sum_congr rfl fun j _ => by rw [hz, EReal.coe_mul]

include he

/-- Twice the product of two rows of real numbers. -/
theorem crossOf_real (r : Fin 4096) (k : Fin 8192) : crossOf x e (ValueIdx.ix2 r k) = ((∑ j, (X r j + X r j) * E k j : ℝ) : EReal) := by
  have h : (∑ j, (X r j + X r j) * E k j) = 2 * ∑ j, X r j * E k j := by
    rw [Finset.mul_sum]; exact Finset.sum_congr rfl fun j _ => by ring
  rw [crossOf_apply, two_bits, h, EReal.coe_mul, coe_sum]
  exact congrArg _ (Finset.sum_congr rfl fun j _ => by rw [hz, he, EReal.coe_mul])

/-- The distances without the table's squared norms. -/
theorem distOf_real (r : Fin 4096) (k : Fin 8192) : distOf x e (ValueIdx.ix2 r k) = (distR X E r k : EReal) := by
  rw [distOf_apply, normsOf_real x X hz, crossOf_real x e X E hz he, ← EReal.coe_sub]
  rfl

/-- The distances with the table's squared norms. -/
theorem distNOf_real (r : Fin 4096) (k : Fin 8192) : distNOf x e (ValueIdx.ix2 r k) = (distR X E r k + ∑ j, E k j * E k j : ℝ) := by
  have h : tableNormsOf e (ValueIdx.ix2 0 k) = ((∑ j, E k j * E k j : ℝ) : EReal) := by
    rw [tableNormsOf_apply, coe_sum]
    exact Finset.sum_congr rfl fun j _ => by rw [he, EReal.coe_mul]
  rw [distNOf_apply, normsOf_real x X hz, crossOf_real x e X E hz he, h, ← EReal.coe_add, ← EReal.coe_sub]
  unfold distR
  rw [sub_add_eq_add_sub]

end Dist

/-! ## Codes -/

/-- Which places of the distances are reduced to a row. -/
theorem drop_eq (i : S4096x8192.Idx) (r : Fin 4096) : reducesTo_S4096x8192_S4096_d1.drop i = ValueIdx.ix1 r ↔ i 0 = r := by
  have hv : (reducesTo_S4096x8192_S4096_d1.drop i 0 : Nat) = i 0 := Shape.ReducesTo.drop_apply_val _ i 0
  constructor
  · intro h
    refine Fin.ext (hv.symm.trans ?_)
    rw [h]
  · intro h
    funext a
    match a with
    | ⟨0, _⟩ => exact Fin.ext (hv.trans (congrArg Fin.val h))

/-- A place in a row is that row and its column. -/
theorem eq_ix2' (i : S4096x8192.Idx) (r : Fin 4096) (h : i 0 = r) : i = ValueIdx.ix2 r (i 1) := by
  funext a
  match a with
  | ⟨0, _⟩ => exact h
  | ⟨1, _⟩ => rfl

/-- The step of the search for the least entry keeps the earlier of two pairs of the lesser value. -/
theorem reducer_noLater (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  obtain ⟨x, i⟩ := a
  obtain ⟨y, j⟩ := b
  have hx : Ideal.cmp .une x x = 0#1 := by simp [Ideal.cmp]
  rcases lt_trichotomy x y with h | h | h
  · have e : reducer_argmin_f32_i32 (F := Ideal) (x, i) (y, j) = (x, i) := by
      have h1 : Ideal.cmp .olt x y = 1#1 := by simp [Ideal.cmp, h]
      have ho : ∀ v : BitVec 1, 1#1 ||| v = 1#1 := by decide
      simp only [reducer_argmin_f32_i32, Ideal.cmpf_def, h1, hx, IntOp.ori, ho]
      simp [Scalar.select]
    rw [e]
    exact ⟨.inl rfl, .refl _, .inl h⟩
  · subst h
    have h1 : Ideal.cmp .olt x x = 0#1 := by simp [Ideal.cmp]
    have h2 : Ideal.cmp .oeq x x = 1#1 := by simp [Ideal.cmp]
    by_cases hij : i.slt j = true
    · have e : reducer_argmin_f32_i32 (F := Ideal) (x, i) (x, j) = (x, i) := by
        simp only [reducer_argmin_f32_i32, Ideal.cmpf_def, h1, h2, hx, IntOp.ori, IntOp.andi, IntOp.cmpi, hij]
        simp [Scalar.select]
      rw [e]
      rw [BitVec.slt_eq_decide, decide_eq_true_eq] at hij
      exact ⟨.inl rfl, .refl _, .inr ⟨rfl, hij.le⟩⟩
    · have e : reducer_argmin_f32_i32 (F := Ideal) (x, i) (x, j) = (x, j) := by
        have hf : i.slt j = false := by simpa using hij
        simp only [reducer_argmin_f32_i32, Ideal.cmpf_def, h1, h2, hx, IntOp.ori, IntOp.andi, IntOp.cmpi, hf]
        simp [Scalar.select]
      rw [e]
      rw [BitVec.slt_eq_decide, decide_eq_true_eq, not_lt] at hij
      exact ⟨.inr rfl, .inr ⟨rfl, hij⟩, .refl _⟩
  · have e : reducer_argmin_f32_i32 (F := Ideal) (x, i) (y, j) = (y, j) := by
      have h1 : Ideal.cmp .olt x y = 0#1 := by simp [Ideal.cmp, not_lt.mpr h.le]
      have h2 : Ideal.cmp .oeq x y = 0#1 := by simp [Ideal.cmp, h.ne']
      simp only [reducer_argmin_f32_i32, Ideal.cmpf_def, h1, h2, hx, IntOp.ori, IntOp.andi]
      simp [Scalar.select]
    rw [e]
    exact ⟨.inr rfl, .inl h, .refl _⟩

section Fiber
variable {s t : Shape} {axes : List (Fin s.rank)} (h : s.ReducesTo axes t) (j : t.Idx)

/-- The list that a reduction folds over has the indices that drop to the result's. -/
theorem mem_dropped (i : s.Idx) : i ∈ ((List.finRange s.numel).map s.rowMajor.symm).filter (fun i => h.drop i = j) ↔ h.drop i = j := by
  rw [List.mem_filter, decide_eq_true_eq]
  exact ⟨fun e => e.2, fun e => ⟨List.mem_map.2 ⟨s.rowMajor i, List.mem_finRange _, Equiv.symm_apply_apply _ _⟩, e⟩⟩

/-- The pairs that an index search compares for one result. -/
theorem mem_fiber {α β : Type} (x : s.Idx → α) (y : s.Idx → β) (b : α × β) :
    b ∈ Host.argReduceFiber x y h j ↔ ∃ i, h.drop i = j ∧ (x i, y i) = b := by
  unfold Host.argReduceFiber
  rw [List.mem_map]
  constructor
  · rintro ⟨n, hn, e⟩
    rw [List.mem_filter, decide_eq_true_eq] at hn
    exact ⟨_, hn.2, e⟩
  · rintro ⟨i, hi, e⟩
    refine ⟨s.rowMajor i, ?_, ?_⟩
    · rw [List.mem_filter, decide_eq_true_eq, Equiv.symm_apply_apply]
      exact ⟨List.mem_finRange _, hi⟩
    · rw [Equiv.symm_apply_apply]
      exact e

end Fiber

/-- A column's word read as a signed number. -/
theorem toInt_place (k : Fin 8192) : (BitVec.ofNat 32 k.val).toInt = (k.val : Int) := by
  have := k.isLt
  rw [BitVec.toInt_eq_toNat_cond, BitVec.toNat_ofNat, Nat.mod_eq_of_lt (by omega), if_pos (by omega)]

/-- The columns' words, at a place. -/
theorem iota_at (i : S4096x8192.Idx) : iotaInDim S4096x8192 32 1 i = BitVec.ofNat 32 (i 1).val := rfl

/-- A literal, at its place. -/
theorem constant_at (w : BitVec 32) (j : S_.Idx) : constant (F := Ideal) S_ .f32 w j = Ideal.ofBits .f32 w := rfl

/-- The search from a pair of the value `⊤` finds the first least entry of a row of real numbers. -/
theorem search_real (d : FVec Ideal S4096x8192 .f32) (D : Fin 4096 → Fin 8192 → ℝ)
    (hd : ∀ r k, d (ValueIdx.ix2 r k) = (D r k : EReal)) (r : Fin 4096) (ix : FVec Ideal S_ .f32) (iy : IVec S_ 32) (hx : ∀ j, ix j = (⊤ : EReal)) :
    Host.argReduce (reducer_argmin_f32_i32 (F := Ideal)) d (iotaInDim S4096x8192 32 1) ix iy reducesTo_S4096x8192_S4096_d1 h_S_ (ValueIdx.ix1 r)
      = ((D r (first (D r)) : EReal), BitVec.ofNat 32 (first (D r)).val) := by
  rw [Ideal.argReduce_eq_reduce2, Host.reduce2_eq_foldl_fiber]
  have hs := first_spec (D r)
  generalize first (D r) = f at hs ⊢
  have later : ∀ k : Fin 8192, NoLater ((D r f : EReal), BitVec.ofNat 32 f.val) ((D r k : EReal), BitVec.ofNat 32 k.val) := fun k => by
    rcases (hs.1 k).lt_or_eq with h | h
    · exact .inl (EReal.coe_lt_coe_iff.mpr h)
    · refine .inr ⟨?_, ?_⟩
      · show (D r f : EReal) = (D r k : EReal)
        rw [h]
      · show (BitVec.ofNat 32 f.val).toInt ≤ (BitVec.ofNat 32 k.val).toInt
        rw [toInt_place, toInt_place]
        by_contra hlt
        have : k < f := by
          rw [Fin.lt_def]; omega
        exact absurd h (hs.2 k this).ne
  refine foldl_eq _ reducer_noLater _ _ _ ?_ ?_
  · rw [mem_fiber]
    refine ⟨ValueIdx.ix2 r f, (drop_eq _ _).2 rfl, ?_⟩
    rw [hd, iota_at]
  · intro b hb
    rw [List.mem_cons] at hb
    rcases hb with rfl | hb
    · refine .inl ?_
      rw [hx]
      exact EReal.coe_lt_top _
    · rw [mem_fiber] at hb
      obtain ⟨i, hi, rfl⟩ := hb
      rw [drop_eq] at hi
      have h1 : d i = (D r (i 1) : EReal) := (congrArg d (eq_ix2' i r hi)).trans (hd r (i 1))
      rw [iota_at, h1]
      exact later (i 1)

/-! ## The softmax -/

/-- The greatest of real numbers, one at least, is real. -/
theorem foldl_max_real {ι : Type} (x : ι → EReal) (L : List ι) (h : ∀ i ∈ L, ∃ c : ℝ, x i = (c : EReal)) (b : EReal)
    (hb : (∃ c : ℝ, b = (c : EReal)) ∨ b = ⊥ ∧ L ≠ []) : ∃ c : ℝ, L.foldl (fun a i => max a (x i)) b = (c : EReal) := by
  induction L generalizing b with
  | nil =>
    rcases hb with hb | ⟨_, hb⟩
    · exact hb
    · exact absurd rfl hb
  | cons i L ih =>
    obtain ⟨c, hc⟩ := h i (by simp)
    refine ih (fun j hj => h j (by simp [hj])) _ (.inl ?_)
    rcases hb with ⟨c', hc'⟩ | ⟨hb, _⟩
    · exact ⟨max c' c, by show max b (x i) = _; rw [hc, hc']; exact (EReal.coe_strictMono.monotone.map_max).symm⟩
    · exact ⟨c, by show max b (x i) = _; rw [hb, hc, bot_sup_eq]⟩

/-- The maximum of a row of real numbers is a real number. -/
theorem foldOf_real (s : FVec Ideal S4096x8192 .f32) (h : ∀ r k, ∃ c : ℝ, s (ValueIdx.ix2 r k) = (c : EReal)) (b : FVec Ideal S_ .f32)
    (hb : ∀ j, b j = (⊥ : EReal)) (r : Fin 4096) : ∃ c : ℝ, foldOf s b (ValueIdx.ix1 r) = (c : EReal) := by
  unfold foldOf
  rw [Host.reduce_eq_foldl]
  refine foldl_max_real s _ (fun i hi => ?_) _ (.inr ⟨hb _, ?_⟩)
  · rw [mem_dropped, drop_eq] at hi
    obtain ⟨c, hc⟩ := h r (i 1)
    exact ⟨c, (congrArg s (eq_ix2' i r hi)).trans hc⟩
  · exact List.ne_nil_of_mem ((mem_dropped _ _ (ValueIdx.ix2 r 0)).2 ((drop_eq _ _).2 rfl))

/-- The number the softmax subtracts is a real number. -/
theorem topOf_real (s : FVec Ideal S4096x8192 .f32) (h : ∀ r k, ∃ c : ℝ, s (ValueIdx.ix2 r k) = (c : EReal)) (r : Fin 4096) :
    ∃ c : ℝ, topOf s (ValueIdx.ix1 r) = (c : EReal) := by
  obtain ⟨c, hc⟩ := foldOf_real s h (constant S_ .f32 0xFF800000#32) (fun j => (constant_at _ j).trans bot_bits) r
  exact ⟨c, by rw [topOf_apply, hc, bot_bits, bot_sup_eq]⟩

/-- The probabilities of real distances: the softmax of minus twice the distances. -/
theorem softOf_real (d : FVec Ideal S4096x8192 .f32) (D : Fin 4096 → Fin 8192 → ℝ)
    (hd : ∀ r k, d (ValueIdx.ix2 r k) = (D r k : EReal)) (r : Fin 4096) (k : Fin 8192) :
    softOf d (ValueIdx.ix2 r k) = (soft (fun j => -2 * D r j) k : EReal) := by
  have hs : ∀ r k, scaledOf d (ValueIdx.ix2 r k) = ((-2 * D r k : ℝ) : EReal) := fun r k => by
    rw [scaledOf_apply, hd, half_bits, Ideal.div_coe (by norm_num), ← EReal.coe_neg, ← EReal.coe_mul]
    congr 1; ring
  obtain ⟨c, hc⟩ := topOf_real (scaledOf d) (fun r k => ⟨_, hs r k⟩) r
  have hx : ∀ k, expOf (scaledOf d) (ValueIdx.ix2 r k) = (Real.exp (-2 * D r k - c) : EReal) := fun k => by
    rw [expOf_apply, hs, hc, ← EReal.coe_sub, Ideal.exp_coe]
  unfold softOf
  rw [shareOf_apply]
  simp only [hx]
  rw [← coe_sum, Ideal.div_coe (sum_exp_pos (fun j => -2 * D r j - c)).ne', ← soft_sub _ c, ← EReal.coe_mul]
  unfold soft
  rw [← div_eq_mul_one_div]

/-! ## The loss and the output -/

section Out
variable (x q : FVec Ideal S4096x64 .f32) (X : Fin 4096 → Fin 64 → ℝ) (E : Fin 8192 → Fin 64 → ℝ) (C : Fin 4096 → Fin 8192)
variable (hz : ∀ r j, x (ValueIdx.ix2 r j) = (X r j : EReal)) (hq : ∀ r j, q (ValueIdx.ix2 r j) = (E (C r) j : EReal))
include hz hq

/-- The loss of real rows. -/
theorem lossOf_real (i : S_.Idx) : lossOf x q i = (((∑ r, distR X E r (C r)) * (5 / 1048576) : ℝ) : EReal) := by
  have h1 : meanOf q x q i = (((∑ r, distR X E r (C r)) * (1 / 262144) : ℝ) : EReal) := by
    rw [meanOf_apply, count_bits, Ideal.div_coe (by norm_num), EReal.coe_mul, coe_sum]
    refine congrArg (· * _) (Finset.sum_congr rfl fun r _ => ?_)
    unfold distR
    rw [← Finset.sum_sub_distrib, coe_sum]
    refine Finset.sum_congr rfl fun j _ => ?_
    rw [hz, hq, ← EReal.coe_sub, ← EReal.coe_mul, ← EReal.coe_mul, ← EReal.coe_sub]
    congr 1; ring
  have h2 : meanOf x q q i = (((∑ r, distR X E r (C r)) * (1 / 262144) : ℝ) : EReal) := by
    rw [meanOf_apply, count_bits, Ideal.div_coe (by norm_num), EReal.coe_mul, coe_sum]
    refine congrArg (· * _) (Finset.sum_congr rfl fun r _ => ?_)
    unfold distR
    rw [← Finset.sum_sub_distrib, coe_sum]
    refine Finset.sum_congr rfl fun j _ => ?_
    rw [hz, hq, ← EReal.coe_sub, ← EReal.coe_mul, ← EReal.coe_mul, ← EReal.coe_sub]
    congr 1; ring
  rw [lossOf_apply, h1, h2, quarter_bits, ← EReal.coe_mul, ← EReal.coe_add]
  congr 1; ring

/-- Where the rows are real the output is the rows looked up. -/
theorem outOf_real : outOf x q = backOf q := by
  unfold outOf
  refine congrArg backOf (funext fun i => ?_)
  have e : i = ValueIdx.ix2 (i 0) (i 1) := by
    funext a
    match a with
    | ⟨0, _⟩ => rfl
    | ⟨1, _⟩ => rfl
  have h1 : x i = (X (i 0) (i 1) : EReal) := (congrArg x e).trans (hz (i 0) (i 1))
  have h2 : q i = (E (C (i 0)) (i 1) : EReal) := (congrArg q e).trans (hq (i 0) (i 1))
  show (x i + (q i - x i) : EReal) = q i
  rw [h1, h2, ← EReal.coe_sub, ← EReal.coe_add]
  congr 1; ring

end Out

/-! ## The rows looked up -/

/-- The code words as the argument of the reference lookup. -/
def asColumn (idx : IVec S4096 32) : (⟨Cert.LookupRefIdeal.S4096x1, .i32⟩ : BufTy).Contents (Elt Ideal) := fun i => idx (ValueIdx.ix1 (i 0))

/-- Codes put in a column and flattened are the codes. -/
theorem asColumn_eq (idx : IVec S4096 32) : Cert.LookupRefIdeal.Read.val_main_v0 (F := Ideal) (asColumn idx) = idx := by
  funext j
  unfold Cert.LookupRefIdeal.Read.val_main_v0
  refine (shapeCast_apply (s := Cert.LookupRefIdeal.S4096x1) (asColumn idx) _ j (ValueIdx.ix2 (j 0) 0) ?_).trans ?_
  · rw [Shape.rowMajor_val_two, Shape.rowMajor_val_one]
    show (j 0).val * 1 + 0 = (j 0).val
    omega
  · refine congrArg idx (funext fun a => ?_)
    match a with
    | ⟨0, _⟩ => rfl

/-- The rows looked up at codes that name rows are those rows. -/
theorem take_real (idx : IVec S4096 32) (e : FVec Ideal S8192x64 .f32) (C : Fin 4096 → Fin 8192)
    (hC : ∀ r, idx (ValueIdx.ix1 r) = BitVec.ofNat 32 (C r).val) :
    Cert.LookupRefIdeal.Read.val_main_v1 (F := Ideal) (asColumn idx) e = fun i => e (ValueIdx.ix2 (C (i 0)) (i 1)) := by
  have toNat : ∀ k : Fin 8192, (BitVec.ofNat 32 k.val).toNat = k.val := fun k => by
    have := k.isLt
    rw [BitVec.toNat_ofNat, Nat.mod_eq_of_lt (by omega)]
  have hj : ∀ j : S4096.Idx, idx j = BitVec.ofNat 32 (C (j 0)).val := fun j => by
    refine Eq.trans (congrArg idx (funext fun a => ?_)) (hC (j 0))
    match a with
    | ⟨0, _⟩ => rfl
  have hlt : ∀ j, (Cert.LookupRefIdeal.Read.val_main_v0 (F := Ideal) (asColumn idx) j).toNat < 8192 := fun j => by
    rw [asColumn_eq, hj, toNat]
    exact (C (j 0)).isLt
  rw [Cert.Proof.LookupRef.take_eq (F := Ideal) (asColumn idx) e hlt]
  funext i
  refine congrArg e ?_
  rw [asColumn_eq]
  have hv := hC (i 0)
  generalize idx (ValueIdx.ix1 (i 0)) = v at hv
  unfold Cert.Proof.LookupIdealRun.codeIdx
  have hl : v.toNat < 8192 := by rw [hv, toNat]; exact (C (i 0)).isLt
  rw [dif_pos hl]
  refine congrArg (fun k : Fin 8192 => ValueIdx.ix2 k (i 1)) (Fin.ext ?_)
  show v.toNat = _
  rw [hv, toNat]

end Cert.Proof.RefMath

end
-- ==== Proof.RefCodes.lean ====
/-
  The reference's codes over the reals: the first places of the rows' least distances.
-/
module

public import proofs.«01_k».proof.Proof.RefValue

@[expose] public section

set_option maxRecDepth 16384

noncomputable section

namespace Cert.Proof.RefMath

open Cert.WithoutNormsIdeal Cert.WithoutNormsIdeal.Gen
open Idealize.ShloMosaic Idealize.ShloMosaic.TcCoe Idealize.ShloMosaic.StableHlo
open Cert.Proof.RowMath

/-- The pairs of the rows' least entries and their places. -/
def searchOf (d : FVec Ideal S4096x8192 .f32) : S4096.Idx → Ideal .f32 × BitVec 32 :=
  Host.argReduce (reducer_argmin_f32_i32 (F := Ideal)) d (iotaInDim S4096x8192 32 1) (constant S_ .f32 0x7F800000#32) (constantI S_ 32 0#32)
    reducesTo_S4096x8192_S4096_d1 h_S_

/-- The search of a row of real distances ends with the least one and its first place. -/
theorem searchOf_real (d : FVec Ideal S4096x8192 .f32) (D : Fin 4096 → Fin 8192 → ℝ)
    (hd : ∀ r k, d (ValueIdx.ix2 r k) = (D r k : EReal)) (r : Fin 4096) :
    searchOf d (ValueIdx.ix1 r) = ((D r (first (D r)) : EReal), BitVec.ofNat 32 (first (D r)).val) :=
  search_real d D hd r _ _ (fun j => (constant_at _ j).trans inf_bits)

/-- The codes are the second components of the search. -/
theorem codesOf_eq (d : FVec Ideal S4096x8192 .f32) : codesOf d = fun j => Prod.snd (searchOf d j) := rfl

/-- A function that is the second component of a pair's, at a place where the pair is known. -/
theorem snd_apply {ι α β : Type} (f : ι → β) (g : ι → α × β) (h : f = fun j => Prod.snd (g j)) (j : ι) (a : α) (b : β) (hg : g j = (a, b)) : f j = b := by
  rw [h]
  show (g j).2 = b
  rw [hg]

/-- The place of the least entry of a row of real numbers, the first where there are several. -/
theorem codesOf_real (d : FVec Ideal S4096x8192 .f32) (D : Fin 4096 → Fin 8192 → ℝ)
    (hd : ∀ r k, d (ValueIdx.ix2 r k) = (D r k : EReal)) (r : Fin 4096) :
    codesOf d (ValueIdx.ix1 r) = BitVec.ofNat 32 (first (D r)).val :=
  snd_apply _ _ (codesOf_eq d) _ _ _ (searchOf_real d D hd r)

end Cert.Proof.RefMath

end
-- ==== Proof.WithoutNormsIdealValue.lean ====
/-
  What the reference without the table's squared norms returns, where the arguments are real numbers.
-/
module

public import proofs.«01_k».proof.Proof.WithoutNormsIdealRun
public import proofs.«01_k».proof.Proof.RefCodes

@[expose] public section

set_option maxRecDepth 16384

noncomputable section

namespace Cert.Proof.WithoutNormsIdealRun

open Cert.WithoutNormsIdeal Cert.WithoutNormsIdeal.Gen
open Idealize.ShloMosaic Idealize.ShloMosaic.TcCoe Idealize.SL.Sem Idealize.ShloMosaic.StableHlo
open Cert.Proof.RefMath Cert.Proof.RowMath

variable (V : Valuation τ sig (Elt Ideal))

/-- The arguments end as they began. -/
theorem args_eq : VE V main_arg0 = V main_arg0 ∧ VE V main_arg1 = V main_arg1 :=
  ⟨(VE_main_arg0 V).trans ((VD_main_arg0 V).trans ((VC_main_arg0 V).trans ((VB_main_arg0 V).trans (VA_main_arg0 V)))),
    (VE_main_arg1 V).trans ((VD_main_arg1 V).trans ((VC_main_arg1 V).trans ((VB_main_arg1 V).trans (VA_main_arg1 V))))⟩

/-- The rows of the input, at the last two stages. -/
theorem rows_kept : VD V main_v1 = flatOf (V main_arg0) :=
  (VD_main_v1 V).trans ((VC_main_v1 V).trans ((VB_main_v1 V).trans (VA_main_v1 V)))

/-- The table is kept. -/
theorem table_kept : VC V main_arg1 = V main_arg1 := (VC_main_arg1 V).trans ((VB_main_arg1 V).trans (VA_main_arg1 V))

/-- The distances are kept until the softmax takes them. -/
theorem dist_kept : VB V main_v10 = distOf (flatOf (V main_arg0)) (V main_arg1) := (VB_main_v10 V).trans (VA_main_v10 V)

/-- The codes the third group finds are those of the distances. -/
theorem codes_eq : VC V main_v11 = codesOf (distOf (flatOf (V main_arg0)) (V main_arg1)) :=
  (VC_main_v11 V).trans ((VB_main_v11 V).trans (congrArg codesOf (VA_main_v10 V)))

section Real
variable (D : Fin 4096 → Fin 8192 → ℝ)
  (hd : ∀ r k, distOf (flatOf (V main_arg0)) (V main_arg1) (ValueIdx.ix2 r k) = (D r k : EReal))
include hd

/-- The rows looked up are the table's rows at the first least distances. -/
theorem looked_up : VD V main_v26 = fun i => V main_arg1 (ValueIdx.ix2 (first (D (i 0))) (i 1)) := by
  rw [VD_main_v26 V (asColumn (VC V main_v11)) (asColumn_eq _).symm, table_kept]
  exact take_real _ _ (fun r => first (D r)) fun r => by rw [codes_eq]; exact codesOf_real _ D hd r

/-- The probabilities are the softmax of minus twice the distances. -/
theorem prob_real (r : Fin 4096) (k : Fin 8192) : VE V main_v25 (ValueIdx.ix2 r k) = (soft (fun j => -2 * D r j) k : EReal) := by
  rw [VE_main_v25, VD_main_v25, VC_main_v25, dist_kept]
  exact softOf_real _ D hd r k

variable (X : Fin 4096 → Fin 64 → ℝ) (E : Fin 8192 → Fin 64 → ℝ)
  (hz : ∀ r j, flatOf (V main_arg0) (ValueIdx.ix2 r j) = (X r j : EReal)) (he : ∀ k j, V main_arg1 (ValueIdx.ix2 k j) = (E k j : EReal))
include hz he

/-- The output is the rows looked up, in the input's layout. -/
theorem out_real : VE V main_v44 = backOf fun i => V main_arg1 (ValueIdx.ix2 (first (D (i 0))) (i 1)) := by
  rw [VE_main_v44, rows_kept, looked_up V D hd]
  exact outOf_real _ _ X E (fun r => first (D r)) hz fun r j => he _ _

/-- The loss. -/
theorem loss_real (i : S_.Idx) : VE V main_v40 i = (((∑ r, distR X E r (first (D r))) * (5 / 1048576) : ℝ) : EReal) := by
  rw [VE_main_v40, rows_kept, looked_up V D hd]
  exact lossOf_real _ _ X E (fun r => first (D r)) hz (fun r j => he _ _) i

end Real

end Cert.Proof.WithoutNormsIdealRun

end
-- ==== Proof.ReferenceIdealRun.lean ====
/-
  The run of the reference: its operations in five stages, and what each leaves.
-/
module

public import proofs.«01_k».proof.Proof.RefMath
public import Idealize.ShloMosaic.Lib.StableHlo.Run

@[expose] public section

set_option maxRecDepth 16384

noncomputable section

namespace Cert.Proof.ReferenceIdealRun

open Cert.ReferenceIdeal Cert.ReferenceIdeal.Gen
open Idealize.ShloMosaic Idealize.ShloMosaic.TcCoe Idealize.SL.Sem Idealize.ShloMosaic.StableHlo
open Cert.Proof.RefMath

variable {F : FTy → Type} [FloatOps F]

/-- The distances. -/
abbrev opsA : List (HloOp τ sig (Elt F)) :=
  [ unary main_arg0 main_v0 ((transpose S4x32x32x64 [0, 2, 3, 1] · transposes_S4x64x32x32_S4x32x32x64_0_2_3_1) : (⟨S4x64x32x32, .f32⟩ : BufTy).Contents (Elt F) → (⟨S4x32x32x64, .f32⟩ : BufTy).Contents (Elt F)),
    reshape main_v0 main_v1 (rfl : (.f32 : EltTy) = .f32) shapeCasts_S4x32x32x64_S4096x64,
    binary main_v1 main_v1 main_v2 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v2 main_cst main_v3 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v3 main_v4 (broadcastInDim S4096x1 ![0] bcast_S4096_S4096x1_0 : (⟨S4096, .f32⟩ : BufTy).Contents (Elt F) → (⟨S4096x1, .f32⟩ : BufTy).Contents (Elt F)),
    binary main_arg1 main_arg1 main_v5 (mulf : (⟨S8192x64, .f32⟩ : BufTy).Contents (Elt F) → (⟨S8192x64, .f32⟩ : BufTy).Contents (Elt F) → (⟨S8192x64, .f32⟩ : BufTy).Contents (Elt F)),
    nullary main_cst_0 (constant S_ .f32 0x00000000#32),
    binary main_v5 main_cst_0 main_v6 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v6 main_v7 (broadcastInDim S1x8192 ![1] bcast_S8192_S1x8192_1 : (⟨S8192, .f32⟩ : BufTy).Contents (Elt F) → (⟨S1x8192, .f32⟩ : BufTy).Contents (Elt F)),
    unary main_v4 main_v8 (broadcastInDim S4096x8192 ![0, 1] bcast_S4096x1_S4096x8192_0_1 : (⟨S4096x1, .f32⟩ : BufTy).Contents (Elt F) → (⟨S4096x8192, .f32⟩ : BufTy).Contents (Elt F)),
    unary main_v7 main_v9 (broadcastInDim S4096x8192 ![0, 1] bcast_S1x8192_S4096x8192_0_1 : (⟨S1x8192, .f32⟩ : BufTy).Contents (Elt F) → (⟨S4096x8192, .f32⟩ : BufTy).Contents (Elt F)),
    binary main_v8 main_v9 main_v10 (addf : (⟨S4096x8192, .f32⟩ : BufTy).Contents (Elt F) → (⟨S4096x8192, .f32⟩ : BufTy).Contents (Elt F) → (⟨S4096x8192, .f32⟩ : BufTy).Contents (Elt F)),
    unary main_arg1 main_v11 ((transpose S64x8192 [1, 0] · transposes_S8192x64_S64x8192_1_0) : (⟨S8192x64, .f32⟩ : BufTy).Contents (Elt F) → (⟨S64x8192, .f32⟩ : BufTy).Contents (Elt F)),
    binary main_v1 main_v11 main_v12 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
    nullary main_cst_1 (constant S_ .f32 0x40000000#32),
    unary main_cst_1 main_v13 (broadcastInDim S4096x8192 ![] bcast_S_S4096x8192 : (⟨S_, .f32⟩ : BufTy).Contents (Elt F) → (⟨S4096x8192, .f32⟩ : BufTy).Contents (Elt F)),
    binary main_v13 main_v12 main_v14 (mulf : (⟨S4096x8192, .f32⟩ : BufTy).Contents (Elt F) → (⟨S4096x8192, .f32⟩ : BufTy).Contents (Elt F) → (⟨S4096x8192, .f32⟩ : BufTy).Contents (Elt F)),
    binary main_v10 main_v14 main_v15 (subf : (⟨S4096x8192, .f32⟩ : BufTy).Contents (Elt F) → (⟨S4096x8192, .f32⟩ : BufTy).Contents (Elt F) → (⟨S4096x8192, .f32⟩ : BufTy).Contents (Elt F)) ]

/-- The codes of the least distances. -/
abbrev opsB : List (HloOp τ sig (Elt F)) :=
  [ TRef.nullary (TRef.of (T := ⟨S4096x8192, .i32⟩) main_call0_v0) (iotaInDim S4096x8192 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4096x8192, .f32⟩) main_v15) (TRef.of (T := ⟨S4096x8192, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmin_f32_i32 x y u v reducesTo_S4096x8192_S4096_d1 h_S_ j).1),
    TRef.quaternary (TRef.of (T := ⟨S4096x8192, .f32⟩) main_v15) (TRef.of (T := ⟨S4096x8192, .i32⟩) main_call0_v0) (TRef.of (T := ⟨S_, .f32⟩) main_call0_cst) (TRef.of (T := ⟨S_, .i32⟩) main_call0_c) (TRef.of (T := ⟨S4096, .i32⟩) main_v16) (fun x y u v j => (Host.argReduce reducer_argmin_f32_i32 x y u v reducesTo_S4096x8192_S4096_d1 h_S_ j).2) ]

/-- The softmax of the distances. -/
abbrev opsC : List (HloOp τ sig (Elt F)) :=
  [ unary main_v15 main_v17 (Host.negf : (⟨S4096x8192, .f32⟩ : BufTy).Contents (Elt F) → (⟨S4096x8192, .f32⟩ : BufTy).Contents (Elt F)),
    nullary main_cst_2 (constant S_ .f32 0x3F000000#32),
    unary main_cst_2 main_v18 (broadcastInDim S4096x8192 ![] bcast_S_S4096x8192 : (⟨S_, .f32⟩ : BufTy).Contents (Elt F) → (⟨S4096x8192, .f32⟩ : BufTy).Contents (Elt F)),
    binary main_v17 main_v18 main_v19 (Host.divf : (⟨S4096x8192, .f32⟩ : BufTy).Contents (Elt F) → (⟨S4096x8192, .f32⟩ : BufTy).Contents (Elt F) → (⟨S4096x8192, .f32⟩ : BufTy).Contents (Elt F)),
    nullary main_cst_3 (constant S_ .f32 0xFF800000#32),
    binary main_v19 main_cst_3 main_v20 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_4 (constant S_ .f32 0xFF800000#32),
    unary main_cst_4 main_v21 (broadcastInDim S4096 ![] bcast_S_S4096 : (⟨S_, .f32⟩ : BufTy).Contents (Elt F) → (⟨S4096, .f32⟩ : BufTy).Contents (Elt F)),
    binary main_v21 main_v20 main_v22 (maximumf : (⟨S4096, .f32⟩ : BufTy).Contents (Elt F) → (⟨S4096, .f32⟩ : BufTy).Contents (Elt F) → (⟨S4096, .f32⟩ : BufTy).Contents (Elt F)),
    unary main_v22 main_v23 (broadcastInDim S4096x1 ![0] bcast_S4096_S4096x1_0 : (⟨S4096, .f32⟩ : BufTy).Contents (Elt F) → (⟨S4096x1, .f32⟩ : BufTy).Contents (Elt F)),
    unary main_v23 main_v24 (broadcastInDim S4096x8192 ![0, 1] bcast_S4096x1_S4096x8192_0_1 : (⟨S4096x1, .f32⟩ : BufTy).Contents (Elt F) → (⟨S4096x8192, .f32⟩ : BufTy).Contents (Elt F)),
    binary main_v19 main_v24 main_v25 (subf : (⟨S4096x8192, .f32⟩ : BufTy).Contents (Elt F) → (⟨S4096x8192, .f32⟩ : BufTy).Contents (Elt F) → (⟨S4096x8192, .f32⟩ : BufTy).Contents (Elt F)),
    unary main_v25 main_v26 (Host.exp : (⟨S4096x8192, .f32⟩ : BufTy).Contents (Elt F) → (⟨S4096x8192, .f32⟩ : BufTy).Contents (Elt F)),
    nullary main_cst_5 (constant S_ .f32 0x00000000#32),
    binary main_v26 main_cst_5 main_v27 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (broadcastInDim S4096x8192 ![0, 1] bcast_S4096x1_S4096x8192_0_1 : (⟨S4096x1, .f32⟩ : BufTy).Contents (Elt F) → (⟨S4096x8192, .f32⟩ : BufTy).Contents (Elt F)),
    binary main_v26 main_v29 main_v30 (Host.divf : (⟨S4096x8192, .f32⟩ : BufTy).Contents (Elt F) → (⟨S4096x8192, .f32⟩ : BufTy).Contents (Elt F) → (⟨S4096x8192, .f32⟩ : BufTy).Contents (Elt F)) ]

/-- The rows looked up. -/
abbrev opsD : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096, .i32⟩) main_call1_v0) (broadcastInDim S4096 ![] bcast_S_S4096),
    TRef.binary (TRef.of (T := ⟨S4096, .i32⟩) main_v16) (TRef.of (T := ⟨S4096, .i32⟩) main_call1_v0) (TRef.of (T := ⟨S4096, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S4096, .i32⟩) main_call1_v2) (broadcastInDim S4096 ![] bcast_S_S4096),
    TRef.binary (TRef.of (T := ⟨S4096, .i32⟩) main_v16) (TRef.of (T := ⟨S4096, .i32⟩) main_call1_v2) (TRef.of (T := ⟨S4096, .i32⟩) main_call1_v3) addi,
    TRef.ternary (TRef.of (T := ⟨S4096, .i1⟩) main_call1_v1) (TRef.of (T := ⟨S4096, .i32⟩) main_call1_v3) (TRef.of (T := ⟨S4096, .i32⟩) main_v16) (TRef.of (T := ⟨S4096, .i32⟩) main_call1_v4) select,
    TRef.unary (TRef.of (T := ⟨S4096, .i32⟩) main_call1_v4) (TRef.of (T := ⟨S4096x1, .i32⟩) main_call1_v5) (broadcastInDim S4096x1 ![0] bcast_S4096_S4096x1_0),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S4096x1, .i32⟩) main_call1_v6) (broadcastInDim S4096x1 ![] bcast_S_S4096x1),
    TRef.binary (TRef.of (T := ⟨S4096x1, .i32⟩) main_call1_v5) (TRef.of (T := ⟨S4096x1, .i32⟩) main_call1_v6) (TRef.of (T := ⟨S4096x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S4096x1, .i32⟩) main_call1_v9) (broadcastInDim S4096x1 ![0, 1] bcast_S1x1_S4096x1_0_1),
    TRef.binary (TRef.of (T := ⟨S4096x1, .i32⟩) main_call1_v5) (TRef.of (T := ⟨S4096x1, .i32⟩) main_call1_v9) (TRef.of (T := ⟨S4096x1, .i1⟩) main_call1_v10) (cmpi .sle),
    TRef.binary (TRef.of (T := ⟨S4096x1, .i1⟩) main_call1_v7) (TRef.of (T := ⟨S4096x1, .i1⟩) main_call1_v10) (TRef.of (T := ⟨S4096x1, .i1⟩) main_call1_v11) andi,
    TRef.nullary (TRef.of (T := ⟨S_, .i1⟩) main_call1_c_3) (constantI S_ 1 1#1),
    TRef.binary (TRef.of (T := ⟨S4096x1, .i1⟩) main_call1_v11) (TRef.of (T := ⟨S_, .i1⟩) main_call1_c_3) (TRef.of (T := ⟨S4096, .i1⟩) main_call1_v12) (fun x v => Host.reduce IntOp.andi x v reducesTo_S4096x1_S4096_d1 h_S_),
    TRef.binary (TRef.of (T := ⟨S8192x64, .f32⟩) main_arg1) (TRef.of (T := ⟨S4096x1, .i32⟩) main_call1_v5) (TRef.of (T := ⟨S4096x64, .f32⟩) main_call1_v13) (fun x i => Host.gather gather_S8192x64_S4096x1_S4096x64_1_0_n_n_0_1_164 x i),
    TRef.unary (TRef.of (T := ⟨S4096, .i1⟩) main_call1_v12) (TRef.of (T := ⟨S4096x64, .i1⟩) main_call1_v14) (broadcastInDim S4096x64 ![0] bcast_S4096_S4096x64_0),
    TRef.nullary (TRef.of (T := ⟨S_, .f32⟩) main_call1_cst) (constant S_ .f32 0x7FC00000#32),
    TRef.unary (TRef.of (T := ⟨S_, .f32⟩) main_call1_cst) (TRef.of (T := ⟨S4096x64, .f32⟩) main_call1_v15) (broadcastInDim S4096x64 ![] bcast_S_S4096x64),
    TRef.ternary (TRef.of (T := ⟨S4096x64, .i1⟩) main_call1_v14) (TRef.of (T := ⟨S4096x64, .f32⟩) main_call1_v13) (TRef.of (T := ⟨S4096x64, .f32⟩) main_call1_v15) (TRef.of (T := ⟨S4096x64, .f32⟩) main_v31) select ]

/-- The loss and the output. -/
abbrev opsE : List (HloOp τ sig (Elt F)) :=
  [ binary main_v31 main_v1 main_v32 (subf : (⟨S4096x64, .f32⟩ : BufTy).Contents (Elt F) → (⟨S4096x64, .f32⟩ : BufTy).Contents (Elt F) → (⟨S4096x64, .f32⟩ : BufTy).Contents (Elt F)),
    binary main_v32 main_v32 main_v33 (mulf : (⟨S4096x64, .f32⟩ : BufTy).Contents (Elt F) → (⟨S4096x64, .f32⟩ : BufTy).Contents (Elt F) → (⟨S4096x64, .f32⟩ : BufTy).Contents (Elt F)),
    nullary main_cst_6 (constant S_ .f32 0x00000000#32),
    binary main_v33 main_cst_6 main_v34 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_7 (constant S_ .f32 0x48800000#32),
    binary main_v34 main_cst_7 main_v35 (Host.divf : (⟨S_, .f32⟩ : BufTy).Contents (Elt F) → (⟨S_, .f32⟩ : BufTy).Contents (Elt F) → (⟨S_, .f32⟩ : BufTy).Contents (Elt F)),
    binary main_v1 main_v31 main_v36 (subf : (⟨S4096x64, .f32⟩ : BufTy).Contents (Elt F) → (⟨S4096x64, .f32⟩ : BufTy).Contents (Elt F) → (⟨S4096x64, .f32⟩ : BufTy).Contents (Elt F)),
    binary main_v36 main_v36 main_v37 (mulf : (⟨S4096x64, .f32⟩ : BufTy).Contents (Elt F) → (⟨S4096x64, .f32⟩ : BufTy).Contents (Elt F) → (⟨S4096x64, .f32⟩ : BufTy).Contents (Elt F)),
    nullary main_cst_8 (constant S_ .f32 0x00000000#32),
    binary main_v37 main_cst_8 main_v38 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_9 (constant S_ .f32 0x48800000#32),
    binary main_v38 main_cst_9 main_v39 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v39 main_v40 (mulf : (⟨S_, .f32⟩ : BufTy).Contents (Elt F) → (⟨S_, .f32⟩ : BufTy).Contents (Elt F) → (⟨S_, .f32⟩ : BufTy).Contents (Elt F)),
    binary main_v35 main_v40 main_v41 (addf : (⟨S_, .f32⟩ : BufTy).Contents (Elt F) → (⟨S_, .f32⟩ : BufTy).Contents (Elt F) → (⟨S_, .f32⟩ : BufTy).Contents (Elt F)),
    binary main_v31 main_v1 main_v42 (subf : (⟨S4096x64, .f32⟩ : BufTy).Contents (Elt F) → (⟨S4096x64, .f32⟩ : BufTy).Contents (Elt F) → (⟨S4096x64, .f32⟩ : BufTy).Contents (Elt F)),
    binary main_v1 main_v42 main_v43 (addf : (⟨S4096x64, .f32⟩ : BufTy).Contents (Elt F) → (⟨S4096x64, .f32⟩ : BufTy).Contents (Elt F) → (⟨S4096x64, .f32⟩ : BufTy).Contents (Elt F)),
    reshape main_v43 main_v44 (rfl : (.f32 : EltTy) = .f32) shapeCasts_S4096x64_S4x32x32x64,
    unary main_v44 main_v45 ((transpose S4x64x32x32 [0, 3, 1, 2] · transposes_S4x32x32x64_S4x64x32x32_0_3_1_2) : (⟨S4x32x32x64, .f32⟩ : BufTy).Contents (Elt F) → (⟨S4x64x32x32, .f32⟩ : BufTy).Contents (Elt F)) ]

/-- The program's operations, in order. -/
abbrev ops : List (HloOp τ sig (Elt F)) := opsA ++ (opsB ++ (opsC ++ (opsD ++ opsE)))

/-- The program is its operations one after another. -/
theorem main_eq (c : Dev nD) : main (F := F) c = seq ops := rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
/-- These operations touch only the program's buffers. -/
theorem opsA_sub : (opsA : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
/-- These operations touch only the program's buffers. -/
theorem opsB_sub : (opsB : List (HloOp τ sig (Elt F))).Forall fun op => op.bufs ⊆ tcRefs τ sig :=
  ⟨nullary_bufs_sub .., nullary_bufs_sub .., nullary_bufs_sub .., quaternary_bufs_sub .., quaternary_bufs_sub ..⟩
/-- These operations touch only the program's buffers. -/
theorem opsC_sub : (opsC : List (HloOp τ sig (Elt F))).Forall fun op => op.bufs ⊆ tcRefs τ sig :=
  ⟨unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
/-- These operations touch only the program's buffers. -/
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- These operations touch only the program's buffers. -/
theorem opsE_sub : (opsE : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub .., unary_bufs_sub ..⟩
/-- All operations touch only the program's buffers. -/
theorem ops_sub : (ops : List (HloOp τ sig (Elt F))).Forall fun op => op.bufs ⊆ tcRefs τ sig :=
  List.forall_append.2 ⟨opsA_sub, List.forall_append.2 ⟨opsB_sub, List.forall_append.2 ⟨opsC_sub, List.forall_append.2 ⟨opsD_sub, opsE_sub⟩⟩⟩⟩

/-- Operations in two groups, one after the other. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-! ## The stages -/

variable (V : Valuation τ sig (Elt Ideal))

/-- What the buffers hold after stage A. -/
def VA : Valuation τ sig (Elt Ideal) := after (opsA (F := Ideal)) V

/-- What the buffers hold after stage B. -/
def VB : Valuation τ sig (Elt Ideal) := after (opsB (F := Ideal)) (VA V)

/-- What the buffers hold after stage C. -/
def VC : Valuation τ sig (Elt Ideal) := after (opsC (F := Ideal)) (VB V)

/-- What the buffers hold after stage D. -/
def VD : Valuation τ sig (Elt Ideal) := after (opsD (F := Ideal)) (VC V)

/-- What the buffers hold after stage E. -/
def VE : Valuation τ sig (Elt Ideal) := after (opsE (F := Ideal)) (VD V)

/-- All operations are the five groups. -/
theorem after_ops : after (ops (F := Ideal)) V = VE V := by
  simp only [ops, after_append]
  rfl

/-- The first group keeps `main_arg0`. -/
theorem VA_main_arg0 : VA V main_arg0 = V main_arg0 := by
  unfold VA
  simp only [opsA, TRef.binary, TRef.nullary, TRef.ternary, TRef.unary, TRef.quaternary, TRef.toBuf, TRef.ofBuf, cast_eq]
  after_results

/-- The first group keeps `main_arg1`. -/
theorem VA_main_arg1 : VA V main_arg1 = V main_arg1 := by
  unfold VA
  simp only [opsA, TRef.binary, TRef.nullary, TRef.ternary, TRef.unary, TRef.quaternary, TRef.toBuf, TRef.ofBuf, cast_eq]
  after_results

/-- The second group keeps `main_arg0`. -/
theorem VB_main_arg0 : VB V main_arg0 = VA V main_arg0 := by
  unfold VB
  simp only [opsB, TRef.binary, TRef.nullary, TRef.ternary, TRef.unary, TRef.quaternary, TRef.toBuf, TRef.ofBuf, cast_eq]
  after_results

/-- The second group keeps `main_arg1`. -/
theorem VB_main_arg1 : VB V main_arg1 = VA V main_arg1 := by
  unfold VB
  simp only [opsB, TRef.binary, TRef.nullary, TRef.ternary, TRef.unary, TRef.quaternary, TRef.toBuf, TRef.ofBuf, cast_eq]
  after_results

/-- The second group keeps `main_v1`. -/
theorem VB_main_v1 : VB V main_v1 = VA V main_v1 := by
  unfold VB
  simp only [opsB, TRef.binary, TRef.nullary, TRef.ternary, TRef.unary, TRef.quaternary, TRef.toBuf, TRef.ofBuf, cast_eq]
  after_results

/-- The second group keeps `main_v15`. -/
theorem VB_main_v15 : VB V main_v15 = VA V main_v15 := by
  unfold VB
  simp only [opsB, TRef.binary, TRef.nullary, TRef.ternary, TRef.unary, TRef.quaternary, TRef.toBuf, TRef.ofBuf, cast_eq]
  after_results

/-- The third group keeps `main_arg0`. -/
theorem VC_main_arg0 : VC V main_arg0 = VB V main_arg0 := by
  unfold VC
  simp only [opsC, TRef.binary, TRef.nullary, TRef.ternary, TRef.unary, TRef.quaternary, TRef.toBuf, TRef.ofBuf, cast_eq]
  after_results

/-- The third group keeps `main_arg1`. -/
theorem VC_main_arg1 : VC V main_arg1 = VB V main_arg1 := by
  unfold VC
  simp only [opsC, TRef.binary, TRef.nullary, TRef.ternary, TRef.unary, TRef.quaternary, TRef.toBuf, TRef.ofBuf, cast_eq]
  after_results

/-- The third group keeps `main_v1`. -/
theorem VC_main_v1 : VC V main_v1 = VB V main_v1 := by
  unfold VC
  simp only [opsC, TRef.binary, TRef.nullary, TRef.ternary, TRef.unary, TRef.quaternary, TRef.toBuf, TRef.ofBuf, cast_eq]
  after_results

/-- The third group keeps `main_v16`. -/
theorem VC_main_v16 : VC V main_v16 = VB V main_v16 := by
  unfold VC
  simp only [opsC, TRef.binary, TRef.nullary, TRef.ternary, TRef.unary, TRef.quaternary, TRef.toBuf, TRef.ofBuf, cast_eq]
  after_results

/-- The fourth group keeps `main_arg0`. -/
theorem VD_main_arg0 : VD V main_arg0 = VC V main_arg0 := by
  unfold VD
  simp only [opsD, TRef.binary, TRef.nullary, TRef.ternary, TRef.unary, TRef.quaternary, TRef.toBuf, TRef.ofBuf, cast_eq]
  after_results

/-- The fourth group keeps `main_arg1`. -/
theorem VD_main_arg1 : VD V main_arg1 = VC V main_arg1 := by
  unfold VD
  simp only [opsD, TRef.binary, TRef.nullary, TRef.ternary, TRef.unary, TRef.quaternary, TRef.toBuf, TRef.ofBuf, cast_eq]
  after_results

/-- The fourth group keeps `main_v1`. -/
theorem VD_main_v1 : VD V main_v1 = VC V main_v1 := by
  unfold VD
  simp only [opsD, TRef.binary, TRef.nullary, TRef.ternary, TRef.unary, TRef.quaternary, TRef.toBuf, TRef.ofBuf, cast_eq]
  after_results

/-- The fourth group keeps `main_v30`. -/
theorem VD_main_v30 : VD V main_v30 = VC V main_v30 := by
  unfold VD
  simp only [opsD, TRef.binary, TRef.nullary, TRef.ternary, TRef.unary, TRef.quaternary, TRef.toBuf, TRef.ofBuf, cast_eq]
  after_results

/-- The last group keeps `main_arg0`. -/
theorem VE_main_arg0 : VE V main_arg0 = VD V main_arg0 := by
  unfold VE
  simp only [opsE, TRef.binary, TRef.nullary, TRef.ternary, TRef.unary, TRef.quaternary, TRef.toBuf, TRef.ofBuf, cast_eq]
  after_results

/-- The last group keeps `main_arg1`. -/
theorem VE_main_arg1 : VE V main_arg1 = VD V main_arg1 := by
  unfold VE
  simp only [opsE, TRef.binary, TRef.nullary, TRef.ternary, TRef.unary, TRef.quaternary, TRef.toBuf, TRef.ofBuf, cast_eq]
  after_results

/-- The last group keeps `main_v30`. -/
theorem VE_main_v30 : VE V main_v30 = VD V main_v30 := by
  unfold VE
  simp only [opsE, TRef.binary, TRef.nullary, TRef.ternary, TRef.unary, TRef.quaternary, TRef.toBuf, TRef.ofBuf, cast_eq]
  after_results

/-- The first group flattens the input. -/
theorem VA_main_v1 : VA V main_v1 = flatOf (V main_arg0) := by
  unfold VA
  simp only [opsA, TRef.binary, TRef.nullary, TRef.ternary, TRef.unary, TRef.quaternary, TRef.toBuf, TRef.ofBuf, cast_eq]
  after_results
  rfl

/-- The first group computes the distances. -/
theorem VA_main_v15 : VA V main_v15 = distNOf (flatOf (V main_arg0)) (V main_arg1) := by
  unfold VA
  simp only [opsA, TRef.binary, TRef.nullary, TRef.ternary, TRef.unary, TRef.quaternary, TRef.toBuf, TRef.ofBuf, cast_eq]
  after_results
  rfl

/-- The second group computes the codes. -/
theorem VB_main_v16 : VB V main_v16 = codesOf (VA V main_v15) := by
  unfold VB
  simp only [opsB, TRef.binary, TRef.nullary, TRef.ternary, TRef.unary, TRef.quaternary, TRef.toBuf, TRef.ofBuf, cast_eq]
  after_results
  rfl

/-- The third group computes the softmax. -/
theorem VC_main_v30 : VC V main_v30 = softOf (VB V main_v15) := by
  unfold VC
  simp only [opsC, TRef.binary, TRef.nullary, TRef.ternary, TRef.unary, TRef.quaternary, TRef.toBuf, TRef.ofBuf, cast_eq]
  after_results
  rfl

/-- The rows looked up at codes that are the words `x0` of the reference lookup. -/
theorem VD_main_v31 (x0 : (⟨Cert.LookupRefIdeal.S4096x1, .i32⟩ : BufTy).Contents (Elt Ideal)) (h : VC V main_v16 = Cert.LookupRefIdeal.Read.val_main_v0 (F := Ideal) x0) :
    VD V main_v31 = Cert.LookupRefIdeal.Read.val_main_v1 (F := Ideal) x0 (VC V main_arg1) := by
  unfold VD
  simp only [opsD, TRef.binary, TRef.nullary, TRef.ternary, TRef.unary, TRef.quaternary, TRef.toBuf, TRef.ofBuf, cast_eq]
  after_results
  rw [h]
  rfl

/-- The last group computes the first result. -/
theorem VE_main_v45 : VE V main_v45 = outOf (VD V main_v1) (VD V main_v31) := by
  unfold VE
  simp only [opsE, TRef.binary, TRef.nullary, TRef.ternary, TRef.unary, TRef.quaternary, TRef.toBuf, TRef.ofBuf, cast_eq]
  after_results
  rfl

/-! ## The run -/

/-- Every run from zero counters ends with every buffer as the stages leave it. -/
theorem runs (m : (ℓ : Loc nD τ sig) → Buf (Elt Ideal) ℓ) (ρ : Dev nD → PrngReg) :
    θ_run (defs (F := Ideal)) (onTc (τ := τ) (main (F := Ideal))) ⟨m, fun _ => 0, ρ⟩ fun r => ∀ (c : Dev nD) (b : Ref sig .tc),
      r.2.mem ((c.tc : Thread nD τ).loc b) = VE (fun b => m (c, b)) b :=
  (θ_run (defs (F := Ideal)) _ _).mono (fun _ h c b => (h c b).trans (congrFun (after_ops _) b))
    (run_seq scopedRefs_eq scopedSems_eq (defs (F := Ideal)) main (fun _ => ops (F := Ideal)) main_eq (fun _ => ops_sub) m ρ)

end Cert.Proof.ReferenceIdealRun

end
-- ==== Proof.ReferenceIdealValue.lean ====
/-
  What the reference returns besides the loss, where the arguments are real numbers.
-/
module

public import proofs.«01_k».proof.Proof.ReferenceIdealRun
public import proofs.«01_k».proof.Proof.RefCodes

@[expose] public section

set_option maxRecDepth 16384

noncomputable section

namespace Cert.Proof.ReferenceIdealRun

open Cert.ReferenceIdeal Cert.ReferenceIdeal.Gen
open Idealize.ShloMosaic Idealize.ShloMosaic.TcCoe Idealize.SL.Sem Idealize.ShloMosaic.StableHlo
open Cert.Proof.RefMath Cert.Proof.RowMath

variable (V : Valuation τ sig (Elt Ideal))

/-- The arguments end as they began. -/
theorem args_eq : VE V main_arg0 = V main_arg0 ∧ VE V main_arg1 = V main_arg1 :=
  ⟨(VE_main_arg0 V).trans ((VD_main_arg0 V).trans ((VC_main_arg0 V).trans ((VB_main_arg0 V).trans (VA_main_arg0 V)))),
    (VE_main_arg1 V).trans ((VD_main_arg1 V).trans ((VC_main_arg1 V).trans ((VB_main_arg1 V).trans (VA_main_arg1 V))))⟩

/-- The rows of the input, at the last two stages. -/
theorem rows_kept : VD V main_v1 = flatOf (V main_arg0) :=
  (VD_main_v1 V).trans ((VC_main_v1 V).trans ((VB_main_v1 V).trans (VA_main_v1 V)))

/-- The table is kept. -/
theorem table_kept : VC V main_arg1 = V main_arg1 := (VC_main_arg1 V).trans ((VB_main_arg1 V).trans (VA_main_arg1 V))

/-- The distances are kept until the softmax takes them. -/
theorem dist_kept : VB V main_v15 = distNOf (flatOf (V main_arg0)) (V main_arg1) := (VB_main_v15 V).trans (VA_main_v15 V)

/-- The codes the third group finds are those of the distances. -/
theorem codes_eq : VC V main_v16 = codesOf (distNOf (flatOf (V main_arg0)) (V main_arg1)) :=
  (VC_main_v16 V).trans ((VB_main_v16 V).trans (congrArg codesOf (VA_main_v15 V)))

section Real
variable (D : Fin 4096 → Fin 8192 → ℝ)
  (hd : ∀ r k, distNOf (flatOf (V main_arg0)) (V main_arg1) (ValueIdx.ix2 r k) = (D r k : EReal))
include hd

/-- The rows looked up are the table's rows at the first least distances. -/
theorem looked_up : VD V main_v31 = fun i => V main_arg1 (ValueIdx.ix2 (first (D (i 0))) (i 1)) := by
  rw [VD_main_v31 V (asColumn (VC V main_v16)) (asColumn_eq _).symm, table_kept]
  exact take_real _ _ (fun r => first (D r)) fun r => by rw [codes_eq]; exact codesOf_real _ D hd r

/-- The probabilities are the softmax of minus twice the distances. -/
theorem prob_real (r : Fin 4096) (k : Fin 8192) : VE V main_v30 (ValueIdx.ix2 r k) = (soft (fun j => -2 * D r j) k : EReal) := by
  rw [VE_main_v30, VD_main_v30, VC_main_v30, dist_kept]
  exact softOf_real _ D hd r k

variable (X : Fin 4096 → Fin 64 → ℝ) (E : Fin 8192 → Fin 64 → ℝ)
  (hz : ∀ r j, flatOf (V main_arg0) (ValueIdx.ix2 r j) = (X r j : EReal)) (he : ∀ k j, V main_arg1 (ValueIdx.ix2 k j) = (E k j : EReal))
include hz he

/-- The output is the rows looked up, in the input's layout. -/
theorem out_real : VE V main_v45 = backOf fun i => V main_arg1 (ValueIdx.ix2 (first (D (i 0))) (i 1)) := by
  rw [VE_main_v45, rows_kept, looked_up V D hd]
  exact outOf_real _ _ X E (fun r => first (D r)) hz fun r j => he _ _

end Real

end Cert.Proof.ReferenceIdealRun

end
-- ==== Proof.Finite.lean ====
/-
  What the preconditions say of the arguments: their entries are real numbers, and the table's rows have one squared norm.
-/
module

public import proofs.«01_k».proof.Proof.Gen.Pre_finite
public import proofs.«01_k».proof.Proof.Gen.Pre_finite_one_norm
public import proofs.«01_k».proof.Proof.RowMath
public import Idealize.ShloMosaic.Lib.ReduceAll
public import Idealize.ShloMosaic.Lib.Pointwise

@[expose] public section

set_option maxRecDepth 16384

noncomputable section

namespace Cert.Proof.Finite

open Idealize.ShloMosaic Idealize.ShloMosaic.TcCoe Idealize.ShloMosaic.StableHlo
open Cert.Proof.RowMath

/-- The literal of the comparison is `⊤`. -/
theorem inf_word : Ideal.ofBits .f32 0x7F800000#32 = (⊤ : EReal) := by
  simp [Ideal.ofBits, Ideal.ieee]

/-- An extended real of absolute value below `⊤` is a real number. -/
theorem real_of_abs (a : EReal) (h : Ideal.cmp .olt (max a (-a)) (Ideal.ofBits .f32 0x7F800000#32) = 1#1) : a = (a.toReal : EReal) := by
  have hl : max a (-a) < ⊤ := by
    rw [inf_word] at h
    by_contra hn
    simp [Ideal.cmp, hn] at h
  refine (EReal.coe_toReal ?_ ?_).symm
  · rintro rfl
    exact absurd hl (by simp)
  · rintro rfl
    exact absurd hl (by simp)

/-- Extended reals that compare equal are equal. -/
theorem eq_of_cmp (a b : EReal) (h : Ideal.cmp .oeq a b = 1#1) : a = b := by
  by_contra hn
  simp [Ideal.cmp, hn] at h

section Reads
open Cert.Pre_finite_one_norm Cert.Pre_finite_one_norm.Gen

/-- The squared norms of the table's rows. -/
def rowNorms (e : FVec Ideal S8192x64 .f32) : FVec Ideal S8192 .f32 :=
  Host.reduceAdd (mulf e e) (constant S_ .f32 0x00000000#32) reducesTo_S8192x64_S8192_d1 h_S_

/-- The first row's squared norm, at every row. -/
def firstNorm (n : FVec Ideal S8192 .f32) : FVec Ideal S8192 .f32 :=
  broadcastInDim S8192 ![0] bcast_S1_S8192_0 (extractStridedSlice S1 ![0] n slices_S8192_S1_0)

/-- A row's squared norm is the sum of the squares of its entries. -/
theorem rowNorms_apply (e : FVec Ideal S8192x64 .f32) (k : Fin 8192) :
    rowNorms e (ValueIdx.ix1 k) = (∑ j : Fin 64, e (ValueIdx.ix2 k j) * e (ValueIdx.ix2 k j) : EReal) := by
  pointwise [rowNorms]
  rfl

/-- At every row the first row's squared norm. -/
theorem firstNorm_apply (n : FVec Ideal S8192 .f32) (k : Fin 8192) : firstNorm n (ValueIdx.ix1 k) = n (ValueIdx.ix1 0) := by
  refine congrArg n (funext fun a => ?_)
  match a with
  | ⟨0, _⟩ => rfl

variable (z : FVec Ideal S4x64x32x32 .f32) (e : FVec Ideal S8192x64 .f32)

/-- The precondition holds where both arguments are finite and all rows have the first row's squared norm. -/
theorem one_norm_split (h : Cert.Pre_finite_one_norm.fn (F := Ideal) z e = fun _ => 1#1) :
    Cert.Pre_finite.fn (F := Ideal) z e = (fun _ => 1#1) ∧ ∀ k, rowNorms e k = firstNorm (rowNorms e) k := by
  haveI : Subsingleton S_.Idx := ⟨fun a b => funext fun k => k.elim0⟩
  have hj : ∀ j, IntOp.andi (Cert.Pre_finite.fn (F := Ideal) z e j)
      (Host.reduce IntOp.andi (cmpf .oeq (rowNorms e) (firstNorm (rowNorms e))) (constantI S_ 1 1#1) reducesTo_S8192_S_d0 h_S_ j) = 1#1 :=
    fun j => congrFun h j
  refine ⟨funext fun j => (IntOp.andi_eq_one.1 (hj j)).1, fun k => ?_⟩
  exact eq_of_cmp _ _ (Host.reduce_andi_all _ _ reducesTo_S8192_S_d0 h_S_ _ (IntOp.andi_eq_one.1 (hj (fun a => a.elim0))).2 k)

end Reads

section Reads
open Cert.Pre_finite Cert.Pre_finite.Gen

variable (z : FVec Ideal S4x64x32x32 .f32) (e : FVec Ideal S8192x64 .f32)

/-- Every entry of both arguments is a real number. -/
theorem finite_real (h : Cert.Pre_finite.fn (F := Ideal) z e = fun _ => 1#1) :
    (∀ i, z i = ((z i).toReal : EReal)) ∧ ∀ i, e i = ((e i).toReal : EReal) := by
  haveI : Subsingleton S_.Idx := ⟨fun a b => funext fun k => k.elim0⟩
  have hj : IntOp.andi
      (Host.reduce IntOp.andi (cmpf .olt (Host.absf z) (broadcastInDim S4x64x32x32 ![] bcast_S_S4x64x32x32 (constant S_ .f32 0x7F800000#32)))
        (constantI S_ 1 1#1) reducesTo_S4x64x32x32_S_d0_1_2_3 h_S_ (fun a => a.elim0))
      (Host.reduce IntOp.andi (cmpf .olt (Host.absf e) (broadcastInDim S8192x64 ![] bcast_S_S8192x64 (constant S_ .f32 0x7F800000#32)))
        (constantI S_ 1 1#1) reducesTo_S8192x64_S_d0_1 h_S_ (fun a => a.elim0)) = 1#1 := congrFun h _
  rw [IntOp.andi_eq_one] at hj
  exact ⟨fun i => real_of_abs _ (Host.reduce_andi_all _ _ reducesTo_S4x64x32x32_S_d0_1_2_3 h_S_ _ hj.1 i),
    fun i => real_of_abs _ (Host.reduce_andi_all _ _ reducesTo_S8192x64_S_d0_1 h_S_ _ hj.2 i)⟩

end Reads

end Cert.Proof.Finite

end
-- ==== Proof.KernelClaims.lean ====
/-
  The claims of the whole program over the reals: its frame, the frames of both references, and its results against each.

  `withoutNorms`: where the arguments are real numbers the three results are those of the reference without the table's
  squared norms. `withNorms`: where besides the table's rows have one squared norm, the first and the third result are
  those of the reference: all distances then differ from the others by that one number, which moves no first least place
  and no softmax.
-/
module

public import proofs.«01_k».proof.Defs
public import proofs.«01_k».proof.Proof.KernelValue
public import proofs.«01_k».proof.Proof.WithoutNormsIdealValue
public import proofs.«01_k».proof.Proof.ReferenceIdealValue
public import proofs.«01_k».proof.Proof.Finite
public import proofs.«01_k».proof.Proof.Gen.On_all_but_the_loss

@[expose] public section

set_option maxRecDepth 16384

noncomputable section

namespace Cert.Proof.KernelClaims

open Idealize.ShloMosaic Idealize.ShloMosaic.TcCoe Idealize.SL.Sem Idealize.ShloMosaic.StableHlo
open Cert.Proof.KernelRun Cert.Proof.KernelBlock Cert.Proof.RefMath Cert.Proof.RowMath

/-! ## Frames -/

/-- The whole program runs over the reals, its arguments end unchanged and every counter ends at zero. -/
theorem frame : Cert.quiescent_KernelIdeal := fun m ρ _ =>
  (θ_run Cert.KernelIdeal.defs _ _).mono
    (fun _ hr => ⟨fun c => ⟨(hr.1 c).1.trans (args_eq m c).1, (hr.1 c).2.1.trans (args_eq m c).2⟩, hr.2⟩)
    (runs (F := Ideal) m ρ (inTable_all m))

/-- The reference runs, its arguments end unchanged; it declares no semaphore. -/
theorem frameReference : Cert.quiescent_ReferenceIdeal := fun m ρ _ =>
  (θ_run Cert.ReferenceIdeal.defs _ _).mono
    (fun r h => ⟨fun c => ⟨(h c _).trans (ReferenceIdealRun.args_eq _).1, (h c _).trans (ReferenceIdealRun.args_eq _).2⟩,
      sem_eq_zero_of_no_sems (by decide) r.2⟩)
    (ReferenceIdealRun.runs m ρ)

/-- The reference without the table's squared norms runs, its arguments end unchanged; it declares no semaphore. -/
theorem frameWithoutNorms : Cert.quiescent_WithoutNormsIdeal := fun m ρ _ =>
  (θ_run Cert.WithoutNormsIdeal.defs _ _).mono
    (fun r h => ⟨fun c => ⟨(h c _).trans (WithoutNormsIdealRun.args_eq _).1, (h c _).trans (WithoutNormsIdealRun.args_eq _).2⟩,
      sem_eq_zero_of_no_sems (by decide) r.2⟩)
    (WithoutNormsIdealRun.runs m ρ)

/-! ## The results -/

section Rows
variable (z : FVec Ideal Cert.WithoutNormsIdeal.S4x64x32x32 .f32) (e : FVec Ideal Cert.WithoutNormsIdeal.S8192x64 .f32)

/-- The rows of the input as real numbers. -/
def rowsR (r : Fin 4096) (j : Fin 64) : ℝ := EReal.toReal (flatOf z (ValueIdx.ix2 r j))

/-- The rows of the table as real numbers. -/
def tableR (k : Fin 8192) (j : Fin 64) : ℝ := EReal.toReal (e (ValueIdx.ix2 k j))

/-- Each entry of the flattened input is an entry of the input. -/
theorem flat_entry (i : Cert.WithoutNormsIdeal.S4096x64.Idx) : ∃ i', flatOf z i = z i' := ⟨_, rfl⟩

variable (h : Cert.Pre_finite.fn (F := Ideal) z e = fun _ => 1#1)
include h

/-- The flattened input's entries are the real numbers `rowsR`. -/
theorem rowsR_eq (r : Fin 4096) (j : Fin 64) : flatOf z (ValueIdx.ix2 r j) = (rowsR z r j : EReal) := by
  obtain ⟨i', hi⟩ := flat_entry z (ValueIdx.ix2 r j)
  unfold rowsR
  rw [hi]
  exact (Finite.finite_real z e h).1 i'

/-- The table's entries are the real numbers `tableR`. -/
theorem tableR_eq (k : Fin 8192) (j : Fin 64) : e (ValueIdx.ix2 k j) = (tableR e k j : EReal) :=
  (Finite.finite_real z e h).2 _

end Rows

/-- Where the precondition holds the table's rows have one squared norm. -/
theorem norms_eq (z : FVec Ideal Cert.WithoutNormsIdeal.S4x64x32x32 .f32) (e : FVec Ideal Cert.WithoutNormsIdeal.S8192x64 .f32)
    (h : Cert.Pre_finite_one_norm.fn (F := Ideal) z e = fun _ => 1#1) (k : Fin 8192) :
    (∑ j, tableR e k j * tableR e k j) = ∑ j, tableR e 0 j * tableR e 0 j := by
  obtain ⟨hf, hn⟩ := Finite.one_norm_split z e h
  have hk : ∀ k, Finite.rowNorms e (ValueIdx.ix1 k) = ((∑ j, tableR e k j * tableR e k j : ℝ) : EReal) := fun k => by
    rw [Finite.rowNorms_apply, coe_sum]
    exact Finset.sum_congr rfl fun j _ => by rw [tableR_eq z e hf, EReal.coe_mul]
  have := hn (ValueIdx.ix1 k)
  rw [Finite.firstNorm_apply, hk, hk] at this
  exact EReal.coe_eq_coe_iff.1 this

/-- A place of the probabilities is its row and its column. -/
theorem eq_ix2P (i : Cert.KernelIdeal.S4096x8192.Idx) : i = ValueIdx.ix2 (i 0) (i 1) := by
  funext a
  match a with
  | ⟨0, _⟩ => rfl
  | ⟨1, _⟩ => rfl

section Results
variable (m : (ℓ : Loc Cert.KernelIdeal.nD Cert.KernelIdeal.τ Cert.KernelIdeal.sig) → Buf (Elt Ideal) ℓ) (c : Dev Cert.KernelIdeal.nD)
  (h : Cert.Pre_finite.fn (F := Ideal) (m (c, a0)) (m (c, a1)) = fun _ => 1#1)
include h

/-- The program's first result: the table's rows at the first least distances, in the input's layout. -/
theorem quantised : V5 m c vQ = backOf fun i => m (c, a1) (ValueIdx.ix2 (first (distR (rowsR (m (c, a0))) (tableR (m (c, a1))) (i 0))) (i 1)) := by
  refine (quant_eq m c).trans ?_
  refine congrArg backOf (funext fun i => ?_)
  exact congrArg (fun k => m (c, a1) (ValueIdx.ix2 k (i 1))) (code_real m _ _ c (rowsR_eq _ _ h) (tableR_eq _ _ h) (i 0))

end Results

/-- The program and the reference without the table's squared norms return the same three results. -/
theorem withoutNorms : Cert.algebraic_KernelIdeal_WithoutNormsIdeal_pre_finite := by
  intro m ρ m' ρ' hpre hagree
  refine ⟨fun c => V5 m c vQ, fun c => V5 m c vL, fun c => V5 m c vP, ?_, ?_⟩
  · exact (θ_run Cert.KernelIdeal.defs _ _).mono
      (fun _ hr c => ⟨(hr.1 c).2.2.1, (hr.1 c).2.2.2.1, (hr.1 c).2.2.2.2, (hr.1 c).1.trans (args_eq m c).1, (hr.1 c).2.1.trans (args_eq m c).2⟩)
      (runs (F := Ideal) m ρ (inTable_all m))
  · refine (θ_run Cert.WithoutNormsIdeal.defs _ _).mono (fun r hr c => ?_) (WithoutNormsIdealRun.runs m' ρ')
    have h : Cert.Pre_finite.fn (F := Ideal) (m (c, a0)) (m (c, a1)) = fun _ => 1#1 := hpre c
    have h0 : m' (c, Cert.WithoutNormsIdeal.main_arg0) = m (c, a0) := (hagree c).1
    have h1 : m' (c, Cert.WithoutNormsIdeal.main_arg1) = m (c, a1) := (hagree c).2
    have hz := rowsR_eq _ _ h
    have he := tableR_eq _ _ h
    have hd := distOf_real _ _ _ _ hz he
    refine ⟨(hr c _).trans ?_, (hr c _).trans ?_, (hr c _).trans ?_, (hr c _).trans (WithoutNormsIdealRun.args_eq _).1,
      (hr c _).trans (WithoutNormsIdealRun.args_eq _).2⟩
    · refine (WithoutNormsIdealRun.out_real _ (distR (rowsR (m (c, a0))) (tableR (m (c, a1)))) (by rw [h0, h1]; exact hd) _ _ (by rw [h0]; exact hz)
        (by rw [h1]; exact he)).trans ?_
      rw [h1]
      exact (quantised m c h).symm
    · funext j
      refine (WithoutNormsIdealRun.loss_real _ (distR (rowsR (m (c, a0))) (tableR (m (c, a1)))) (by rw [h0, h1]; exact hd) _ _ (by rw [h0]; exact hz)
        (by rw [h1]; exact he) j).trans ?_
      exact (loss_real m _ _ c hz he j).symm
    · funext i
      refine Eq.trans (congrArg _ (eq_ix2P i)) ((WithoutNormsIdealRun.prob_real _ (distR (rowsR (m (c, a0))) (tableR (m (c, a1))))
        (by rw [h0, h1]; exact hd) (i 0) (i 1)).trans ?_)
      exact (prob_real m _ _ c hz he i).symm

/-- Where the table's rows have one squared norm the program and the reference return the same first and third result. -/
theorem withNorms : Cert.algebraic_KernelIdeal_ReferenceIdeal_on_all_but_the_loss_pre_finite_one_norm := by
  intro m ρ m' ρ' hpre hagree
  refine ⟨fun c => V5 m c vQ, fun c => V5 m c vL, fun c => V5 m c vP, ?_, ?_⟩
  · exact (θ_run Cert.KernelIdeal.defs _ _).mono
      (fun _ hr c => ⟨fun i _ => congrFun (hr.1 c).2.2.1 i, fun i _ => congrFun (hr.1 c).2.2.2.1 i, fun i _ => congrFun (hr.1 c).2.2.2.2 i,
        (hr.1 c).1.trans (args_eq m c).1, (hr.1 c).2.1.trans (args_eq m c).2⟩)
      (runs (F := Ideal) m ρ (inTable_all m))
  · refine (θ_run Cert.ReferenceIdeal.defs _ _).mono (fun r hr c => ?_) (ReferenceIdealRun.runs m' ρ')
    have hp : Cert.Pre_finite_one_norm.fn (F := Ideal) (m (c, a0)) (m (c, a1)) = fun _ => 1#1 := hpre c
    have h := (Finite.one_norm_split _ _ hp).1
    have h0 : m' (c, Cert.ReferenceIdeal.main_arg0) = m (c, a0) := (hagree c).1
    have h1 : m' (c, Cert.ReferenceIdeal.main_arg1) = m (c, a1) := (hagree c).2
    have hz := rowsR_eq _ _ h
    have he := tableR_eq _ _ h
    generalize hN : (∑ j, tableR (m (c, a1)) 0 j * tableR (m (c, a1)) 0 j) = N
    have hd : ∀ r k, distNOf (flatOf (m (c, a0))) (m (c, a1)) (ValueIdx.ix2 r k)
        = ((distR (rowsR (m (c, a0))) (tableR (m (c, a1))) r k + N : ℝ) : EReal) := fun r k => by
      rw [distNOf_real _ _ _ _ hz he, norms_eq _ _ hp, hN]
    have hfirst : ∀ r, first (fun k => distR (rowsR (m (c, a0))) (tableR (m (c, a1))) r k + N) = first (distR (rowsR (m (c, a0))) (tableR (m (c, a1))) r) :=
      fun r => first_comp _ (fun x => x + N) fun a b hab => by simpa using hab
    refine ⟨fun i _ => (congrFun ((hr c Cert.ReferenceIdeal.main_v45).trans ?_) i), fun i hi => absurd (show (0#1 : BitVec 1) = 1#1 from hi) (by decide),
      fun i _ => (congrFun (hr c Cert.ReferenceIdeal.main_v30) i).trans ?_, (hr c _).trans (ReferenceIdealRun.args_eq _).1, (hr c _).trans (ReferenceIdealRun.args_eq _).2⟩
    · refine (ReferenceIdealRun.out_real _ (fun r k => distR (rowsR (m (c, a0))) (tableR (m (c, a1))) r k + N) (by rw [h0, h1]; exact hd) _ _
        (by rw [h0]; exact hz) (by rw [h1]; exact he)).trans ?_
      rw [h1]
      refine Eq.trans ?_ (quantised m c h).symm
      exact congrArg backOf (funext fun i => congrArg (fun k => m (c, a1) (ValueIdx.ix2 k (i 1))) (hfirst (i 0)))
    · refine Eq.trans (congrArg _ (eq_ix2P i)) ((ReferenceIdealRun.prob_real _ (fun r k => distR (rowsR (m (c, a0))) (tableR (m (c, a1))) r k + N)
        (by rw [h0, h1]; exact hd) (i 0) (i 1)).trans ?_)
      refine Eq.trans ?_ (prob_real m _ _ c hz he i).symm
      refine congrArg (fun x : ℝ => (x : EReal)) (Eq.trans ?_ (soft_sub (fun k => -2 * distR (rowsR (m (c, a0))) (tableR (m (c, a1))) (i 0) k) (2 * N) (i 1)))
      exact congrArg (fun f : Fin 8192 → ℝ => soft f (i 1)) (funext fun k => by ring)

end Cert.Proof.KernelClaims

end
-- ==== Proof.lean ====
/-
  The certificate's claims, put together from the modules under Proof/.
-/
module

public import proofs.«01_k».proof.Defs
public import proofs.«01_k».proof.Proof.Gen.Lookup
public import proofs.«01_k».proof.Proof.Gen.LookupIdeal
public import proofs.«01_k».proof.Proof.Gen.LookupRefIdeal
public import proofs.«01_k».proof.Proof.Gen.LookupRefIdeal.Run
public import proofs.«01_k».proof.Proof.Gen.LookupRefIdeal.Read
public import proofs.«01_k».proof.Proof.Gen.Pre_codes_in_range
public import proofs.«01_k».proof.Proof.LookupClaims
public import proofs.«01_k».proof.Proof.KernelClaims
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Quantise
public import proofs.«01_k».proof.Proof.Gen.Quantise.Frame
public import proofs.«01_k».proof.Proof.Gen.QuantiseIdeal
public import proofs.«01_k».proof.Proof.Gen.QuantiseIdeal.Frame
public import proofs.«01_k».proof.Proof.Gen.QuantiseIdeal.Value
public import proofs.«01_k».proof.Proof.Gen.On_all_but_the_loss
public import proofs.«01_k».proof.Proof.Gen.ReferenceIdeal
public import proofs.«01_k».proof.Proof.Gen.WithoutNormsIdeal
public import proofs.«01_k».proof.Proof.Gen.Pre_finite
public import proofs.«01_k».proof.Proof.Gen.Pre_finite_one_norm

@[expose] public section

noncomputable section

namespace Cert.Proof

/-- Every claim of the certificate. -/
theorem claim : Cert.Claim :=
  ⟨Cert.KernelIdeal.Gen.facts, Cert.ReferenceIdeal.Gen.facts, Cert.WithoutNormsIdeal.Gen.facts, Cert.Quantise.Gen.facts,
    Cert.QuantiseIdeal.Gen.facts, Cert.Lookup.Gen.facts, Cert.LookupIdeal.Gen.facts, Cert.LookupRefIdeal.Gen.facts,
    Cert.Pre_finite.Gen.facts, Cert.Pre_finite_one_norm.Gen.facts, Cert.Pre_codes_in_range.Gen.facts, Cert.On_all_but_the_loss.Gen.facts,
    KernelClaims.frame, fun m ρ _ => KernelClaims.frame m ρ trivial, fun m ρ _ => KernelClaims.frame m ρ trivial,
    KernelClaims.frameReference, fun m ρ _ => KernelClaims.frameReference m ρ trivial,
    KernelClaims.frameWithoutNorms, fun m ρ _ => KernelClaims.frameWithoutNorms m ρ trivial,
    fun m ρ _ => Cert.Quantise.Gen.frame m ρ, fun m ρ _ => Cert.QuantiseIdeal.Gen.frame m ρ,
    LookupClaims.frame, LookupClaims.frameIdeal, LookupClaims.frameRef, fun m ρ _ => LookupClaims.frameRef m ρ trivial,
    KernelClaims.withoutNorms, KernelClaims.withNorms,
    Idealize.ShloMosaic.IdealRules.named_const.statement Cert.QuantiseIdeal.κ "two_log2e" .f32 0x4038AA3B#32 ((2 * (Real.log 2)⁻¹ : ℝ) : EReal) rfl,
    trivial, LookupClaims.algebraic⟩

end Cert.Proof

end
